-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v298)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v298) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x32x32 : Shape := ⟨4, ![32, 1, 32, 32]⟩
abbrev S256x16 : Shape := ⟨2, ![256, 16]⟩
abbrev S256 : Shape := ⟨1, ![256]⟩
abbrev S10x84 : Shape := ⟨2, ![10, 84]⟩
abbrev S10 : Shape := ⟨1, ![10]⟩
abbrev S256x256 : Shape := ⟨2, ![256, 256]⟩
abbrev S25x6 : Shape := ⟨2, ![25, 6]⟩
abbrev S150x16 : Shape := ⟨2, ![150, 16]⟩
abbrev S120x400 : Shape := ⟨2, ![120, 400]⟩
abbrev S84x120 : Shape := ⟨2, ![84, 120]⟩
abbrev S256x6 : Shape := ⟨2, ![256, 6]⟩
abbrev S256x120 : Shape := ⟨2, ![256, 120]⟩
abbrev S256x84 : Shape := ⟨2, ![256, 84]⟩
abbrev S32x32x32 : Shape := ⟨3, ![32, 32, 32]⟩
abbrev S32x32x32x1 : Shape := ⟨4, ![32, 32, 32, 1]⟩
abbrev S29 : Shape := ⟨1, ![29]⟩
abbrev S_ : Shape := ⟨0, ![]⟩
abbrev S29x1 : Shape := ⟨2, ![29, 1]⟩
abbrev S4 : Shape := ⟨1, ![4]⟩
abbrev S1x4 : Shape := ⟨2, ![1, 4]⟩
abbrev S29x4 : Shape := ⟨2, ![29, 4]⟩
abbrev S29x4x1 : Shape := ⟨3, ![29, 4, 1]⟩
abbrev S32x29x4x32x1 : Shape := ⟨5, ![32, 29, 4, 32, 1]⟩
abbrev S32x29x4x29x4x1 : Shape := ⟨6, ![32, 29, 4, 29, 4, 1]⟩
abbrev S32x29x29x4x4x1 : Shape := ⟨6, ![32, 29, 29, 4, 4, 1]⟩
abbrev S32x841x16 : Shape := ⟨3, ![32, 841, 16]⟩
abbrev S32x841x1x16 : Shape := ⟨4, ![32, 841, 1, 16]⟩
abbrev S1x256x16 : Shape := ⟨3, ![1, 256, 16]⟩
abbrev S1x1x256x16 : Shape := ⟨4, ![1, 1, 256, 16]⟩
abbrev S32x841x256x16 : Shape := ⟨4, ![32, 841, 256, 16]⟩
abbrev S32x841x256 : Shape := ⟨3, ![32, 841, 256]⟩
abbrev S32x841 : Shape := ⟨2, ![32, 841]⟩
abbrev S32x29x29 : Shape := ⟨3, ![32, 29, 29]⟩
abbrev S32x29x29x1 : Shape := ⟨4, ![32, 29, 29, 1]⟩
abbrev S13 : Shape := ⟨1, ![13]⟩
abbrev S13x1 : Shape := ⟨2, ![13, 1]⟩
abbrev S5 : Shape := ⟨1, ![5]⟩
abbrev S1x5 : Shape := ⟨2, ![1, 5]⟩
abbrev S13x5 : Shape := ⟨2, ![13, 5]⟩
abbrev S13x5x1 : Shape := ⟨3, ![13, 5, 1]⟩
abbrev S32x13x5x29x1 : Shape := ⟨5, ![32, 13, 5, 29, 1]⟩
abbrev S32x13x5x13x5x1 : Shape := ⟨6, ![32, 13, 5, 13, 5, 1]⟩
abbrev S32x13x13x5x5x1 : Shape := ⟨6, ![32, 13, 13, 5, 5, 1]⟩
abbrev S32x169x25 : Shape := ⟨3, ![32, 169, 25]⟩
abbrev S32x169x1x25 : Shape := ⟨4, ![32, 169, 1, 25]⟩
abbrev S6x25 : Shape := ⟨2, ![6, 25]⟩
abbrev S1x6x25 : Shape := ⟨3, ![1, 6, 25]⟩
abbrev S32x169x6x25 : Shape := ⟨4, ![32, 169, 6, 25]⟩
abbrev S169x6x25 : Shape := ⟨3, ![169, 6, 25]⟩
abbrev S32x169x6x25x1 : Shape := ⟨5, ![32, 169, 6, 25, 1]⟩
abbrev S169x6x25x1 : Shape := ⟨4, ![169, 6, 25, 1]⟩
abbrev S32x169x6x25x2 : Shape := ⟨5, ![32, 169, 6, 25, 2]⟩
abbrev S32x169x6x1 : Shape := ⟨4, ![32, 169, 6, 1]⟩
abbrev S32x169x6 : Shape := ⟨3, ![32, 169, 6]⟩
abbrev S32x169x6x24 : Shape := ⟨4, ![32, 169, 6, 24]⟩
abbrev S32x24x169x6 : Shape := ⟨4, ![32, 24, 169, 6]⟩
abbrev S24x32x169x6 : Shape := ⟨4, ![24, 32, 169, 6]⟩
abbrev S1x32x169x6 : Shape := ⟨4, ![1, 32, 169, 6]⟩
abbrev S32x169x6x2 : Shape := ⟨4, ![32, 169, 6, 2]⟩
abbrev S6 : Shape := ⟨1, ![6]⟩
abbrev S1x6 : Shape := ⟨2, ![1, 6]⟩
abbrev S169x6 : Shape := ⟨2, ![169, 6]⟩
abbrev S169x6x1 : Shape := ⟨3, ![169, 6, 1]⟩
abbrev S32x13x13x6 : Shape := ⟨4, ![32, 13, 13, 6]⟩
abbrev S32x13x13x6x1 : Shape := ⟨5, ![32, 13, 13, 6, 1]⟩
abbrev S5x1 : Shape := ⟨2, ![5, 1]⟩
abbrev S5x5 : Shape := ⟨2, ![5, 5]⟩
abbrev S5x5x1 : Shape := ⟨3, ![5, 5, 1]⟩
abbrev S32x5x5x13x6 : Shape := ⟨5, ![32, 5, 5, 13, 6]⟩
abbrev S32x5x5x5x5x6 : Shape := ⟨6, ![32, 5, 5, 5, 5, 6]⟩
abbrev S32x25x150 : Shape := ⟨3, ![32, 25, 150]⟩
abbrev S32x25x1x150 : Shape := ⟨4, ![32, 25, 1, 150]⟩
abbrev S16x150 : Shape := ⟨2, ![16, 150]⟩
abbrev S1x16x150 : Shape := ⟨3, ![1, 16, 150]⟩
abbrev S32x25x16x150 : Shape := ⟨4, ![32, 25, 16, 150]⟩
abbrev S25x16x150 : Shape := ⟨3, ![25, 16, 150]⟩
abbrev S32x25x16x150x1 : Shape := ⟨5, ![32, 25, 16, 150, 1]⟩
abbrev S25x16x150x1 : Shape := ⟨4, ![25, 16, 150, 1]⟩
abbrev S32x25x16x150x2 : Shape := ⟨5, ![32, 25, 16, 150, 2]⟩
abbrev S32x25x16x1 : Shape := ⟨4, ![32, 25, 16, 1]⟩
abbrev S32x25x16 : Shape := ⟨3, ![32, 25, 16]⟩
abbrev S32x25x16x149 : Shape := ⟨4, ![32, 25, 16, 149]⟩
abbrev S32x149x25x16 : Shape := ⟨4, ![32, 149, 25, 16]⟩
abbrev S149x32x25x16 : Shape := ⟨4, ![149, 32, 25, 16]⟩
abbrev S1x32x25x16 : Shape := ⟨4, ![1, 32, 25, 16]⟩
abbrev S32x25x16x2 : Shape := ⟨4, ![32, 25, 16, 2]⟩
abbrev S16 : Shape := ⟨1, ![16]⟩
abbrev S1x16 : Shape := ⟨2, ![1, 16]⟩
abbrev S25x16 : Shape := ⟨2, ![25, 16]⟩
abbrev S25x16x1 : Shape := ⟨3, ![25, 16, 1]⟩
abbrev S32x5x5x16 : Shape := ⟨4, ![32, 5, 5, 16]⟩
abbrev S32x5x5x16x1 : Shape := ⟨5, ![32, 5, 5, 16, 1]⟩
abbrev S32x16x5x5 : Shape := ⟨4, ![32, 16, 5, 5]⟩
abbrev S32x400 : Shape := ⟨2, ![32, 400]⟩
abbrev S32x1x400 : Shape := ⟨3, ![32, 1, 400]⟩
abbrev S32x120x400 : Shape := ⟨3, ![32, 120, 400]⟩
abbrev S32x120x400x1 : Shape := ⟨4, ![32, 120, 400, 1]⟩
abbrev S120x400x1 : Shape := ⟨3, ![120, 400, 1]⟩
abbrev S32x120x400x2 : Shape := ⟨4, ![32, 120, 400, 2]⟩
abbrev S32x120x1 : Shape := ⟨3, ![32, 120, 1]⟩
abbrev S32x120 : Shape := ⟨2, ![32, 120]⟩
abbrev S32x120x399 : Shape := ⟨3, ![32, 120, 399]⟩
abbrev S32x399x120 : Shape := ⟨3, ![32, 399, 120]⟩
abbrev S399x32x120 : Shape := ⟨3, ![399, 32, 120]⟩
abbrev S1x32x120 : Shape := ⟨3, ![1, 32, 120]⟩
abbrev S32x120x2 : Shape := ⟨3, ![32, 120, 2]⟩
abbrev S120 : Shape := ⟨1, ![120]⟩
abbrev S120x1 : Shape := ⟨2, ![120, 1]⟩
abbrev S32x1x120 : Shape := ⟨3, ![32, 1, 120]⟩
abbrev S32x84x120 : Shape := ⟨3, ![32, 84, 120]⟩
abbrev S32x84x120x1 : Shape := ⟨4, ![32, 84, 120, 1]⟩
abbrev S84x120x1 : Shape := ⟨3, ![84, 120, 1]⟩
abbrev S32x84x120x2 : Shape := ⟨4, ![32, 84, 120, 2]⟩
abbrev S32x84x1 : Shape := ⟨3, ![32, 84, 1]⟩
abbrev S32x84 : Shape := ⟨2, ![32, 84]⟩
abbrev S32x84x119 : Shape := ⟨3, ![32, 84, 119]⟩
abbrev S32x119x84 : Shape := ⟨3, ![32, 119, 84]⟩
abbrev S119x32x84 : Shape := ⟨3, ![119, 32, 84]⟩
abbrev S1x32x84 : Shape := ⟨3, ![1, 32, 84]⟩
abbrev S32x84x2 : Shape := ⟨3, ![32, 84, 2]⟩
abbrev S84 : Shape := ⟨1, ![84]⟩
abbrev S84x1 : Shape := ⟨2, ![84, 1]⟩
abbrev S1x10 : Shape := ⟨2, ![1, 10]⟩
abbrev S32x10 : Shape := ⟨2, ![32, 10]⟩
abbrev S84x10 : Shape := ⟨2, ![84, 10]⟩
abbrev S32 : Shape := ⟨1, ![32]⟩
abbrev S32x1 : Shape := ⟨2, ![32, 1]⟩

abbrev nBuf : Space → Nat
  | .hbm => 500
  | .vmem => 4
  | .smem => 0
  | _ => 0

abbrev hbmTy0_0 (i : Nat) : BufTy := match i % 128 with
  | 0 => ⟨S32x1x32x32, .f32⟩
  | 1 => ⟨S256x16, .f32⟩
  | 2 => ⟨S256, .f32⟩
  | 3 => ⟨S10x84, .f32⟩
  | 4 => ⟨S10, .f32⟩
  | 5 => ⟨S256x256, .i32⟩
  | 6 => ⟨S256x256, .i32⟩
  | 7 => ⟨S256x256, .i32⟩
  | 8 => ⟨S256, .i32⟩
  | 9 => ⟨S25x6, .i32⟩
  | 10 => ⟨S150x16, .i32⟩
  | 11 => ⟨S120x400, .i32⟩
  | 12 => ⟨S84x120, .i32⟩
  | 13 => ⟨S256x6, .i32⟩
  | 14 => ⟨S256x16, .i32⟩
  | 15 => ⟨S256x120, .i32⟩
  | 16 => ⟨S256x84, .i32⟩
  | 17 => ⟨S32x32x32, .f32⟩
  | 18 => ⟨S32x32x32x1, .f32⟩
  | 19 => ⟨S29, .i32⟩
  | 20 => ⟨S_, .i32⟩
  | 21 => ⟨S29, .i32⟩
  | 22 => ⟨S29, .i32⟩
  | 23 => ⟨S29x1, .i32⟩
  | 24 => ⟨S4, .i32⟩
  | 25 => ⟨S1x4, .i32⟩
  | 26 => ⟨S29x4, .i32⟩
  | 27 => ⟨S29x4, .i32⟩
  | 28 => ⟨S29x4, .i32⟩
  | 29 => ⟨S_, .i32⟩
  | 30 => ⟨S29x4, .i32⟩
  | 31 => ⟨S29x4, .i1⟩
  | 32 => ⟨S_, .i32⟩
  | 33 => ⟨S29x4, .i32⟩
  | 34 => ⟨S29x4, .i32⟩
  | 35 => ⟨S29x4, .i32⟩
  | 36 => ⟨S29x4x1, .i32⟩
  | 37 => ⟨S32x29x4x32x1, .f32⟩
  | 38 => ⟨S_, .i32⟩
  | 39 => ⟨S29x4, .i32⟩
  | 40 => ⟨S29x4, .i1⟩
  | 41 => ⟨S_, .i32⟩
  | 42 => ⟨S29x4, .i32⟩
  | 43 => ⟨S29x4, .i32⟩
  | 44 => ⟨S29x4, .i32⟩
  | 45 => ⟨S29x4x1, .i32⟩
  | 46 => ⟨S32x29x4x29x4x1, .f32⟩
  | 47 => ⟨S32x29x29x4x4x1, .f32⟩
  | 48 => ⟨S32x841x16, .f32⟩
  | 49 => ⟨S32x841x1x16, .f32⟩
  | 50 => ⟨S1x256x16, .f32⟩
  | 51 => ⟨S1x1x256x16, .f32⟩
  | 52 => ⟨S32x841x256x16, .f32⟩
  | 53 => ⟨S32x841x256x16, .f32⟩
  | 54 => ⟨S32x841x256x16, .f32⟩
  | 55 => ⟨S32x841x256x16, .f32⟩
  | 56 => ⟨S_, .f32⟩
  | 57 => ⟨S32x841x256, .f32⟩
  | 58 => ⟨S32x841x256, .i32⟩
  | 59 => ⟨S_, .f32⟩
  | 60 => ⟨S_, .i32⟩
  | 61 => ⟨S32x841, .f32⟩
  | 62 => ⟨S32x841, .i32⟩
  | 63 => ⟨S32x29x29, .i32⟩
  | 64 => ⟨S32x29x29x1, .i32⟩
  | 65 => ⟨S13, .i32⟩
  | 66 => ⟨S_, .i32⟩
  | 67 => ⟨S13, .i32⟩
  | 68 => ⟨S13, .i32⟩
  | 69 => ⟨S13x1, .i32⟩
  | 70 => ⟨S5, .i32⟩
  | 71 => ⟨S1x5, .i32⟩
  | 72 => ⟨S13x5, .i32⟩
  | 73 => ⟨S13x5, .i32⟩
  | 74 => ⟨S13x5, .i32⟩
  | 75 => ⟨S_, .i32⟩
  | 76 => ⟨S13x5, .i32⟩
  | 77 => ⟨S13x5, .i1⟩
  | 78 => ⟨S_, .i32⟩
  | 79 => ⟨S13x5, .i32⟩
  | 80 => ⟨S13x5, .i32⟩
  | 81 => ⟨S13x5, .i32⟩
  | 82 => ⟨S13x5x1, .i32⟩
  | 83 => ⟨S32x13x5x29x1, .i32⟩
  | 84 => ⟨S_, .i32⟩
  | 85 => ⟨S13x5, .i32⟩
  | 86 => ⟨S13x5, .i1⟩
  | 87 => ⟨S_, .i32⟩
  | 88 => ⟨S13x5, .i32⟩
  | 89 => ⟨S13x5, .i32⟩
  | 90 => ⟨S13x5, .i32⟩
  | 91 => ⟨S13x5x1, .i32⟩
  | 92 => ⟨S32x13x5x13x5x1, .i32⟩
  | 93 => ⟨S32x13x13x5x5x1, .i32⟩
  | 94 => ⟨S32x169x25, .i32⟩
  | 95 => ⟨S32x169x1x25, .i32⟩
  | 96 => ⟨S6x25, .i32⟩
  | 97 => ⟨S1x6x25, .i32⟩
  | 98 => ⟨S_, .i32⟩
  | 99 => ⟨S32x169x1x25, .i32⟩
  | 100 => ⟨S32x169x1x25, .i1⟩
  | 101 => ⟨S_, .i32⟩
  | 102 => ⟨S32x169x1x25, .i32⟩
  | 103 => ⟨S32x169x1x25, .i32⟩
  | 104 => ⟨S32x169x1x25, .i32⟩
  | 105 => ⟨S_, .i32⟩
  | 106 => ⟨S1x6x25, .i32⟩
  | 107 => ⟨S1x6x25, .i1⟩
  | 108 => ⟨S_, .i32⟩
  | 109 => ⟨S1x6x25, .i32⟩
  | 110 => ⟨S1x6x25, .i32⟩
  | 111 => ⟨S1x6x25, .i32⟩
  | 112 => ⟨S32x169x6x25, .i32⟩
  | 113 => ⟨S169x6x25, .i32⟩
  | 114 => ⟨S32x169x6x25x1, .i32⟩
  | 115 => ⟨S169x6x25x1, .i32⟩
  | 116 => ⟨S32x169x6x25x1, .i32⟩
  | 117 => ⟨S32x169x6x25x2, .i32⟩
  | 118 => ⟨S32x169x6x25, .i32⟩
  | 119 => ⟨S32x169x6x25, .i32⟩
  | 120 => ⟨S32x169x6x1, .i32⟩
  | 121 => ⟨S32x169x6, .i32⟩
  | 122 => ⟨S32x169x6x24, .i32⟩
  | 123 => ⟨S32x24x169x6, .i32⟩
  | 124 => ⟨S24x32x169x6, .i32⟩
  | 125 => ⟨S_, .i32⟩
  | 126 => ⟨S24x32x169x6, .i32⟩
  | 127 => ⟨S256x256, .i32⟩
  | _ => ⟨S32x1x32x32, .f32⟩

abbrev hbmTy0_1 (i : Nat) : BufTy := match i % 128 with
  | 0 => ⟨S_, .i32⟩
  | 1 => ⟨S32x169x6, .i32⟩
  | 2 => ⟨S_, .i32⟩
  | 3 => ⟨S_, .i1⟩
  | 4 => ⟨S_, .i32⟩
  | 5 => ⟨S_, .i32⟩
  | 6 => ⟨S_, .i32⟩
  | 7 => ⟨S1x32x169x6, .i32⟩
  | 8 => ⟨S32x169x6, .i32⟩
  | 9 => ⟨S_, .i32⟩
  | 10 => ⟨S32x169x6, .i32⟩
  | 11 => ⟨S32x169x6, .i1⟩
  | 12 => ⟨S_, .i32⟩
  | 13 => ⟨S32x169x6, .i32⟩
  | 14 => ⟨S32x169x6, .i32⟩
  | 15 => ⟨S32x169x6, .i32⟩
  | 16 => ⟨S_, .i32⟩
  | 17 => ⟨S32x169x6, .i32⟩
  | 18 => ⟨S32x169x6, .i1⟩
  | 19 => ⟨S_, .i32⟩
  | 20 => ⟨S32x169x6, .i32⟩
  | 21 => ⟨S32x169x6, .i32⟩
  | 22 => ⟨S32x169x6, .i32⟩
  | 23 => ⟨S32x169x6x1, .i32⟩
  | 24 => ⟨S32x169x6x1, .i32⟩
  | 25 => ⟨S32x169x6x2, .i32⟩
  | 26 => ⟨S32x169x6, .i32⟩
  | 27 => ⟨S_, .i32⟩
  | 28 => ⟨S_, .i32⟩
  | 29 => ⟨S6, .i32⟩
  | 30 => ⟨S1x6, .i32⟩
  | 31 => ⟨S_, .i32⟩
  | 32 => ⟨S32x169x6, .i32⟩
  | 33 => ⟨S32x169x6, .i1⟩
  | 34 => ⟨S_, .i32⟩
  | 35 => ⟨S32x169x6, .i32⟩
  | 36 => ⟨S32x169x6, .i32⟩
  | 37 => ⟨S32x169x6, .i32⟩
  | 38 => ⟨S_, .i32⟩
  | 39 => ⟨S1x6, .i32⟩
  | 40 => ⟨S1x6, .i1⟩
  | 41 => ⟨S_, .i32⟩
  | 42 => ⟨S1x6, .i32⟩
  | 43 => ⟨S1x6, .i32⟩
  | 44 => ⟨S1x6, .i32⟩
  | 45 => ⟨S169x6, .i32⟩
  | 46 => ⟨S32x169x6x1, .i32⟩
  | 47 => ⟨S169x6x1, .i32⟩
  | 48 => ⟨S32x169x6x1, .i32⟩
  | 49 => ⟨S32x169x6x2, .i32⟩
  | 50 => ⟨S32x169x6, .i32⟩
  | 51 => ⟨S32x13x13x6, .i32⟩
  | 52 => ⟨S_, .i32⟩
  | 53 => ⟨S32x13x13x6, .i32⟩
  | 54 => ⟨S32x13x13x6, .i1⟩
  | 55 => ⟨S_, .i32⟩
  | 56 => ⟨S32x13x13x6, .i32⟩
  | 57 => ⟨S32x13x13x6, .i32⟩
  | 58 => ⟨S32x13x13x6, .i32⟩
  | 59 => ⟨S32x13x13x6x1, .i32⟩
  | 60 => ⟨S32x13x13x6, .i32⟩
  | 61 => ⟨S5, .i32⟩
  | 62 => ⟨S_, .i32⟩
  | 63 => ⟨S5, .i32⟩
  | 64 => ⟨S5, .i32⟩
  | 65 => ⟨S5x1, .i32⟩
  | 66 => ⟨S5, .i32⟩
  | 67 => ⟨S1x5, .i32⟩
  | 68 => ⟨S5x5, .i32⟩
  | 69 => ⟨S5x5, .i32⟩
  | 70 => ⟨S5x5, .i32⟩
  | 71 => ⟨S_, .i32⟩
  | 72 => ⟨S5x5, .i32⟩
  | 73 => ⟨S5x5, .i1⟩
  | 74 => ⟨S_, .i32⟩
  | 75 => ⟨S5x5, .i32⟩
  | 76 => ⟨S5x5, .i32⟩
  | 77 => ⟨S5x5, .i32⟩
  | 78 => ⟨S5x5x1, .i32⟩
  | 79 => ⟨S32x5x5x13x6, .i32⟩
  | 80 => ⟨S_, .i32⟩
  | 81 => ⟨S5x5, .i32⟩
  | 82 => ⟨S5x5, .i1⟩
  | 83 => ⟨S_, .i32⟩
  | 84 => ⟨S5x5, .i32⟩
  | 85 => ⟨S5x5, .i32⟩
  | 86 => ⟨S5x5, .i32⟩
  | 87 => ⟨S5x5x1, .i32⟩
  | 88 => ⟨S32x5x5x5x5x6, .i32⟩
  | 89 => ⟨S32x5x5x5x5x6, .i32⟩
  | 90 => ⟨S32x25x150, .i32⟩
  | 91 => ⟨S32x25x1x150, .i32⟩
  | 92 => ⟨S16x150, .i32⟩
  | 93 => ⟨S1x16x150, .i32⟩
  | 94 => ⟨S_, .i32⟩
  | 95 => ⟨S32x25x1x150, .i32⟩
  | 96 => ⟨S32x25x1x150, .i1⟩
  | 97 => ⟨S_, .i32⟩
  | 98 => ⟨S32x25x1x150, .i32⟩
  | 99 => ⟨S32x25x1x150, .i32⟩
  | 100 => ⟨S32x25x1x150, .i32⟩
  | 101 => ⟨S_, .i32⟩
  | 102 => ⟨S1x16x150, .i32⟩
  | 103 => ⟨S1x16x150, .i1⟩
  | 104 => ⟨S_, .i32⟩
  | 105 => ⟨S1x16x150, .i32⟩
  | 106 => ⟨S1x16x150, .i32⟩
  | 107 => ⟨S1x16x150, .i32⟩
  | 108 => ⟨S32x25x16x150, .i32⟩
  | 109 => ⟨S25x16x150, .i32⟩
  | 110 => ⟨S32x25x16x150x1, .i32⟩
  | 111 => ⟨S25x16x150x1, .i32⟩
  | 112 => ⟨S32x25x16x150x1, .i32⟩
  | 113 => ⟨S32x25x16x150x2, .i32⟩
  | 114 => ⟨S32x25x16x150, .i32⟩
  | 115 => ⟨S32x25x16x150, .i32⟩
  | 116 => ⟨S32x25x16x1, .i32⟩
  | 117 => ⟨S32x25x16, .i32⟩
  | 118 => ⟨S32x25x16x149, .i32⟩
  | 119 => ⟨S32x149x25x16, .i32⟩
  | 120 => ⟨S149x32x25x16, .i32⟩
  | 121 => ⟨S_, .i32⟩
  | 122 => ⟨S149x32x25x16, .i32⟩
  | 123 => ⟨S256x256, .i32⟩
  | 124 => ⟨S_, .i32⟩
  | 125 => ⟨S32x25x16, .i32⟩
  | 126 => ⟨S_, .i32⟩
  | 127 => ⟨S_, .i1⟩
  | _ => ⟨S32x1x32x32, .f32⟩

abbrev hbmTy0_2 (i : Nat) : BufTy := match i % 128 with
  | 0 => ⟨S_, .i32⟩
  | 1 => ⟨S_, .i32⟩
  | 2 => ⟨S_, .i32⟩
  | 3 => ⟨S1x32x25x16, .i32⟩
  | 4 => ⟨S32x25x16, .i32⟩
  | 5 => ⟨S_, .i32⟩
  | 6 => ⟨S32x25x16, .i32⟩
  | 7 => ⟨S32x25x16, .i1⟩
  | 8 => ⟨S_, .i32⟩
  | 9 => ⟨S32x25x16, .i32⟩
  | 10 => ⟨S32x25x16, .i32⟩
  | 11 => ⟨S32x25x16, .i32⟩
  | 12 => ⟨S_, .i32⟩
  | 13 => ⟨S32x25x16, .i32⟩
  | 14 => ⟨S32x25x16, .i1⟩
  | 15 => ⟨S_, .i32⟩
  | 16 => ⟨S32x25x16, .i32⟩
  | 17 => ⟨S32x25x16, .i32⟩
  | 18 => ⟨S32x25x16, .i32⟩
  | 19 => ⟨S32x25x16x1, .i32⟩
  | 20 => ⟨S32x25x16x1, .i32⟩
  | 21 => ⟨S32x25x16x2, .i32⟩
  | 22 => ⟨S32x25x16, .i32⟩
  | 23 => ⟨S_, .i32⟩
  | 24 => ⟨S_, .i32⟩
  | 25 => ⟨S16, .i32⟩
  | 26 => ⟨S1x16, .i32⟩
  | 27 => ⟨S_, .i32⟩
  | 28 => ⟨S32x25x16, .i32⟩
  | 29 => ⟨S32x25x16, .i1⟩
  | 30 => ⟨S_, .i32⟩
  | 31 => ⟨S32x25x16, .i32⟩
  | 32 => ⟨S32x25x16, .i32⟩
  | 33 => ⟨S32x25x16, .i32⟩
  | 34 => ⟨S_, .i32⟩
  | 35 => ⟨S1x16, .i32⟩
  | 36 => ⟨S1x16, .i1⟩
  | 37 => ⟨S_, .i32⟩
  | 38 => ⟨S1x16, .i32⟩
  | 39 => ⟨S1x16, .i32⟩
  | 40 => ⟨S1x16, .i32⟩
  | 41 => ⟨S25x16, .i32⟩
  | 42 => ⟨S32x25x16x1, .i32⟩
  | 43 => ⟨S25x16x1, .i32⟩
  | 44 => ⟨S32x25x16x1, .i32⟩
  | 45 => ⟨S32x25x16x2, .i32⟩
  | 46 => ⟨S32x25x16, .i32⟩
  | 47 => ⟨S32x5x5x16, .i32⟩
  | 48 => ⟨S_, .i32⟩
  | 49 => ⟨S32x5x5x16, .i32⟩
  | 50 => ⟨S32x5x5x16, .i1⟩
  | 51 => ⟨S_, .i32⟩
  | 52 => ⟨S32x5x5x16, .i32⟩
  | 53 => ⟨S32x5x5x16, .i32⟩
  | 54 => ⟨S32x5x5x16, .i32⟩
  | 55 => ⟨S32x5x5x16x1, .i32⟩
  | 56 => ⟨S32x5x5x16, .i32⟩
  | 57 => ⟨S32x16x5x5, .i32⟩
  | 58 => ⟨S32x400, .i32⟩
  | 59 => ⟨S32x1x400, .i32⟩
  | 60 => ⟨S_, .i32⟩
  | 61 => ⟨S32x1x400, .i32⟩
  | 62 => ⟨S32x1x400, .i1⟩
  | 63 => ⟨S_, .i32⟩
  | 64 => ⟨S32x1x400, .i32⟩
  | 65 => ⟨S32x1x400, .i32⟩
  | 66 => ⟨S32x1x400, .i32⟩
  | 67 => ⟨S_, .i32⟩
  | 68 => ⟨S120x400, .i32⟩
  | 69 => ⟨S120x400, .i1⟩
  | 70 => ⟨S_, .i32⟩
  | 71 => ⟨S120x400, .i32⟩
  | 72 => ⟨S120x400, .i32⟩
  | 73 => ⟨S120x400, .i32⟩
  | 74 => ⟨S32x120x400, .i32⟩
  | 75 => ⟨S32x120x400x1, .i32⟩
  | 76 => ⟨S120x400x1, .i32⟩
  | 77 => ⟨S32x120x400x1, .i32⟩
  | 78 => ⟨S32x120x400x2, .i32⟩
  | 79 => ⟨S32x120x400, .i32⟩
  | 80 => ⟨S32x120x400, .i32⟩
  | 81 => ⟨S32x120x1, .i32⟩
  | 82 => ⟨S32x120, .i32⟩
  | 83 => ⟨S32x120x399, .i32⟩
  | 84 => ⟨S32x399x120, .i32⟩
  | 85 => ⟨S399x32x120, .i32⟩
  | 86 => ⟨S_, .i32⟩
  | 87 => ⟨S399x32x120, .i32⟩
  | 88 => ⟨S256x256, .i32⟩
  | 89 => ⟨S_, .i32⟩
  | 90 => ⟨S32x120, .i32⟩
  | 91 => ⟨S_, .i32⟩
  | 92 => ⟨S_, .i1⟩
  | 93 => ⟨S_, .i32⟩
  | 94 => ⟨S_, .i32⟩
  | 95 => ⟨S1x32x120, .i32⟩
  | 96 => ⟨S32x120, .i32⟩
  | 97 => ⟨S_, .i32⟩
  | 98 => ⟨S32x120, .i32⟩
  | 99 => ⟨S32x120, .i1⟩
  | 100 => ⟨S_, .i32⟩
  | 101 => ⟨S32x120, .i32⟩
  | 102 => ⟨S32x120, .i32⟩
  | 103 => ⟨S32x120, .i32⟩
  | 104 => ⟨S_, .i32⟩
  | 105 => ⟨S32x120, .i32⟩
  | 106 => ⟨S32x120, .i1⟩
  | 107 => ⟨S_, .i32⟩
  | 108 => ⟨S32x120, .i32⟩
  | 109 => ⟨S32x120, .i32⟩
  | 110 => ⟨S32x120, .i32⟩
  | 111 => ⟨S32x120x1, .i32⟩
  | 112 => ⟨S32x120x1, .i32⟩
  | 113 => ⟨S32x120x2, .i32⟩
  | 114 => ⟨S32x120, .i32⟩
  | 115 => ⟨S_, .i32⟩
  | 116 => ⟨S_, .i32⟩
  | 117 => ⟨S120, .i32⟩
  | 118 => ⟨S_, .i32⟩
  | 119 => ⟨S32x120, .i32⟩
  | 120 => ⟨S32x120, .i1⟩
  | 121 => ⟨S_, .i32⟩
  | 122 => ⟨S32x120, .i32⟩
  | 123 => ⟨S32x120, .i32⟩
  | 124 => ⟨S32x120, .i32⟩
  | 125 => ⟨S_, .i32⟩
  | 126 => ⟨S120, .i32⟩
  | 127 => ⟨S120, .i1⟩
  | _ => ⟨S32x1x32x32, .f32⟩

abbrev hbmTy0_3 (i : Nat) : BufTy := match i % 128 with
  | 0 => ⟨S_, .i32⟩
  | 1 => ⟨S120, .i32⟩
  | 2 => ⟨S120, .i32⟩
  | 3 => ⟨S120, .i32⟩
  | 4 => ⟨S32x120x1, .i32⟩
  | 5 => ⟨S120x1, .i32⟩
  | 6 => ⟨S32x120x1, .i32⟩
  | 7 => ⟨S32x120x2, .i32⟩
  | 8 => ⟨S32x120, .i32⟩
  | 9 => ⟨S_, .i32⟩
  | 10 => ⟨S32x120, .i32⟩
  | 11 => ⟨S32x120, .i1⟩
  | 12 => ⟨S_, .i32⟩
  | 13 => ⟨S32x120, .i32⟩
  | 14 => ⟨S32x120, .i32⟩
  | 15 => ⟨S32x120, .i32⟩
  | 16 => ⟨S32x120x1, .i32⟩
  | 17 => ⟨S32x120, .i32⟩
  | 18 => ⟨S32x1x120, .i32⟩
  | 19 => ⟨S_, .i32⟩
  | 20 => ⟨S32x1x120, .i32⟩
  | 21 => ⟨S32x1x120, .i1⟩
  | 22 => ⟨S_, .i32⟩
  | 23 => ⟨S32x1x120, .i32⟩
  | 24 => ⟨S32x1x120, .i32⟩
  | 25 => ⟨S32x1x120, .i32⟩
  | 26 => ⟨S_, .i32⟩
  | 27 => ⟨S84x120, .i32⟩
  | 28 => ⟨S84x120, .i1⟩
  | 29 => ⟨S_, .i32⟩
  | 30 => ⟨S84x120, .i32⟩
  | 31 => ⟨S84x120, .i32⟩
  | 32 => ⟨S84x120, .i32⟩
  | 33 => ⟨S32x84x120, .i32⟩
  | 34 => ⟨S32x84x120x1, .i32⟩
  | 35 => ⟨S84x120x1, .i32⟩
  | 36 => ⟨S32x84x120x1, .i32⟩
  | 37 => ⟨S32x84x120x2, .i32⟩
  | 38 => ⟨S32x84x120, .i32⟩
  | 39 => ⟨S32x84x120, .i32⟩
  | 40 => ⟨S32x84x1, .i32⟩
  | 41 => ⟨S32x84, .i32⟩
  | 42 => ⟨S32x84x119, .i32⟩
  | 43 => ⟨S32x119x84, .i32⟩
  | 44 => ⟨S119x32x84, .i32⟩
  | 45 => ⟨S_, .i32⟩
  | 46 => ⟨S119x32x84, .i32⟩
  | 47 => ⟨S256x256, .i32⟩
  | 48 => ⟨S_, .i32⟩
  | 49 => ⟨S32x84, .i32⟩
  | 50 => ⟨S_, .i32⟩
  | 51 => ⟨S_, .i1⟩
  | 52 => ⟨S_, .i32⟩
  | 53 => ⟨S_, .i32⟩
  | 54 => ⟨S1x32x84, .i32⟩
  | 55 => ⟨S32x84, .i32⟩
  | 56 => ⟨S_, .i32⟩
  | 57 => ⟨S32x84, .i32⟩
  | 58 => ⟨S32x84, .i1⟩
  | 59 => ⟨S_, .i32⟩
  | 60 => ⟨S32x84, .i32⟩
  | 61 => ⟨S32x84, .i32⟩
  | 62 => ⟨S32x84, .i32⟩
  | 63 => ⟨S_, .i32⟩
  | 64 => ⟨S32x84, .i32⟩
  | 65 => ⟨S32x84, .i1⟩
  | 66 => ⟨S_, .i32⟩
  | 67 => ⟨S32x84, .i32⟩
  | 68 => ⟨S32x84, .i32⟩
  | 69 => ⟨S32x84, .i32⟩
  | 70 => ⟨S32x84x1, .i32⟩
  | 71 => ⟨S32x84x1, .i32⟩
  | 72 => ⟨S32x84x2, .i32⟩
  | 73 => ⟨S32x84, .i32⟩
  | 74 => ⟨S_, .i32⟩
  | 75 => ⟨S_, .i32⟩
  | 76 => ⟨S84, .i32⟩
  | 77 => ⟨S_, .i32⟩
  | 78 => ⟨S32x84, .i32⟩
  | 79 => ⟨S32x84, .i1⟩
  | 80 => ⟨S_, .i32⟩
  | 81 => ⟨S32x84, .i32⟩
  | 82 => ⟨S32x84, .i32⟩
  | 83 => ⟨S32x84, .i32⟩
  | 84 => ⟨S_, .i32⟩
  | 85 => ⟨S84, .i32⟩
  | 86 => ⟨S84, .i1⟩
  | 87 => ⟨S_, .i32⟩
  | 88 => ⟨S84, .i32⟩
  | 89 => ⟨S84, .i32⟩
  | 90 => ⟨S84, .i32⟩
  | 91 => ⟨S32x84x1, .i32⟩
  | 92 => ⟨S84x1, .i32⟩
  | 93 => ⟨S32x84x1, .i32⟩
  | 94 => ⟨S32x84x2, .i32⟩
  | 95 => ⟨S32x84, .i32⟩
  | 96 => ⟨S_, .i32⟩
  | 97 => ⟨S32x84, .i32⟩
  | 98 => ⟨S32x84, .i1⟩
  | 99 => ⟨S_, .i32⟩
  | 100 => ⟨S32x84, .i32⟩
  | 101 => ⟨S32x84, .i32⟩
  | 102 => ⟨S32x84, .i32⟩
  | 103 => ⟨S32x84x1, .i32⟩
  | 104 => ⟨S32x84, .i32⟩
  | 105 => ⟨S_, .i32⟩
  | 106 => ⟨S32x84, .i32⟩
  | 107 => ⟨S32x84, .i1⟩
  | 108 => ⟨S_, .i32⟩
  | 109 => ⟨S32x84, .i32⟩
  | 110 => ⟨S32x84, .i32⟩
  | 111 => ⟨S32x84, .i32⟩
  | 112 => ⟨S32x84x1, .i32⟩
  | 113 => ⟨S32x84, .f32⟩
  | 114 => ⟨S1x10, .f32⟩
  | 115 => ⟨S32x10, .f32⟩
  | _ => ⟨S32x1x32x32, .f32⟩

abbrev hbmTy (i : Nat) : BufTy := match i / 128 with
  | 0 => hbmTy0_0 i
  | 1 => hbmTy0_1 i
  | 2 => hbmTy0_2 i
  | 3 => hbmTy0_3 i
  | _ => ⟨S32x1x32x32, .f32⟩

abbrev bufTy : (tb : Table) → Fin (tcTables nBuf tb) → BufTy
  | .hbm, ⟨i, _⟩ => hbmTy i
  | .local _ .vmem, ⟨0, _⟩ => ⟨S32x84, .f32⟩
  | .local _ .vmem, ⟨1, _⟩ => ⟨S10x84, .f32⟩
  | .local _ .vmem, ⟨2, _⟩ => ⟨S1x10, .f32⟩
  | .local _ .vmem, ⟨3, _⟩ => ⟨S32x10, .f32⟩
  | _, _ => ⟨S32x1x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_call0_v0 : Ref sig .tc := ⟨.hbm, 58, rfl⟩
abbrev main_call0_cst : Ref sig .tc := ⟨.hbm, 59, rfl⟩
abbrev main_call0_c : Ref sig .tc := ⟨.hbm, 60, rfl⟩
abbrev main_call0_v1_0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_5 : Ref sig .tc := ⟨.hbm, 75, rfl⟩
abbrev main_v47 : Ref sig .tc := ⟨.hbm, 76, rfl⟩
abbrev main_v48 : Ref sig .tc := ⟨.hbm, 77, rfl⟩
abbrev main_c_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_7 : Ref sig .tc := ⟨.hbm, 84, rfl⟩
abbrev main_v54 : Ref sig .tc := ⟨.hbm, 85, rfl⟩
abbrev main_v55 : Ref sig .tc := ⟨.hbm, 86, rfl⟩
abbrev main_c_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_9 : Ref sig .tc := ⟨.hbm, 98, rfl⟩
abbrev main_v66 : Ref sig .tc := ⟨.hbm, 99, rfl⟩
abbrev main_v67 : Ref sig .tc := ⟨.hbm, 100, rfl⟩
abbrev main_c_10 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_11 : Ref sig .tc := ⟨.hbm, 105, rfl⟩
abbrev main_v71 : Ref sig .tc := ⟨.hbm, 106, rfl⟩
abbrev main_v72 : Ref sig .tc := ⟨.hbm, 107, rfl⟩
abbrev main_c_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_13 : Ref sig .tc := ⟨.hbm, 125, rfl⟩
abbrev main_v89_0 : Ref sig .tc := ⟨.hbm, 126, rfl⟩
abbrev main_v89_1 : Ref sig .tc := ⟨.hbm, 127, rfl⟩
abbrev main_v89_2 : Ref sig .tc := ⟨.hbm, 128, rfl⟩
abbrev main_v89_3 : Ref sig .tc := ⟨.hbm, 129, rfl⟩
abbrev main_while0c_c_63 : Ref sig .tc := ⟨.hbm, 130, rfl⟩
abbrev main_while0c_v299 : Ref sig .tc := ⟨.hbm, 131, rfl⟩
abbrev main_while0b_call2_c : Ref sig .tc := ⟨.hbm, 132, rfl⟩
abbrev main_while0b_call2_c_0 : Ref sig .tc := ⟨.hbm, 133, rfl⟩
abbrev main_while0b_call2_c_1 : Ref sig .tc := ⟨.hbm, 134, rfl⟩
abbrev main_while0b_call2_v0 : Ref sig .tc := ⟨.hbm, 135, rfl⟩
abbrev main_while0b_v299 : Ref sig .tc := ⟨.hbm, 136, rfl⟩
abbrev main_while0b_c_63 : Ref sig .tc := ⟨.hbm, 137, rfl⟩
abbrev main_while0b_v300 : Ref sig .tc := ⟨.hbm, 138, rfl⟩
abbrev main_while0b_v301 : Ref sig .tc := ⟨.hbm, 139, rfl⟩
abbrev main_while0b_c_64 : Ref sig .tc := ⟨.hbm, 140, rfl⟩
abbrev main_while0b_v302 : Ref sig .tc := ⟨.hbm, 141, rfl⟩
abbrev main_while0b_v303 : Ref sig .tc := ⟨.hbm, 142, rfl⟩
abbrev main_while0b_v304 : Ref sig .tc := ⟨.hbm, 143, rfl⟩
abbrev main_while0b_c_65 : Ref sig .tc := ⟨.hbm, 144, rfl⟩
abbrev main_while0b_v305 : Ref sig .tc := ⟨.hbm, 145, rfl⟩
abbrev main_while0b_v306 : Ref sig .tc := ⟨.hbm, 146, rfl⟩
abbrev main_while0b_c_66 : Ref sig .tc := ⟨.hbm, 147, rfl⟩
abbrev main_while0b_v307 : Ref sig .tc := ⟨.hbm, 148, rfl⟩
abbrev main_while0b_v308 : Ref sig .tc := ⟨.hbm, 149, rfl⟩
abbrev main_while0b_v309 : Ref sig .tc := ⟨.hbm, 150, rfl⟩
abbrev main_while0b_v310 : Ref sig .tc := ⟨.hbm, 151, rfl⟩
abbrev main_while0b_v311 : Ref sig .tc := ⟨.hbm, 152, rfl⟩
abbrev main_while0b_v312 : Ref sig .tc := ⟨.hbm, 153, rfl⟩
abbrev main_while0b_v313 : Ref sig .tc := ⟨.hbm, 154, rfl⟩
abbrev main_while0b_c_67 : Ref sig .tc := ⟨.hbm, 155, rfl⟩
abbrev main_while0b_v314 : Ref sig .tc := ⟨.hbm, 156, rfl⟩
abbrev main_v90 : Ref sig .tc := ⟨.hbm, 157, rfl⟩
abbrev main_v91 : Ref sig .tc := ⟨.hbm, 158, rfl⟩
abbrev main_c_14 : Ref sig .tc := ⟨.hbm, 159, rfl⟩
abbrev main_v92 : Ref sig .tc := ⟨.hbm, 160, rfl⟩
abbrev main_v93 : Ref sig .tc := ⟨.hbm, 161, rfl⟩
abbrev main_c_15 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_c_16 : Ref sig .tc := ⟨.hbm, 166, rfl⟩
abbrev main_v97 : Ref sig .tc := ⟨.hbm, 167, rfl⟩
abbrev main_v98 : Ref sig .tc := ⟨.hbm, 168, rfl⟩
abbrev main_c_17 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_c_18 : Ref sig .tc := ⟨.hbm, 180, rfl⟩
abbrev main_v109 : Ref sig .tc := ⟨.hbm, 181, rfl⟩
abbrev main_v110 : Ref sig .tc := ⟨.hbm, 182, rfl⟩
abbrev main_c_19 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_c_20 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_c_21 : Ref sig .tc := ⟨.hbm, 199, rfl⟩
abbrev main_v125 : Ref sig .tc := ⟨.hbm, 200, rfl⟩
abbrev main_v126 : Ref sig .tc := ⟨.hbm, 201, rfl⟩
abbrev main_c_22 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_c_23 : Ref sig .tc := ⟨.hbm, 208, rfl⟩
abbrev main_v132 : Ref sig .tc := ⟨.hbm, 209, rfl⟩
abbrev main_v133 : Ref sig .tc := ⟨.hbm, 210, rfl⟩
abbrev main_c_24 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_c_25 : Ref sig .tc := ⟨.hbm, 222, rfl⟩
abbrev main_v144 : Ref sig .tc := ⟨.hbm, 223, rfl⟩
abbrev main_v145 : Ref sig .tc := ⟨.hbm, 224, rfl⟩
abbrev main_c_26 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_c_27 : Ref sig .tc := ⟨.hbm, 229, rfl⟩
abbrev main_v149 : Ref sig .tc := ⟨.hbm, 230, rfl⟩
abbrev main_v150 : Ref sig .tc := ⟨.hbm, 231, rfl⟩
abbrev main_c_28 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_c_29 : Ref sig .tc := ⟨.hbm, 249, rfl⟩
abbrev main_v167_0 : Ref sig .tc := ⟨.hbm, 250, rfl⟩
abbrev main_v167_1 : Ref sig .tc := ⟨.hbm, 251, rfl⟩
abbrev main_v167_2 : Ref sig .tc := ⟨.hbm, 252, rfl⟩
abbrev main_v167_3 : Ref sig .tc := ⟨.hbm, 253, rfl⟩
abbrev main_while1c_c_63 : Ref sig .tc := ⟨.hbm, 254, rfl⟩
abbrev main_while1c_v299 : Ref sig .tc := ⟨.hbm, 255, rfl⟩
abbrev main_while1b_call4_c : Ref sig .tc := ⟨.hbm, 256, rfl⟩
abbrev main_while1b_call4_c_0 : Ref sig .tc := ⟨.hbm, 257, rfl⟩
abbrev main_while1b_call4_c_1 : Ref sig .tc := ⟨.hbm, 258, rfl⟩
abbrev main_while1b_call4_v0 : Ref sig .tc := ⟨.hbm, 259, rfl⟩
abbrev main_while1b_v299 : Ref sig .tc := ⟨.hbm, 260, rfl⟩
abbrev main_while1b_c_63 : Ref sig .tc := ⟨.hbm, 261, rfl⟩
abbrev main_while1b_v300 : Ref sig .tc := ⟨.hbm, 262, rfl⟩
abbrev main_while1b_v301 : Ref sig .tc := ⟨.hbm, 263, rfl⟩
abbrev main_while1b_c_64 : Ref sig .tc := ⟨.hbm, 264, rfl⟩
abbrev main_while1b_v302 : Ref sig .tc := ⟨.hbm, 265, rfl⟩
abbrev main_while1b_v303 : Ref sig .tc := ⟨.hbm, 266, rfl⟩
abbrev main_while1b_v304 : Ref sig .tc := ⟨.hbm, 267, rfl⟩
abbrev main_while1b_c_65 : Ref sig .tc := ⟨.hbm, 268, rfl⟩
abbrev main_while1b_v305 : Ref sig .tc := ⟨.hbm, 269, rfl⟩
abbrev main_while1b_v306 : Ref sig .tc := ⟨.hbm, 270, rfl⟩
abbrev main_while1b_c_66 : Ref sig .tc := ⟨.hbm, 271, rfl⟩
abbrev main_while1b_v307 : Ref sig .tc := ⟨.hbm, 272, rfl⟩
abbrev main_while1b_v308 : Ref sig .tc := ⟨.hbm, 273, rfl⟩
abbrev main_while1b_v309 : Ref sig .tc := ⟨.hbm, 274, rfl⟩
abbrev main_while1b_v310 : Ref sig .tc := ⟨.hbm, 275, rfl⟩
abbrev main_while1b_v311 : Ref sig .tc := ⟨.hbm, 276, rfl⟩
abbrev main_while1b_v312 : Ref sig .tc := ⟨.hbm, 277, rfl⟩
abbrev main_while1b_v313 : Ref sig .tc := ⟨.hbm, 278, rfl⟩
abbrev main_while1b_c_67 : Ref sig .tc := ⟨.hbm, 279, rfl⟩
abbrev main_while1b_v314 : Ref sig .tc := ⟨.hbm, 280, rfl⟩
abbrev main_v168 : Ref sig .tc := ⟨.hbm, 281, rfl⟩
abbrev main_v169 : Ref sig .tc := ⟨.hbm, 282, rfl⟩
abbrev main_c_30 : Ref sig .tc := ⟨.hbm, 283, rfl⟩
abbrev main_v170 : Ref sig .tc := ⟨.hbm, 284, rfl⟩
abbrev main_v171 : Ref sig .tc := ⟨.hbm, 285, rfl⟩
abbrev main_c_31 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_c_32 : Ref sig .tc := ⟨.hbm, 290, rfl⟩
abbrev main_v175 : Ref sig .tc := ⟨.hbm, 291, rfl⟩
abbrev main_v176 : Ref sig .tc := ⟨.hbm, 292, rfl⟩
abbrev main_c_33 : Ref sig .tc := ⟨.hbm, 293, rfl⟩
abbrev main_v177 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_c_34 : Ref sig .tc := ⟨.hbm, 304, rfl⟩
abbrev main_v187 : Ref sig .tc := ⟨.hbm, 305, rfl⟩
abbrev main_v188 : Ref sig .tc := ⟨.hbm, 306, rfl⟩
abbrev main_c_35 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_v196 : Ref sig .tc := ⟨.hbm, 315, rfl⟩
abbrev main_c_36 : Ref sig .tc := ⟨.hbm, 316, rfl⟩
abbrev main_v197 : Ref sig .tc := ⟨.hbm, 317, rfl⟩
abbrev main_v198 : Ref sig .tc := ⟨.hbm, 318, rfl⟩
abbrev main_c_37 : Ref sig .tc := ⟨.hbm, 319, rfl⟩
abbrev main_v199 : Ref sig .tc := ⟨.hbm, 320, rfl⟩
abbrev main_v200 : Ref sig .tc := ⟨.hbm, 321, rfl⟩
abbrev main_v201 : Ref sig .tc := ⟨.hbm, 322, rfl⟩
abbrev main_c_38 : Ref sig .tc := ⟨.hbm, 323, rfl⟩
abbrev main_v202 : Ref sig .tc := ⟨.hbm, 324, rfl⟩
abbrev main_v203 : Ref sig .tc := ⟨.hbm, 325, rfl⟩
abbrev main_c_39 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_v216 : Ref sig .tc := ⟨.hbm, 339, rfl⟩
abbrev main_v217 : Ref sig .tc := ⟨.hbm, 340, rfl⟩
abbrev main_v218 : Ref sig .tc := ⟨.hbm, 341, rfl⟩
abbrev main_c_40 : Ref sig .tc := ⟨.hbm, 342, rfl⟩
abbrev main_v219_0 : Ref sig .tc := ⟨.hbm, 343, rfl⟩
abbrev main_v219_1 : Ref sig .tc := ⟨.hbm, 344, rfl⟩
abbrev main_v219_2 : Ref sig .tc := ⟨.hbm, 345, rfl⟩
abbrev main_v219_3 : Ref sig .tc := ⟨.hbm, 346, rfl⟩
abbrev main_while2c_c_63 : Ref sig .tc := ⟨.hbm, 347, rfl⟩
abbrev main_while2c_v299 : Ref sig .tc := ⟨.hbm, 348, rfl⟩
abbrev main_while2b_call6_c : Ref sig .tc := ⟨.hbm, 349, rfl⟩
abbrev main_while2b_call6_c_0 : Ref sig .tc := ⟨.hbm, 350, rfl⟩
abbrev main_while2b_call6_v0 : Ref sig .tc := ⟨.hbm, 351, rfl⟩
abbrev main_while2b_v299 : Ref sig .tc := ⟨.hbm, 352, rfl⟩
abbrev main_while2b_c_63 : Ref sig .tc := ⟨.hbm, 353, rfl⟩
abbrev main_while2b_v300 : Ref sig .tc := ⟨.hbm, 354, rfl⟩
abbrev main_while2b_v301 : Ref sig .tc := ⟨.hbm, 355, rfl⟩
abbrev main_while2b_c_64 : Ref sig .tc := ⟨.hbm, 356, rfl⟩
abbrev main_while2b_v302 : Ref sig .tc := ⟨.hbm, 357, rfl⟩
abbrev main_while2b_v303 : Ref sig .tc := ⟨.hbm, 358, rfl⟩
abbrev main_while2b_v304 : Ref sig .tc := ⟨.hbm, 359, rfl⟩
abbrev main_while2b_c_65 : Ref sig .tc := ⟨.hbm, 360, rfl⟩
abbrev main_while2b_v305 : Ref sig .tc := ⟨.hbm, 361, rfl⟩
abbrev main_while2b_v306 : Ref sig .tc := ⟨.hbm, 362, rfl⟩
abbrev main_while2b_c_66 : Ref sig .tc := ⟨.hbm, 363, rfl⟩
abbrev main_while2b_v307 : Ref sig .tc := ⟨.hbm, 364, rfl⟩
abbrev main_while2b_v308 : Ref sig .tc := ⟨.hbm, 365, rfl⟩
abbrev main_while2b_v309 : Ref sig .tc := ⟨.hbm, 366, rfl⟩
abbrev main_while2b_v310 : Ref sig .tc := ⟨.hbm, 367, rfl⟩
abbrev main_while2b_v311 : Ref sig .tc := ⟨.hbm, 368, rfl⟩
abbrev main_while2b_v312 : Ref sig .tc := ⟨.hbm, 369, rfl⟩
abbrev main_while2b_v313 : Ref sig .tc := ⟨.hbm, 370, rfl⟩
abbrev main_while2b_c_67 : Ref sig .tc := ⟨.hbm, 371, rfl⟩
abbrev main_while2b_v314 : Ref sig .tc := ⟨.hbm, 372, rfl⟩
abbrev main_v220 : Ref sig .tc := ⟨.hbm, 373, rfl⟩
abbrev main_c_41 : Ref sig .tc := ⟨.hbm, 374, rfl⟩
abbrev main_v221 : Ref sig .tc := ⟨.hbm, 375, rfl⟩
abbrev main_v222 : Ref sig .tc := ⟨.hbm, 376, rfl⟩
abbrev main_c_42 : Ref sig .tc := ⟨.hbm, 377, rfl⟩
abbrev main_v223 : Ref sig .tc := ⟨.hbm, 378, rfl⟩
abbrev main_v224 : Ref sig .tc := ⟨.hbm, 379, rfl⟩
abbrev main_v225 : Ref sig .tc := ⟨.hbm, 380, rfl⟩
abbrev main_c_43 : Ref sig .tc := ⟨.hbm, 381, rfl⟩
abbrev main_v226 : Ref sig .tc := ⟨.hbm, 382, rfl⟩
abbrev main_v227 : Ref sig .tc := ⟨.hbm, 383, rfl⟩
abbrev main_c_44 : Ref sig .tc := ⟨.hbm, 384, rfl⟩
abbrev main_v228 : Ref sig .tc := ⟨.hbm, 385, rfl⟩
abbrev main_v229 : Ref sig .tc := ⟨.hbm, 386, rfl⟩
abbrev main_v230 : Ref sig .tc := ⟨.hbm, 387, rfl⟩
abbrev main_v231 : Ref sig .tc := ⟨.hbm, 388, rfl⟩
abbrev main_v232 : Ref sig .tc := ⟨.hbm, 389, rfl⟩
abbrev main_v233 : Ref sig .tc := ⟨.hbm, 390, rfl⟩
abbrev main_v234 : Ref sig .tc := ⟨.hbm, 391, rfl⟩
abbrev main_v235 : Ref sig .tc := ⟨.hbm, 392, rfl⟩
abbrev main_c_45 : Ref sig .tc := ⟨.hbm, 393, rfl⟩
abbrev main_v236 : Ref sig .tc := ⟨.hbm, 394, rfl⟩
abbrev main_v237 : Ref sig .tc := ⟨.hbm, 395, rfl⟩
abbrev main_c_46 : Ref sig .tc := ⟨.hbm, 396, rfl⟩
abbrev main_v238 : Ref sig .tc := ⟨.hbm, 397, rfl⟩
abbrev main_v239 : Ref sig .tc := ⟨.hbm, 398, rfl⟩
abbrev main_v240 : Ref sig .tc := ⟨.hbm, 399, rfl⟩
abbrev main_v241 : Ref sig .tc := ⟨.hbm, 400, rfl⟩
abbrev main_v242 : Ref sig .tc := ⟨.hbm, 401, rfl⟩
abbrev main_v243 : Ref sig .tc := ⟨.hbm, 402, rfl⟩
abbrev main_c_47 : Ref sig .tc := ⟨.hbm, 403, rfl⟩
abbrev main_v244 : Ref sig .tc := ⟨.hbm, 404, rfl⟩
abbrev main_v245 : Ref sig .tc := ⟨.hbm, 405, rfl⟩
abbrev main_c_48 : Ref sig .tc := ⟨.hbm, 406, rfl⟩
abbrev main_v246 : Ref sig .tc := ⟨.hbm, 407, rfl⟩
abbrev main_v247 : Ref sig .tc := ⟨.hbm, 408, rfl⟩
abbrev main_v248 : Ref sig .tc := ⟨.hbm, 409, rfl⟩
abbrev main_c_49 : Ref sig .tc := ⟨.hbm, 410, rfl⟩
abbrev main_v249 : Ref sig .tc := ⟨.hbm, 411, rfl⟩
abbrev main_v250 : Ref sig .tc := ⟨.hbm, 412, rfl⟩
abbrev main_c_50 : Ref sig .tc := ⟨.hbm, 413, rfl⟩
abbrev main_v251 : Ref sig .tc := ⟨.hbm, 414, rfl⟩
abbrev main_v252 : Ref sig .tc := ⟨.hbm, 415, rfl⟩
abbrev main_v253 : Ref sig .tc := ⟨.hbm, 416, rfl⟩
abbrev main_v254 : Ref sig .tc := ⟨.hbm, 417, rfl⟩
abbrev main_v255 : Ref sig .tc := ⟨.hbm, 418, rfl⟩
abbrev main_v256 : Ref sig .tc := ⟨.hbm, 419, rfl⟩
abbrev main_v257 : Ref sig .tc := ⟨.hbm, 420, rfl⟩
abbrev main_v258 : Ref sig .tc := ⟨.hbm, 421, rfl⟩
abbrev main_v259 : Ref sig .tc := ⟨.hbm, 422, rfl⟩
abbrev main_v260 : Ref sig .tc := ⟨.hbm, 423, rfl⟩
abbrev main_v261 : Ref sig .tc := ⟨.hbm, 424, rfl⟩
abbrev main_v262 : Ref sig .tc := ⟨.hbm, 425, rfl⟩
abbrev main_v263 : Ref sig .tc := ⟨.hbm, 426, rfl⟩
abbrev main_v264 : Ref sig .tc := ⟨.hbm, 427, rfl⟩
abbrev main_v265 : Ref sig .tc := ⟨.hbm, 428, rfl⟩
abbrev main_c_51 : Ref sig .tc := ⟨.hbm, 429, rfl⟩
abbrev main_v266_0 : Ref sig .tc := ⟨.hbm, 430, rfl⟩
abbrev main_v266_1 : Ref sig .tc := ⟨.hbm, 431, rfl⟩
abbrev main_v266_2 : Ref sig .tc := ⟨.hbm, 432, rfl⟩
abbrev main_v266_3 : Ref sig .tc := ⟨.hbm, 433, rfl⟩
abbrev main_while3c_c_63 : Ref sig .tc := ⟨.hbm, 434, rfl⟩
abbrev main_while3c_v299 : Ref sig .tc := ⟨.hbm, 435, rfl⟩
abbrev main_while3b_call8_c : Ref sig .tc := ⟨.hbm, 436, rfl⟩
abbrev main_while3b_call8_c_0 : Ref sig .tc := ⟨.hbm, 437, rfl⟩
abbrev main_while3b_call8_v0 : Ref sig .tc := ⟨.hbm, 438, rfl⟩
abbrev main_while3b_v299 : Ref sig .tc := ⟨.hbm, 439, rfl⟩
abbrev main_while3b_c_63 : Ref sig .tc := ⟨.hbm, 440, rfl⟩
abbrev main_while3b_v300 : Ref sig .tc := ⟨.hbm, 441, rfl⟩
abbrev main_while3b_v301 : Ref sig .tc := ⟨.hbm, 442, rfl⟩
abbrev main_while3b_c_64 : Ref sig .tc := ⟨.hbm, 443, rfl⟩
abbrev main_while3b_v302 : Ref sig .tc := ⟨.hbm, 444, rfl⟩
abbrev main_while3b_v303 : Ref sig .tc := ⟨.hbm, 445, rfl⟩
abbrev main_while3b_v304 : Ref sig .tc := ⟨.hbm, 446, rfl⟩
abbrev main_while3b_c_65 : Ref sig .tc := ⟨.hbm, 447, rfl⟩
abbrev main_while3b_v305 : Ref sig .tc := ⟨.hbm, 448, rfl⟩
abbrev main_while3b_v306 : Ref sig .tc := ⟨.hbm, 449, rfl⟩
abbrev main_while3b_c_66 : Ref sig .tc := ⟨.hbm, 450, rfl⟩
abbrev main_while3b_v307 : Ref sig .tc := ⟨.hbm, 451, rfl⟩
abbrev main_while3b_v308 : Ref sig .tc := ⟨.hbm, 452, rfl⟩
abbrev main_while3b_v309 : Ref sig .tc := ⟨.hbm, 453, rfl⟩
abbrev main_while3b_v310 : Ref sig .tc := ⟨.hbm, 454, rfl⟩
abbrev main_while3b_v311 : Ref sig .tc := ⟨.hbm, 455, rfl⟩
abbrev main_while3b_v312 : Ref sig .tc := ⟨.hbm, 456, rfl⟩
abbrev main_while3b_v313 : Ref sig .tc := ⟨.hbm, 457, rfl⟩
abbrev main_while3b_c_67 : Ref sig .tc := ⟨.hbm, 458, rfl⟩
abbrev main_while3b_v314 : Ref sig .tc := ⟨.hbm, 459, rfl⟩
abbrev main_v267 : Ref sig .tc := ⟨.hbm, 460, rfl⟩
abbrev main_c_52 : Ref sig .tc := ⟨.hbm, 461, rfl⟩
abbrev main_v268 : Ref sig .tc := ⟨.hbm, 462, rfl⟩
abbrev main_v269 : Ref sig .tc := ⟨.hbm, 463, rfl⟩
abbrev main_c_53 : Ref sig .tc := ⟨.hbm, 464, rfl⟩
abbrev main_v270 : Ref sig .tc := ⟨.hbm, 465, rfl⟩
abbrev main_v271 : Ref sig .tc := ⟨.hbm, 466, rfl⟩
abbrev main_v272 : Ref sig .tc := ⟨.hbm, 467, rfl⟩
abbrev main_c_54 : Ref sig .tc := ⟨.hbm, 468, rfl⟩
abbrev main_v273 : Ref sig .tc := ⟨.hbm, 469, rfl⟩
abbrev main_v274 : Ref sig .tc := ⟨.hbm, 470, rfl⟩
abbrev main_c_55 : Ref sig .tc := ⟨.hbm, 471, rfl⟩
abbrev main_v275 : Ref sig .tc := ⟨.hbm, 472, rfl⟩
abbrev main_v276 : Ref sig .tc := ⟨.hbm, 473, rfl⟩
abbrev main_v277 : Ref sig .tc := ⟨.hbm, 474, rfl⟩
abbrev main_v278 : Ref sig .tc := ⟨.hbm, 475, rfl⟩
abbrev main_v279 : Ref sig .tc := ⟨.hbm, 476, rfl⟩
abbrev main_v280 : Ref sig .tc := ⟨.hbm, 477, rfl⟩
abbrev main_v281 : Ref sig .tc := ⟨.hbm, 478, rfl⟩
abbrev main_v282 : Ref sig .tc := ⟨.hbm, 479, rfl⟩
abbrev main_c_56 : Ref sig .tc := ⟨.hbm, 480, rfl⟩
abbrev main_v283 : Ref sig .tc := ⟨.hbm, 481, rfl⟩
abbrev main_v284 : Ref sig .tc := ⟨.hbm, 482, rfl⟩
abbrev main_c_57 : Ref sig .tc := ⟨.hbm, 483, rfl⟩
abbrev main_v285 : Ref sig .tc := ⟨.hbm, 484, rfl⟩
abbrev main_v286 : Ref sig .tc := ⟨.hbm, 485, rfl⟩
abbrev main_v287 : Ref sig .tc := ⟨.hbm, 486, rfl⟩
abbrev main_v288 : Ref sig .tc := ⟨.hbm, 487, rfl⟩
abbrev main_v289 : Ref sig .tc := ⟨.hbm, 488, rfl⟩
abbrev main_c_58 : Ref sig .tc := ⟨.hbm, 489, rfl⟩
abbrev main_v290 : Ref sig .tc := ⟨.hbm, 490, rfl⟩
abbrev main_v291 : Ref sig .tc := ⟨.hbm, 491, rfl⟩
abbrev main_c_59 : Ref sig .tc := ⟨.hbm, 492, rfl⟩
abbrev main_v292 : Ref sig .tc := ⟨.hbm, 493, rfl⟩
abbrev main_v293 : Ref sig .tc := ⟨.hbm, 494, rfl⟩
abbrev main_v294 : Ref sig .tc := ⟨.hbm, 495, rfl⟩
abbrev main_v295 : Ref sig .tc := ⟨.hbm, 496, rfl⟩
abbrev main_v296 : Ref sig .tc := ⟨.hbm, 497, rfl⟩
abbrev main_v297 : Ref sig .tc := ⟨.hbm, 498, rfl⟩
abbrev main_v298 : Ref sig .tc := ⟨.hbm, 499, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev main_while0_count : Scf.Loop 32 := ⟨0#32, 24#32, 1#32⟩

abbrev main_while1_count : Scf.Loop 32 := ⟨0#32, 149#32, 1#32⟩

abbrev main_while2_count : Scf.Loop 32 := ⟨0#32, 399#32, 1#32⟩

abbrev main_while3_count : Scf.Loop 32 := ⟨0#32, 119#32, 1#32⟩

abbrev grid0 : Pipeline.Grid := .none

abbrev stage0_0 : Fin 1 → Memref sig .tc .vmem S32x84 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x84 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32x1x32x32 : Shape := ⟨4, ![32, 1, 32, 32]⟩
abbrev S256x16 : Shape := ⟨2, ![256, 16]⟩
abbrev S256 : Shape := ⟨1, ![256]⟩
abbrev S10x84 : Shape := ⟨2, ![10, 84]⟩
abbrev S10 : Shape := ⟨1, ![10]⟩
abbrev S256x256 : Shape := ⟨2, ![256, 256]⟩
abbrev S25x6 : Shape := ⟨2, ![25, 6]⟩
abbrev S150x16 : Shape := ⟨2, ![150, 16]⟩
abbrev S120x400 : Shape := ⟨2, ![120, 400]⟩
abbrev S84x120 : Shape := ⟨2, ![84, 120]⟩
abbrev S256x6 : Shape := ⟨2, ![256, 6]⟩
abbrev S256x120 : Shape := ⟨2, ![256, 120]⟩
abbrev S256x84 : Shape := ⟨2, ![256, 84]⟩
abbrev S32x32x32 : Shape := ⟨3, ![32, 32, 32]⟩
abbrev S32x32x32x1 : Shape := ⟨4, ![32, 32, 32, 1]⟩
abbrev S29 : Shape := ⟨1, ![29]⟩
abbrev S_ : Shape := ⟨0, ![]⟩
abbrev S29x1 : Shape := ⟨2, ![29, 1]⟩
abbrev S4 : Shape := ⟨1, ![4]⟩
abbrev S1x4 : Shape := ⟨2, ![1, 4]⟩
abbrev S29x4 : Shape := ⟨2, ![29, 4]⟩
abbrev S29x4x1 : Shape := ⟨3, ![29, 4, 1]⟩
abbrev S32x29x4x32x1 : Shape := ⟨5, ![32, 29, 4, 32, 1]⟩
abbrev S32x29x4x29x4x1 : Shape := ⟨6, ![32, 29, 4, 29, 4, 1]⟩
abbrev S32x29x29x4x4x1 : Shape := ⟨6, ![32, 29, 29, 4, 4, 1]⟩
abbrev S32x841x16 : Shape := ⟨3, ![32, 841, 16]⟩
abbrev S32x841x1x16 : Shape := ⟨4, ![32, 841, 1, 16]⟩
abbrev S1x256x16 : Shape := ⟨3, ![1, 256, 16]⟩
abbrev S1x1x256x16 : Shape := ⟨4, ![1, 1, 256, 16]⟩
abbrev S32x841x256x16 : Shape := ⟨4, ![32, 841, 256, 16]⟩
abbrev S32x841x256 : Shape := ⟨3, ![32, 841, 256]⟩
abbrev S32x841 : Shape := ⟨2, ![32, 841]⟩
abbrev S32x29x29 : Shape := ⟨3, ![32, 29, 29]⟩
abbrev S32x29x29x1 : Shape := ⟨4, ![32, 29, 29, 1]⟩
abbrev S13 : Shape := ⟨1, ![13]⟩
abbrev S13x1 : Shape := ⟨2, ![13, 1]⟩
abbrev S5 : Shape := ⟨1, ![5]⟩
abbrev S1x5 : Shape := ⟨2, ![1, 5]⟩
abbrev S13x5 : Shape := ⟨2, ![13, 5]⟩
abbrev S13x5x1 : Shape := ⟨3, ![13, 5, 1]⟩
abbrev S32x13x5x29x1 : Shape := ⟨5, ![32, 13, 5, 29, 1]⟩
abbrev S32x13x5x13x5x1 : Shape := ⟨6, ![32, 13, 5, 13, 5, 1]⟩
abbrev S32x13x13x5x5x1 : Shape := ⟨6, ![32, 13, 13, 5, 5, 1]⟩
abbrev S32x169x25 : Shape := ⟨3, ![32, 169, 25]⟩
abbrev S32x169x1x25 : Shape := ⟨4, ![32, 169, 1, 25]⟩
abbrev S6x25 : Shape := ⟨2, ![6, 25]⟩
abbrev S1x6x25 : Shape := ⟨3, ![1, 6, 25]⟩
abbrev S32x169x6x25 : Shape := ⟨4, ![32, 169, 6, 25]⟩
abbrev S169x6x25 : Shape := ⟨3, ![169, 6, 25]⟩
abbrev S32x169x6x25x1 : Shape := ⟨5, ![32, 169, 6, 25, 1]⟩
abbrev S169x6x25x1 : Shape := ⟨4, ![169, 6, 25, 1]⟩
abbrev S32x169x6x25x2 : Shape := ⟨5, ![32, 169, 6, 25, 2]⟩
abbrev S32x169x6x1 : Shape := ⟨4, ![32, 169, 6, 1]⟩
abbrev S32x169x6 : Shape := ⟨3, ![32, 169, 6]⟩
abbrev S32x169x6x24 : Shape := ⟨4, ![32, 169, 6, 24]⟩
abbrev S32x24x169x6 : Shape := ⟨4, ![32, 24, 169, 6]⟩
abbrev S24x32x169x6 : Shape := ⟨4, ![24, 32, 169, 6]⟩
abbrev S1x32x169x6 : Shape := ⟨4, ![1, 32, 169, 6]⟩
abbrev S32x169x6x2 : Shape := ⟨4, ![32, 169, 6, 2]⟩
abbrev S6 : Shape := ⟨1, ![6]⟩
abbrev S1x6 : Shape := ⟨2, ![1, 6]⟩
abbrev S169x6 : Shape := ⟨2, ![169, 6]⟩
abbrev S169x6x1 : Shape := ⟨3, ![169, 6, 1]⟩
abbrev S32x13x13x6 : Shape := ⟨4, ![32, 13, 13, 6]⟩
abbrev S32x13x13x6x1 : Shape := ⟨5, ![32, 13, 13, 6, 1]⟩
abbrev S5x1 : Shape := ⟨2, ![5, 1]⟩
abbrev S5x5 : Shape := ⟨2, ![5, 5]⟩
abbrev S5x5x1 : Shape := ⟨3, ![5, 5, 1]⟩
abbrev S32x5x5x13x6 : Shape := ⟨5, ![32, 5, 5, 13, 6]⟩
abbrev S32x5x5x5x5x6 : Shape := ⟨6, ![32, 5, 5, 5, 5, 6]⟩
abbrev S32x25x150 : Shape := ⟨3, ![32, 25, 150]⟩
abbrev S32x25x1x150 : Shape := ⟨4, ![32, 25, 1, 150]⟩
abbrev S16x150 : Shape := ⟨2, ![16, 150]⟩
abbrev S1x16x150 : Shape := ⟨3, ![1, 16, 150]⟩
abbrev S32x25x16x150 : Shape := ⟨4, ![32, 25, 16, 150]⟩
abbrev S25x16x150 : Shape := ⟨3, ![25, 16, 150]⟩
abbrev S32x25x16x150x1 : Shape := ⟨5, ![32, 25, 16, 150, 1]⟩
abbrev S25x16x150x1 : Shape := ⟨4, ![25, 16, 150, 1]⟩
abbrev S32x25x16x150x2 : Shape := ⟨5, ![32, 25, 16, 150, 2]⟩
abbrev S32x25x16x1 : Shape := ⟨4, ![32, 25, 16, 1]⟩
abbrev S32x25x16 : Shape := ⟨3, ![32, 25, 16]⟩
abbrev S32x25x16x149 : Shape := ⟨4, ![32, 25, 16, 149]⟩
abbrev S32x149x25x16 : Shape := ⟨4, ![32, 149, 25, 16]⟩
abbrev S149x32x25x16 : Shape := ⟨4, ![149, 32, 25, 16]⟩
abbrev S1x32x25x16 : Shape := ⟨4, ![1, 32, 25, 16]⟩
abbrev S32x25x16x2 : Shape := ⟨4, ![32, 25, 16, 2]⟩
abbrev S16 : Shape := ⟨1, ![16]⟩
abbrev S1x16 : Shape := ⟨2, ![1, 16]⟩
abbrev S25x16 : Shape := ⟨2, ![25, 16]⟩
abbrev S25x16x1 : Shape := ⟨3, ![25, 16, 1]⟩
abbrev S32x5x5x16 : Shape := ⟨4, ![32, 5, 5, 16]⟩
abbrev S32x5x5x16x1 : Shape := ⟨5, ![32, 5, 5, 16, 1]⟩
abbrev S32x16x5x5 : Shape := ⟨4, ![32, 16, 5, 5]⟩
abbrev S32x400 : Shape := ⟨2, ![32, 400]⟩
abbrev S32x1x400 : Shape := ⟨3, ![32, 1, 400]⟩
abbrev S32x120x400 : Shape := ⟨3, ![32, 120, 400]⟩
abbrev S32x120x400x1 : Shape := ⟨4, ![32, 120, 400, 1]⟩
abbrev S120x400x1 : Shape := ⟨3, ![120, 400, 1]⟩
abbrev S32x120x400x2 : Shape := ⟨4, ![32, 120, 400, 2]⟩
abbrev S32x120x1 : Shape := ⟨3, ![32, 120, 1]⟩
abbrev S32x120 : Shape := ⟨2, ![32, 120]⟩
abbrev S32x120x399 : Shape := ⟨3, ![32, 120, 399]⟩
abbrev S32x399x120 : Shape := ⟨3, ![32, 399, 120]⟩
abbrev S399x32x120 : Shape := ⟨3, ![399, 32, 120]⟩
abbrev S1x32x120 : Shape := ⟨3, ![1, 32, 120]⟩
abbrev S32x120x2 : Shape := ⟨3, ![32, 120, 2]⟩
abbrev S120 : Shape := ⟨1, ![120]⟩
abbrev S120x1 : Shape := ⟨2, ![120, 1]⟩
abbrev S32x1x120 : Shape := ⟨3, ![32, 1, 120]⟩
abbrev S32x84x120 : Shape := ⟨3, ![32, 84, 120]⟩
abbrev S32x84x120x1 : Shape := ⟨4, ![32, 84, 120, 1]⟩
abbrev S84x120x1 : Shape := ⟨3, ![84, 120, 1]⟩
abbrev S32x84x120x2 : Shape := ⟨4, ![32, 84, 120, 2]⟩
abbrev S32x84x1 : Shape := ⟨3, ![32, 84, 1]⟩
abbrev S32x84 : Shape := ⟨2, ![32, 84]⟩
abbrev S32x84x119 : Shape := ⟨3, ![32, 84, 119]⟩
abbrev S32x119x84 : Shape := ⟨3, ![32, 119, 84]⟩
abbrev S119x32x84 : Shape := ⟨3, ![119, 32, 84]⟩
abbrev S1x32x84 : Shape := ⟨3, ![1, 32, 84]⟩
abbrev S32x84x2 : Shape := ⟨3, ![32, 84, 2]⟩
abbrev S84 : Shape := ⟨1, ![84]⟩
abbrev S84x1 : Shape := ⟨2, ![84, 1]⟩
abbrev S84x10 : Shape := ⟨2, ![84, 10]⟩
abbrev S32x10 : Shape := ⟨2, ![32, 10]⟩
abbrev S1x10 : Shape := ⟨2, ![1, 10]⟩
abbrev S32 : Shape := ⟨1, ![32]⟩
abbrev S32x1 : Shape := ⟨2, ![32, 1]⟩

abbrev nBuf : Space → Nat
  | .hbm => 517
  | .vmem => 0
  | .smem => 0
  | _ => 0

abbrev hbmTy0_0 (i : Nat) : BufTy := match i % 128 with
  | 0 => ⟨S32x1x32x32, .f32⟩
  | 1 => ⟨S256x16, .f32⟩
  | 2 => ⟨S256, .f32⟩
  | 3 => ⟨S10x84, .f32⟩
  | 4 => ⟨S10, .f32⟩
  | 5 => ⟨S256x256, .i32⟩
  | 6 => ⟨S256x256, .i32⟩
  | 7 => ⟨S256x256, .i32⟩
  | 8 => ⟨S256, .i32⟩
  | 9 => ⟨S25x6, .i32⟩
  | 10 => ⟨S150x16, .i32⟩
  | 11 => ⟨S120x400, .i32⟩
  | 12 => ⟨S84x120, .i32⟩
  | 13 => ⟨S256x6, .i32⟩
  | 14 => ⟨S256x16, .i32⟩
  | 15 => ⟨S256x120, .i32⟩
  | 16 => ⟨S256x84, .i32⟩
  | 17 => ⟨S32x32x32, .f32⟩
  | 18 => ⟨S32x32x32x1, .f32⟩
  | 19 => ⟨S29, .i32⟩
  | 20 => ⟨S_, .i32⟩
  | 21 => ⟨S29, .i32⟩
  | 22 => ⟨S29, .i32⟩
  | 23 => ⟨S29x1, .i32⟩
  | 24 => ⟨S4, .i32⟩
  | 25 => ⟨S1x4, .i32⟩
  | 26 => ⟨S29x4, .i32⟩
  | 27 => ⟨S29x4, .i32⟩
  | 28 => ⟨S29x4, .i32⟩
  | 29 => ⟨S_, .i32⟩
  | 30 => ⟨S29x4, .i32⟩
  | 31 => ⟨S29x4, .i1⟩
  | 32 => ⟨S_, .i32⟩
  | 33 => ⟨S29x4, .i32⟩
  | 34 => ⟨S29x4, .i32⟩
  | 35 => ⟨S29x4, .i32⟩
  | 36 => ⟨S29x4x1, .i32⟩
  | 37 => ⟨S32x29x4x32x1, .f32⟩
  | 38 => ⟨S_, .i32⟩
  | 39 => ⟨S29x4, .i32⟩
  | 40 => ⟨S29x4, .i1⟩
  | 41 => ⟨S_, .i32⟩
  | 42 => ⟨S29x4, .i32⟩
  | 43 => ⟨S29x4, .i32⟩
  | 44 => ⟨S29x4, .i32⟩
  | 45 => ⟨S29x4x1, .i32⟩
  | 46 => ⟨S32x29x4x29x4x1, .f32⟩
  | 47 => ⟨S32x29x29x4x4x1, .f32⟩
  | 48 => ⟨S32x841x16, .f32⟩
  | 49 => ⟨S32x841x1x16, .f32⟩
  | 50 => ⟨S1x256x16, .f32⟩
  | 51 => ⟨S1x1x256x16, .f32⟩
  | 52 => ⟨S32x841x256x16, .f32⟩
  | 53 => ⟨S32x841x256x16, .f32⟩
  | 54 => ⟨S32x841x256x16, .f32⟩
  | 55 => ⟨S32x841x256x16, .f32⟩
  | 56 => ⟨S_, .f32⟩
  | 57 => ⟨S32x841x256, .f32⟩
  | 58 => ⟨S32x841x256, .i32⟩
  | 59 => ⟨S_, .f32⟩
  | 60 => ⟨S_, .i32⟩
  | 61 => ⟨S32x841, .f32⟩
  | 62 => ⟨S32x841, .i32⟩
  | 63 => ⟨S32x29x29, .i32⟩
  | 64 => ⟨S32x29x29x1, .i32⟩
  | 65 => ⟨S13, .i32⟩
  | 66 => ⟨S_, .i32⟩
  | 67 => ⟨S13, .i32⟩
  | 68 => ⟨S13, .i32⟩
  | 69 => ⟨S13x1, .i32⟩
  | 70 => ⟨S5, .i32⟩
  | 71 => ⟨S1x5, .i32⟩
  | 72 => ⟨S13x5, .i32⟩
  | 73 => ⟨S13x5, .i32⟩
  | 74 => ⟨S13x5, .i32⟩
  | 75 => ⟨S_, .i32⟩
  | 76 => ⟨S13x5, .i32⟩
  | 77 => ⟨S13x5, .i1⟩
  | 78 => ⟨S_, .i32⟩
  | 79 => ⟨S13x5, .i32⟩
  | 80 => ⟨S13x5, .i32⟩
  | 81 => ⟨S13x5, .i32⟩
  | 82 => ⟨S13x5x1, .i32⟩
  | 83 => ⟨S32x13x5x29x1, .i32⟩
  | 84 => ⟨S_, .i32⟩
  | 85 => ⟨S13x5, .i32⟩
  | 86 => ⟨S13x5, .i1⟩
  | 87 => ⟨S_, .i32⟩
  | 88 => ⟨S13x5, .i32⟩
  | 89 => ⟨S13x5, .i32⟩
  | 90 => ⟨S13x5, .i32⟩
  | 91 => ⟨S13x5x1, .i32⟩
  | 92 => ⟨S32x13x5x13x5x1, .i32⟩
  | 93 => ⟨S32x13x13x5x5x1, .i32⟩
  | 94 => ⟨S32x169x25, .i32⟩
  | 95 => ⟨S32x169x1x25, .i32⟩
  | 96 => ⟨S6x25, .i32⟩
  | 97 => ⟨S1x6x25, .i32⟩
  | 98 => ⟨S_, .i32⟩
  | 99 => ⟨S32x169x1x25, .i32⟩
  | 100 => ⟨S32x169x1x25, .i1⟩
  | 101 => ⟨S_, .i32⟩
  | 102 => ⟨S32x169x1x25, .i32⟩
  | 103 => ⟨S32x169x1x25, .i32⟩
  | 104 => ⟨S32x169x1x25, .i32⟩
  | 105 => ⟨S_, .i32⟩
  | 106 => ⟨S1x6x25, .i32⟩
  | 107 => ⟨S1x6x25, .i1⟩
  | 108 => ⟨S_, .i32⟩
  | 109 => ⟨S1x6x25, .i32⟩
  | 110 => ⟨S1x6x25, .i32⟩
  | 111 => ⟨S1x6x25, .i32⟩
  | 112 => ⟨S32x169x6x25, .i32⟩
  | 113 => ⟨S169x6x25, .i32⟩
  | 114 => ⟨S32x169x6x25x1, .i32⟩
  | 115 => ⟨S169x6x25x1, .i32⟩
  | 116 => ⟨S32x169x6x25x1, .i32⟩
  | 117 => ⟨S32x169x6x25x2, .i32⟩
  | 118 => ⟨S32x169x6x25, .i32⟩
  | 119 => ⟨S32x169x6x25, .i32⟩
  | 120 => ⟨S32x169x6x1, .i32⟩
  | 121 => ⟨S32x169x6, .i32⟩
  | 122 => ⟨S32x169x6x24, .i32⟩
  | 123 => ⟨S32x24x169x6, .i32⟩
  | 124 => ⟨S24x32x169x6, .i32⟩
  | 125 => ⟨S_, .i32⟩
  | 126 => ⟨S24x32x169x6, .i32⟩
  | 127 => ⟨S256x256, .i32⟩
  | _ => ⟨S32x1x32x32, .f32⟩

abbrev hbmTy0_1 (i : Nat) : BufTy := match i % 128 with
  | 0 => ⟨S_, .i32⟩
  | 1 => ⟨S32x169x6, .i32⟩
  | 2 => ⟨S_, .i32⟩
  | 3 => ⟨S_, .i1⟩
  | 4 => ⟨S_, .i32⟩
  | 5 => ⟨S_, .i32⟩
  | 6 => ⟨S_, .i32⟩
  | 7 => ⟨S1x32x169x6, .i32⟩
  | 8 => ⟨S32x169x6, .i32⟩
  | 9 => ⟨S_, .i32⟩
  | 10 => ⟨S32x169x6, .i32⟩
  | 11 => ⟨S32x169x6, .i1⟩
  | 12 => ⟨S_, .i32⟩
  | 13 => ⟨S32x169x6, .i32⟩
  | 14 => ⟨S32x169x6, .i32⟩
  | 15 => ⟨S32x169x6, .i32⟩
  | 16 => ⟨S_, .i32⟩
  | 17 => ⟨S32x169x6, .i32⟩
  | 18 => ⟨S32x169x6, .i1⟩
  | 19 => ⟨S_, .i32⟩
  | 20 => ⟨S32x169x6, .i32⟩
  | 21 => ⟨S32x169x6, .i32⟩
  | 22 => ⟨S32x169x6, .i32⟩
  | 23 => ⟨S32x169x6x1, .i32⟩
  | 24 => ⟨S32x169x6x1, .i32⟩
  | 25 => ⟨S32x169x6x2, .i32⟩
  | 26 => ⟨S32x169x6, .i32⟩
  | 27 => ⟨S_, .i32⟩
  | 28 => ⟨S_, .i32⟩
  | 29 => ⟨S6, .i32⟩
  | 30 => ⟨S1x6, .i32⟩
  | 31 => ⟨S_, .i32⟩
  | 32 => ⟨S32x169x6, .i32⟩
  | 33 => ⟨S32x169x6, .i1⟩
  | 34 => ⟨S_, .i32⟩
  | 35 => ⟨S32x169x6, .i32⟩
  | 36 => ⟨S32x169x6, .i32⟩
  | 37 => ⟨S32x169x6, .i32⟩
  | 38 => ⟨S_, .i32⟩
  | 39 => ⟨S1x6, .i32⟩
  | 40 => ⟨S1x6, .i1⟩
  | 41 => ⟨S_, .i32⟩
  | 42 => ⟨S1x6, .i32⟩
  | 43 => ⟨S1x6, .i32⟩
  | 44 => ⟨S1x6, .i32⟩
  | 45 => ⟨S169x6, .i32⟩
  | 46 => ⟨S32x169x6x1, .i32⟩
  | 47 => ⟨S169x6x1, .i32⟩
  | 48 => ⟨S32x169x6x1, .i32⟩
  | 49 => ⟨S32x169x6x2, .i32⟩
  | 50 => ⟨S32x169x6, .i32⟩
  | 51 => ⟨S32x13x13x6, .i32⟩
  | 52 => ⟨S_, .i32⟩
  | 53 => ⟨S32x13x13x6, .i32⟩
  | 54 => ⟨S32x13x13x6, .i1⟩
  | 55 => ⟨S_, .i32⟩
  | 56 => ⟨S32x13x13x6, .i32⟩
  | 57 => ⟨S32x13x13x6, .i32⟩
  | 58 => ⟨S32x13x13x6, .i32⟩
  | 59 => ⟨S32x13x13x6x1, .i32⟩
  | 60 => ⟨S32x13x13x6, .i32⟩
  | 61 => ⟨S5, .i32⟩
  | 62 => ⟨S_, .i32⟩
  | 63 => ⟨S5, .i32⟩
  | 64 => ⟨S5, .i32⟩
  | 65 => ⟨S5x1, .i32⟩
  | 66 => ⟨S5, .i32⟩
  | 67 => ⟨S1x5, .i32⟩
  | 68 => ⟨S5x5, .i32⟩
  | 69 => ⟨S5x5, .i32⟩
  | 70 => ⟨S5x5, .i32⟩
  | 71 => ⟨S_, .i32⟩
  | 72 => ⟨S5x5, .i32⟩
  | 73 => ⟨S5x5, .i1⟩
  | 74 => ⟨S_, .i32⟩
  | 75 => ⟨S5x5, .i32⟩
  | 76 => ⟨S5x5, .i32⟩
  | 77 => ⟨S5x5, .i32⟩
  | 78 => ⟨S5x5x1, .i32⟩
  | 79 => ⟨S32x5x5x13x6, .i32⟩
  | 80 => ⟨S_, .i32⟩
  | 81 => ⟨S5x5, .i32⟩
  | 82 => ⟨S5x5, .i1⟩
  | 83 => ⟨S_, .i32⟩
  | 84 => ⟨S5x5, .i32⟩
  | 85 => ⟨S5x5, .i32⟩
  | 86 => ⟨S5x5, .i32⟩
  | 87 => ⟨S5x5x1, .i32⟩
  | 88 => ⟨S32x5x5x5x5x6, .i32⟩
  | 89 => ⟨S32x5x5x5x5x6, .i32⟩
  | 90 => ⟨S32x25x150, .i32⟩
  | 91 => ⟨S32x25x1x150, .i32⟩
  | 92 => ⟨S16x150, .i32⟩
  | 93 => ⟨S1x16x150, .i32⟩
  | 94 => ⟨S_, .i32⟩
  | 95 => ⟨S32x25x1x150, .i32⟩
  | 96 => ⟨S32x25x1x150, .i1⟩
  | 97 => ⟨S_, .i32⟩
  | 98 => ⟨S32x25x1x150, .i32⟩
  | 99 => ⟨S32x25x1x150, .i32⟩
  | 100 => ⟨S32x25x1x150, .i32⟩
  | 101 => ⟨S_, .i32⟩
  | 102 => ⟨S1x16x150, .i32⟩
  | 103 => ⟨S1x16x150, .i1⟩
  | 104 => ⟨S_, .i32⟩
  | 105 => ⟨S1x16x150, .i32⟩
  | 106 => ⟨S1x16x150, .i32⟩
  | 107 => ⟨S1x16x150, .i32⟩
  | 108 => ⟨S32x25x16x150, .i32⟩
  | 109 => ⟨S25x16x150, .i32⟩
  | 110 => ⟨S32x25x16x150x1, .i32⟩
  | 111 => ⟨S25x16x150x1, .i32⟩
  | 112 => ⟨S32x25x16x150x1, .i32⟩
  | 113 => ⟨S32x25x16x150x2, .i32⟩
  | 114 => ⟨S32x25x16x150, .i32⟩
  | 115 => ⟨S32x25x16x150, .i32⟩
  | 116 => ⟨S32x25x16x1, .i32⟩
  | 117 => ⟨S32x25x16, .i32⟩
  | 118 => ⟨S32x25x16x149, .i32⟩
  | 119 => ⟨S32x149x25x16, .i32⟩
  | 120 => ⟨S149x32x25x16, .i32⟩
  | 121 => ⟨S_, .i32⟩
  | 122 => ⟨S149x32x25x16, .i32⟩
  | 123 => ⟨S256x256, .i32⟩
  | 124 => ⟨S_, .i32⟩
  | 125 => ⟨S32x25x16, .i32⟩
  | 126 => ⟨S_, .i32⟩
  | 127 => ⟨S_, .i1⟩
  | _ => ⟨S32x1x32x32, .f32⟩

abbrev hbmTy0_2 (i : Nat) : BufTy := match i % 128 with
  | 0 => ⟨S_, .i32⟩
  | 1 => ⟨S_, .i32⟩
  | 2 => ⟨S_, .i32⟩
  | 3 => ⟨S1x32x25x16, .i32⟩
  | 4 => ⟨S32x25x16, .i32⟩
  | 5 => ⟨S_, .i32⟩
  | 6 => ⟨S32x25x16, .i32⟩
  | 7 => ⟨S32x25x16, .i1⟩
  | 8 => ⟨S_, .i32⟩
  | 9 => ⟨S32x25x16, .i32⟩
  | 10 => ⟨S32x25x16, .i32⟩
  | 11 => ⟨S32x25x16, .i32⟩
  | 12 => ⟨S_, .i32⟩
  | 13 => ⟨S32x25x16, .i32⟩
  | 14 => ⟨S32x25x16, .i1⟩
  | 15 => ⟨S_, .i32⟩
  | 16 => ⟨S32x25x16, .i32⟩
  | 17 => ⟨S32x25x16, .i32⟩
  | 18 => ⟨S32x25x16, .i32⟩
  | 19 => ⟨S32x25x16x1, .i32⟩
  | 20 => ⟨S32x25x16x1, .i32⟩
  | 21 => ⟨S32x25x16x2, .i32⟩
  | 22 => ⟨S32x25x16, .i32⟩
  | 23 => ⟨S_, .i32⟩
  | 24 => ⟨S_, .i32⟩
  | 25 => ⟨S16, .i32⟩
  | 26 => ⟨S1x16, .i32⟩
  | 27 => ⟨S_, .i32⟩
  | 28 => ⟨S32x25x16, .i32⟩
  | 29 => ⟨S32x25x16, .i1⟩
  | 30 => ⟨S_, .i32⟩
  | 31 => ⟨S32x25x16, .i32⟩
  | 32 => ⟨S32x25x16, .i32⟩
  | 33 => ⟨S32x25x16, .i32⟩
  | 34 => ⟨S_, .i32⟩
  | 35 => ⟨S1x16, .i32⟩
  | 36 => ⟨S1x16, .i1⟩
  | 37 => ⟨S_, .i32⟩
  | 38 => ⟨S1x16, .i32⟩
  | 39 => ⟨S1x16, .i32⟩
  | 40 => ⟨S1x16, .i32⟩
  | 41 => ⟨S25x16, .i32⟩
  | 42 => ⟨S32x25x16x1, .i32⟩
  | 43 => ⟨S25x16x1, .i32⟩
  | 44 => ⟨S32x25x16x1, .i32⟩
  | 45 => ⟨S32x25x16x2, .i32⟩
  | 46 => ⟨S32x25x16, .i32⟩
  | 47 => ⟨S32x5x5x16, .i32⟩
  | 48 => ⟨S_, .i32⟩
  | 49 => ⟨S32x5x5x16, .i32⟩
  | 50 => ⟨S32x5x5x16, .i1⟩
  | 51 => ⟨S_, .i32⟩
  | 52 => ⟨S32x5x5x16, .i32⟩
  | 53 => ⟨S32x5x5x16, .i32⟩
  | 54 => ⟨S32x5x5x16, .i32⟩
  | 55 => ⟨S32x5x5x16x1, .i32⟩
  | 56 => ⟨S32x5x5x16, .i32⟩
  | 57 => ⟨S32x16x5x5, .i32⟩
  | 58 => ⟨S32x400, .i32⟩
  | 59 => ⟨S32x1x400, .i32⟩
  | 60 => ⟨S_, .i32⟩
  | 61 => ⟨S32x1x400, .i32⟩
  | 62 => ⟨S32x1x400, .i1⟩
  | 63 => ⟨S_, .i32⟩
  | 64 => ⟨S32x1x400, .i32⟩
  | 65 => ⟨S32x1x400, .i32⟩
  | 66 => ⟨S32x1x400, .i32⟩
  | 67 => ⟨S_, .i32⟩
  | 68 => ⟨S120x400, .i32⟩
  | 69 => ⟨S120x400, .i1⟩
  | 70 => ⟨S_, .i32⟩
  | 71 => ⟨S120x400, .i32⟩
  | 72 => ⟨S120x400, .i32⟩
  | 73 => ⟨S120x400, .i32⟩
  | 74 => ⟨S32x120x400, .i32⟩
  | 75 => ⟨S32x120x400x1, .i32⟩
  | 76 => ⟨S120x400x1, .i32⟩
  | 77 => ⟨S32x120x400x1, .i32⟩
  | 78 => ⟨S32x120x400x2, .i32⟩
  | 79 => ⟨S32x120x400, .i32⟩
  | 80 => ⟨S32x120x400, .i32⟩
  | 81 => ⟨S32x120x1, .i32⟩
  | 82 => ⟨S32x120, .i32⟩
  | 83 => ⟨S32x120x399, .i32⟩
  | 84 => ⟨S32x399x120, .i32⟩
  | 85 => ⟨S399x32x120, .i32⟩
  | 86 => ⟨S_, .i32⟩
  | 87 => ⟨S399x32x120, .i32⟩
  | 88 => ⟨S256x256, .i32⟩
  | 89 => ⟨S_, .i32⟩
  | 90 => ⟨S32x120, .i32⟩
  | 91 => ⟨S_, .i32⟩
  | 92 => ⟨S_, .i1⟩
  | 93 => ⟨S_, .i32⟩
  | 94 => ⟨S_, .i32⟩
  | 95 => ⟨S1x32x120, .i32⟩
  | 96 => ⟨S32x120, .i32⟩
  | 97 => ⟨S_, .i32⟩
  | 98 => ⟨S32x120, .i32⟩
  | 99 => ⟨S32x120, .i1⟩
  | 100 => ⟨S_, .i32⟩
  | 101 => ⟨S32x120, .i32⟩
  | 102 => ⟨S32x120, .i32⟩
  | 103 => ⟨S32x120, .i32⟩
  | 104 => ⟨S_, .i32⟩
  | 105 => ⟨S32x120, .i32⟩
  | 106 => ⟨S32x120, .i1⟩
  | 107 => ⟨S_, .i32⟩
  | 108 => ⟨S32x120, .i32⟩
  | 109 => ⟨S32x120, .i32⟩
  | 110 => ⟨S32x120, .i32⟩
  | 111 => ⟨S32x120x1, .i32⟩
  | 112 => ⟨S32x120x1, .i32⟩
  | 113 => ⟨S32x120x2, .i32⟩
  | 114 => ⟨S32x120, .i32⟩
  | 115 => ⟨S_, .i32⟩
  | 116 => ⟨S_, .i32⟩
  | 117 => ⟨S120, .i32⟩
  | 118 => ⟨S_, .i32⟩
  | 119 => ⟨S32x120, .i32⟩
  | 120 => ⟨S32x120, .i1⟩
  | 121 => ⟨S_, .i32⟩
  | 122 => ⟨S32x120, .i32⟩
  | 123 => ⟨S32x120, .i32⟩
  | 124 => ⟨S32x120, .i32⟩
  | 125 => ⟨S_, .i32⟩
  | 126 => ⟨S120, .i32⟩
  | 127 => ⟨S120, .i1⟩
  | _ => ⟨S32x1x32x32, .f32⟩

abbrev hbmTy0_3 (i : Nat) : BufTy := match i % 128 with
  | 0 => ⟨S_, .i32⟩
  | 1 => ⟨S120, .i32⟩
  | 2 => ⟨S120, .i32⟩
  | 3 => ⟨S120, .i32⟩
  | 4 => ⟨S32x120x1, .i32⟩
  | 5 => ⟨S120x1, .i32⟩
  | 6 => ⟨S32x120x1, .i32⟩
  | 7 => ⟨S32x120x2, .i32⟩
  | 8 => ⟨S32x120, .i32⟩
  | 9 => ⟨S_, .i32⟩
  | 10 => ⟨S32x120, .i32⟩
  | 11 => ⟨S32x120, .i1⟩
  | 12 => ⟨S_, .i32⟩
  | 13 => ⟨S32x120, .i32⟩
  | 14 => ⟨S32x120, .i32⟩
  | 15 => ⟨S32x120, .i32⟩
  | 16 => ⟨S32x120x1, .i32⟩
  | 17 => ⟨S32x120, .i32⟩
  | 18 => ⟨S32x1x120, .i32⟩
  | 19 => ⟨S_, .i32⟩
  | 20 => ⟨S32x1x120, .i32⟩
  | 21 => ⟨S32x1x120, .i1⟩
  | 22 => ⟨S_, .i32⟩
  | 23 => ⟨S32x1x120, .i32⟩
  | 24 => ⟨S32x1x120, .i32⟩
  | 25 => ⟨S32x1x120, .i32⟩
  | 26 => ⟨S_, .i32⟩
  | 27 => ⟨S84x120, .i32⟩
  | 28 => ⟨S84x120, .i1⟩
  | 29 => ⟨S_, .i32⟩
  | 30 => ⟨S84x120, .i32⟩
  | 31 => ⟨S84x120, .i32⟩
  | 32 => ⟨S84x120, .i32⟩
  | 33 => ⟨S32x84x120, .i32⟩
  | 34 => ⟨S32x84x120x1, .i32⟩
  | 35 => ⟨S84x120x1, .i32⟩
  | 36 => ⟨S32x84x120x1, .i32⟩
  | 37 => ⟨S32x84x120x2, .i32⟩
  | 38 => ⟨S32x84x120, .i32⟩
  | 39 => ⟨S32x84x120, .i32⟩
  | 40 => ⟨S32x84x1, .i32⟩
  | 41 => ⟨S32x84, .i32⟩
  | 42 => ⟨S32x84x119, .i32⟩
  | 43 => ⟨S32x119x84, .i32⟩
  | 44 => ⟨S119x32x84, .i32⟩
  | 45 => ⟨S_, .i32⟩
  | 46 => ⟨S119x32x84, .i32⟩
  | 47 => ⟨S256x256, .i32⟩
  | 48 => ⟨S_, .i32⟩
  | 49 => ⟨S32x84, .i32⟩
  | 50 => ⟨S_, .i32⟩
  | 51 => ⟨S_, .i1⟩
  | 52 => ⟨S_, .i32⟩
  | 53 => ⟨S_, .i32⟩
  | 54 => ⟨S1x32x84, .i32⟩
  | 55 => ⟨S32x84, .i32⟩
  | 56 => ⟨S_, .i32⟩
  | 57 => ⟨S32x84, .i32⟩
  | 58 => ⟨S32x84, .i1⟩
  | 59 => ⟨S_, .i32⟩
  | 60 => ⟨S32x84, .i32⟩
  | 61 => ⟨S32x84, .i32⟩
  | 62 => ⟨S32x84, .i32⟩
  | 63 => ⟨S_, .i32⟩
  | 64 => ⟨S32x84, .i32⟩
  | 65 => ⟨S32x84, .i1⟩
  | 66 => ⟨S_, .i32⟩
  | 67 => ⟨S32x84, .i32⟩
  | 68 => ⟨S32x84, .i32⟩
  | 69 => ⟨S32x84, .i32⟩
  | 70 => ⟨S32x84x1, .i32⟩
  | 71 => ⟨S32x84x1, .i32⟩
  | 72 => ⟨S32x84x2, .i32⟩
  | 73 => ⟨S32x84, .i32⟩
  | 74 => ⟨S_, .i32⟩
  | 75 => ⟨S_, .i32⟩
  | 76 => ⟨S84, .i32⟩
  | 77 => ⟨S_, .i32⟩
  | 78 => ⟨S32x84, .i32⟩
  | 79 => ⟨S32x84, .i1⟩
  | 80 => ⟨S_, .i32⟩
  | 81 => ⟨S32x84, .i32⟩
  | 82 => ⟨S32x84, .i32⟩
  | 83 => ⟨S32x84, .i32⟩
  | 84 => ⟨S_, .i32⟩
  | 85 => ⟨S84, .i32⟩
  | 86 => ⟨S84, .i1⟩
  | 87 => ⟨S_, .i32⟩
  | 88 => ⟨S84, .i32⟩
  | 89 => ⟨S84, .i32⟩
  | 90 => ⟨S84, .i32⟩
  | 91 => ⟨S32x84x1, .i32⟩
  | 92 => ⟨S84x1, .i32⟩
  | 93 => ⟨S32x84x1, .i32⟩
  | 94 => ⟨S32x84x2, .i32⟩
  | 95 => ⟨S32x84, .i32⟩
  | 96 => ⟨S_, .i32⟩
  | 97 => ⟨S32x84, .i32⟩
  | 98 => ⟨S32x84, .i1⟩
  | 99 => ⟨S_, .i32⟩
  | 100 => ⟨S32x84, .i32⟩
  | 101 => ⟨S32x84, .i32⟩
  | 102 => ⟨S32x84, .i32⟩
  | 103 => ⟨S32x84x1, .i32⟩
  | 104 => ⟨S32x84, .i32⟩
  | 105 => ⟨S_, .i32⟩
  | 106 => ⟨S32x84, .i32⟩
  | 107 => ⟨S32x84, .i1⟩
  | 108 => ⟨S_, .i32⟩
  | 109 => ⟨S32x84, .i32⟩
  | 110 => ⟨S32x84, .i32⟩
  | 111 => ⟨S32x84, .i32⟩
  | 112 => ⟨S32x84x1, .i32⟩
  | 113 => ⟨S32x84, .f32⟩
  | 114 => ⟨S84x10, .f32⟩
  | 115 => ⟨S32x10, .f32⟩
  | 116 => ⟨S1x10, .f32⟩
  | 117 => ⟨S32x10, .f32⟩
  | 118 => ⟨S32x10, .f32⟩
  | 119 => ⟨S_, .f32⟩
  | 120 => ⟨S32, .f32⟩
  | 121 => ⟨S_, .f32⟩
  | 122 => ⟨S32, .f32⟩
  | 123 => ⟨S32, .f32⟩
  | 124 => ⟨S32x1, .f32⟩
  | 125 => ⟨S32x10, .f32⟩
  | 126 => ⟨S32x10, .f32⟩
  | 127 => ⟨S32x10, .f32⟩
  | _ => ⟨S32x1x32x32, .f32⟩

abbrev hbmTy0_4 (i : Nat) : BufTy := match i % 128 with
  | 0 => ⟨S_, .f32⟩
  | 1 => ⟨S32, .f32⟩
  | 2 => ⟨S32x1, .f32⟩
  | 3 => ⟨S32x10, .f32⟩
  | 4 => ⟨S32x10, .f32⟩
  | _ => ⟨S32x1x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x1x32x32, .f32⟩

abbrev bufTy : (tb : Table) → Fin (tcTables nBuf tb) → BufTy
  | .hbm, ⟨i, _⟩ => hbmTy i
  | _, _ => ⟨S32x1x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_0 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst : Ref sig .tc := ⟨.hbm, 56, rfl⟩
abbrev main_v34 : Ref sig .tc := ⟨.hbm, 57, rfl⟩
abbrev main_call0_v0 : Ref sig .tc := ⟨.hbm, 58, rfl⟩
abbrev main_call0_cst : Ref sig .tc := ⟨.hbm, 59, rfl⟩
abbrev main_call0_c : Ref sig .tc := ⟨.hbm, 60, rfl⟩
abbrev main_call0_v1_0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_5 : Ref sig .tc := ⟨.hbm, 75, rfl⟩
abbrev main_v47 : Ref sig .tc := ⟨.hbm, 76, rfl⟩
abbrev main_v48 : Ref sig .tc := ⟨.hbm, 77, rfl⟩
abbrev main_c_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_7 : Ref sig .tc := ⟨.hbm, 84, rfl⟩
abbrev main_v54 : Ref sig .tc := ⟨.hbm, 85, rfl⟩
abbrev main_v55 : Ref sig .tc := ⟨.hbm, 86, rfl⟩
abbrev main_c_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_9 : Ref sig .tc := ⟨.hbm, 98, rfl⟩
abbrev main_v66 : Ref sig .tc := ⟨.hbm, 99, rfl⟩
abbrev main_v67 : Ref sig .tc := ⟨.hbm, 100, rfl⟩
abbrev main_c_10 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_11 : Ref sig .tc := ⟨.hbm, 105, rfl⟩
abbrev main_v71 : Ref sig .tc := ⟨.hbm, 106, rfl⟩
abbrev main_v72 : Ref sig .tc := ⟨.hbm, 107, rfl⟩
abbrev main_c_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_13 : Ref sig .tc := ⟨.hbm, 125, rfl⟩
abbrev main_v89_0 : Ref sig .tc := ⟨.hbm, 126, rfl⟩
abbrev main_v89_1 : Ref sig .tc := ⟨.hbm, 127, rfl⟩
abbrev main_v89_2 : Ref sig .tc := ⟨.hbm, 128, rfl⟩
abbrev main_v89_3 : Ref sig .tc := ⟨.hbm, 129, rfl⟩
abbrev main_while0c_c_66 : Ref sig .tc := ⟨.hbm, 130, rfl⟩
abbrev main_while0c_v313 : Ref sig .tc := ⟨.hbm, 131, rfl⟩
abbrev main_while0b_call2_c : Ref sig .tc := ⟨.hbm, 132, rfl⟩
abbrev main_while0b_call2_c_0 : Ref sig .tc := ⟨.hbm, 133, rfl⟩
abbrev main_while0b_call2_c_1 : Ref sig .tc := ⟨.hbm, 134, rfl⟩
abbrev main_while0b_call2_v0 : Ref sig .tc := ⟨.hbm, 135, rfl⟩
abbrev main_while0b_v313 : Ref sig .tc := ⟨.hbm, 136, rfl⟩
abbrev main_while0b_c_66 : Ref sig .tc := ⟨.hbm, 137, rfl⟩
abbrev main_while0b_v314 : Ref sig .tc := ⟨.hbm, 138, rfl⟩
abbrev main_while0b_v315 : Ref sig .tc := ⟨.hbm, 139, rfl⟩
abbrev main_while0b_c_67 : Ref sig .tc := ⟨.hbm, 140, rfl⟩
abbrev main_while0b_v316 : Ref sig .tc := ⟨.hbm, 141, rfl⟩
abbrev main_while0b_v317 : Ref sig .tc := ⟨.hbm, 142, rfl⟩
abbrev main_while0b_v318 : Ref sig .tc := ⟨.hbm, 143, rfl⟩
abbrev main_while0b_c_68 : Ref sig .tc := ⟨.hbm, 144, rfl⟩
abbrev main_while0b_v319 : Ref sig .tc := ⟨.hbm, 145, rfl⟩
abbrev main_while0b_v320 : Ref sig .tc := ⟨.hbm, 146, rfl⟩
abbrev main_while0b_c_69 : Ref sig .tc := ⟨.hbm, 147, rfl⟩
abbrev main_while0b_v321 : Ref sig .tc := ⟨.hbm, 148, rfl⟩
abbrev main_while0b_v322 : Ref sig .tc := ⟨.hbm, 149, rfl⟩
abbrev main_while0b_v323 : Ref sig .tc := ⟨.hbm, 150, rfl⟩
abbrev main_while0b_v324 : Ref sig .tc := ⟨.hbm, 151, rfl⟩
abbrev main_while0b_v325 : Ref sig .tc := ⟨.hbm, 152, rfl⟩
abbrev main_while0b_v326 : Ref sig .tc := ⟨.hbm, 153, rfl⟩
abbrev main_while0b_v327 : Ref sig .tc := ⟨.hbm, 154, rfl⟩
abbrev main_while0b_c_70 : Ref sig .tc := ⟨.hbm, 155, rfl⟩
abbrev main_while0b_v328 : Ref sig .tc := ⟨.hbm, 156, rfl⟩
abbrev main_v90 : Ref sig .tc := ⟨.hbm, 157, rfl⟩
abbrev main_v91 : Ref sig .tc := ⟨.hbm, 158, rfl⟩
abbrev main_c_14 : Ref sig .tc := ⟨.hbm, 159, rfl⟩
abbrev main_v92 : Ref sig .tc := ⟨.hbm, 160, rfl⟩
abbrev main_v93 : Ref sig .tc := ⟨.hbm, 161, rfl⟩
abbrev main_c_15 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_c_16 : Ref sig .tc := ⟨.hbm, 166, rfl⟩
abbrev main_v97 : Ref sig .tc := ⟨.hbm, 167, rfl⟩
abbrev main_v98 : Ref sig .tc := ⟨.hbm, 168, rfl⟩
abbrev main_c_17 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_c_18 : Ref sig .tc := ⟨.hbm, 180, rfl⟩
abbrev main_v109 : Ref sig .tc := ⟨.hbm, 181, rfl⟩
abbrev main_v110 : Ref sig .tc := ⟨.hbm, 182, rfl⟩
abbrev main_c_19 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_c_20 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_c_21 : Ref sig .tc := ⟨.hbm, 199, rfl⟩
abbrev main_v125 : Ref sig .tc := ⟨.hbm, 200, rfl⟩
abbrev main_v126 : Ref sig .tc := ⟨.hbm, 201, rfl⟩
abbrev main_c_22 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_c_23 : Ref sig .tc := ⟨.hbm, 208, rfl⟩
abbrev main_v132 : Ref sig .tc := ⟨.hbm, 209, rfl⟩
abbrev main_v133 : Ref sig .tc := ⟨.hbm, 210, rfl⟩
abbrev main_c_24 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_c_25 : Ref sig .tc := ⟨.hbm, 222, rfl⟩
abbrev main_v144 : Ref sig .tc := ⟨.hbm, 223, rfl⟩
abbrev main_v145 : Ref sig .tc := ⟨.hbm, 224, rfl⟩
abbrev main_c_26 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_c_27 : Ref sig .tc := ⟨.hbm, 229, rfl⟩
abbrev main_v149 : Ref sig .tc := ⟨.hbm, 230, rfl⟩
abbrev main_v150 : Ref sig .tc := ⟨.hbm, 231, rfl⟩
abbrev main_c_28 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_c_29 : Ref sig .tc := ⟨.hbm, 249, rfl⟩
abbrev main_v167_0 : Ref sig .tc := ⟨.hbm, 250, rfl⟩
abbrev main_v167_1 : Ref sig .tc := ⟨.hbm, 251, rfl⟩
abbrev main_v167_2 : Ref sig .tc := ⟨.hbm, 252, rfl⟩
abbrev main_v167_3 : Ref sig .tc := ⟨.hbm, 253, rfl⟩
abbrev main_while1c_c_66 : Ref sig .tc := ⟨.hbm, 254, rfl⟩
abbrev main_while1c_v313 : Ref sig .tc := ⟨.hbm, 255, rfl⟩
abbrev main_while1b_call4_c : Ref sig .tc := ⟨.hbm, 256, rfl⟩
abbrev main_while1b_call4_c_0 : Ref sig .tc := ⟨.hbm, 257, rfl⟩
abbrev main_while1b_call4_c_1 : Ref sig .tc := ⟨.hbm, 258, rfl⟩
abbrev main_while1b_call4_v0 : Ref sig .tc := ⟨.hbm, 259, rfl⟩
abbrev main_while1b_v313 : Ref sig .tc := ⟨.hbm, 260, rfl⟩
abbrev main_while1b_c_66 : Ref sig .tc := ⟨.hbm, 261, rfl⟩
abbrev main_while1b_v314 : Ref sig .tc := ⟨.hbm, 262, rfl⟩
abbrev main_while1b_v315 : Ref sig .tc := ⟨.hbm, 263, rfl⟩
abbrev main_while1b_c_67 : Ref sig .tc := ⟨.hbm, 264, rfl⟩
abbrev main_while1b_v316 : Ref sig .tc := ⟨.hbm, 265, rfl⟩
abbrev main_while1b_v317 : Ref sig .tc := ⟨.hbm, 266, rfl⟩
abbrev main_while1b_v318 : Ref sig .tc := ⟨.hbm, 267, rfl⟩
abbrev main_while1b_c_68 : Ref sig .tc := ⟨.hbm, 268, rfl⟩
abbrev main_while1b_v319 : Ref sig .tc := ⟨.hbm, 269, rfl⟩
abbrev main_while1b_v320 : Ref sig .tc := ⟨.hbm, 270, rfl⟩
abbrev main_while1b_c_69 : Ref sig .tc := ⟨.hbm, 271, rfl⟩
abbrev main_while1b_v321 : Ref sig .tc := ⟨.hbm, 272, rfl⟩
abbrev main_while1b_v322 : Ref sig .tc := ⟨.hbm, 273, rfl⟩
abbrev main_while1b_v323 : Ref sig .tc := ⟨.hbm, 274, rfl⟩
abbrev main_while1b_v324 : Ref sig .tc := ⟨.hbm, 275, rfl⟩
abbrev main_while1b_v325 : Ref sig .tc := ⟨.hbm, 276, rfl⟩
abbrev main_while1b_v326 : Ref sig .tc := ⟨.hbm, 277, rfl⟩
abbrev main_while1b_v327 : Ref sig .tc := ⟨.hbm, 278, rfl⟩
abbrev main_while1b_c_70 : Ref sig .tc := ⟨.hbm, 279, rfl⟩
abbrev main_while1b_v328 : Ref sig .tc := ⟨.hbm, 280, rfl⟩
abbrev main_v168 : Ref sig .tc := ⟨.hbm, 281, rfl⟩
abbrev main_v169 : Ref sig .tc := ⟨.hbm, 282, rfl⟩
abbrev main_c_30 : Ref sig .tc := ⟨.hbm, 283, rfl⟩
abbrev main_v170 : Ref sig .tc := ⟨.hbm, 284, rfl⟩
abbrev main_v171 : Ref sig .tc := ⟨.hbm, 285, rfl⟩
abbrev main_c_31 : Ref sig .tc := ⟨.hbm, 286, rfl⟩
abbrev main_v172 : Ref sig .tc := ⟨.hbm, 287, rfl⟩
abbrev main_v173 : Ref sig .tc := ⟨.hbm, 288, rfl⟩
abbrev main_v174 : Ref sig .tc := ⟨.hbm, 289, rfl⟩
abbrev main_c_32 : Ref sig .tc := ⟨.hbm, 290, rfl⟩
abbrev main_v175 : Ref sig .tc := ⟨.hbm, 291, rfl⟩
abbrev main_v176 : Ref sig .tc := ⟨.hbm, 292, rfl⟩
abbrev main_c_33 : Ref sig .tc := ⟨.hbm, 293, rfl⟩
abbrev main_v177 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_v181 : Ref sig .tc := ⟨.hbm, 298, rfl⟩
abbrev main_v182 : Ref sig .tc := ⟨.hbm, 299, rfl⟩
abbrev main_v183 : Ref sig .tc := ⟨.hbm, 300, rfl⟩
abbrev main_v184 : Ref sig .tc := ⟨.hbm, 301, rfl⟩
abbrev main_v185 : Ref sig .tc := ⟨.hbm, 302, rfl⟩
abbrev main_v186 : Ref sig .tc := ⟨.hbm, 303, rfl⟩
abbrev main_c_34 : Ref sig .tc := ⟨.hbm, 304, rfl⟩
abbrev main_v187 : Ref sig .tc := ⟨.hbm, 305, rfl⟩
abbrev main_v188 : Ref sig .tc := ⟨.hbm, 306, rfl⟩
abbrev main_c_35 : Ref sig .tc := ⟨.hbm, 307, rfl⟩
abbrev main_v189 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_v196 : Ref sig .tc := ⟨.hbm, 315, rfl⟩
abbrev main_c_36 : Ref sig .tc := ⟨.hbm, 316, rfl⟩
abbrev main_v197 : Ref sig .tc := ⟨.hbm, 317, rfl⟩
abbrev main_v198 : Ref sig .tc := ⟨.hbm, 318, rfl⟩
abbrev main_c_37 : Ref sig .tc := ⟨.hbm, 319, rfl⟩
abbrev main_v199 : Ref sig .tc := ⟨.hbm, 320, rfl⟩
abbrev main_v200 : Ref sig .tc := ⟨.hbm, 321, rfl⟩
abbrev main_v201 : Ref sig .tc := ⟨.hbm, 322, rfl⟩
abbrev main_c_38 : Ref sig .tc := ⟨.hbm, 323, rfl⟩
abbrev main_v202 : Ref sig .tc := ⟨.hbm, 324, rfl⟩
abbrev main_v203 : Ref sig .tc := ⟨.hbm, 325, rfl⟩
abbrev main_c_39 : Ref sig .tc := ⟨.hbm, 326, rfl⟩
abbrev main_v204 : Ref sig .tc := ⟨.hbm, 327, rfl⟩
abbrev main_v205 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_v216 : Ref sig .tc := ⟨.hbm, 339, rfl⟩
abbrev main_v217 : Ref sig .tc := ⟨.hbm, 340, rfl⟩
abbrev main_v218 : Ref sig .tc := ⟨.hbm, 341, rfl⟩
abbrev main_c_40 : Ref sig .tc := ⟨.hbm, 342, rfl⟩
abbrev main_v219_0 : Ref sig .tc := ⟨.hbm, 343, rfl⟩
abbrev main_v219_1 : Ref sig .tc := ⟨.hbm, 344, rfl⟩
abbrev main_v219_2 : Ref sig .tc := ⟨.hbm, 345, rfl⟩
abbrev main_v219_3 : Ref sig .tc := ⟨.hbm, 346, rfl⟩
abbrev main_while2c_c_66 : Ref sig .tc := ⟨.hbm, 347, rfl⟩
abbrev main_while2c_v313 : Ref sig .tc := ⟨.hbm, 348, rfl⟩
abbrev main_while2b_call6_c : Ref sig .tc := ⟨.hbm, 349, rfl⟩
abbrev main_while2b_call6_c_0 : Ref sig .tc := ⟨.hbm, 350, rfl⟩
abbrev main_while2b_call6_v0 : Ref sig .tc := ⟨.hbm, 351, rfl⟩
abbrev main_while2b_v313 : Ref sig .tc := ⟨.hbm, 352, rfl⟩
abbrev main_while2b_c_66 : Ref sig .tc := ⟨.hbm, 353, rfl⟩
abbrev main_while2b_v314 : Ref sig .tc := ⟨.hbm, 354, rfl⟩
abbrev main_while2b_v315 : Ref sig .tc := ⟨.hbm, 355, rfl⟩
abbrev main_while2b_c_67 : Ref sig .tc := ⟨.hbm, 356, rfl⟩
abbrev main_while2b_v316 : Ref sig .tc := ⟨.hbm, 357, rfl⟩
abbrev main_while2b_v317 : Ref sig .tc := ⟨.hbm, 358, rfl⟩
abbrev main_while2b_v318 : Ref sig .tc := ⟨.hbm, 359, rfl⟩
abbrev main_while2b_c_68 : Ref sig .tc := ⟨.hbm, 360, rfl⟩
abbrev main_while2b_v319 : Ref sig .tc := ⟨.hbm, 361, rfl⟩
abbrev main_while2b_v320 : Ref sig .tc := ⟨.hbm, 362, rfl⟩
abbrev main_while2b_c_69 : Ref sig .tc := ⟨.hbm, 363, rfl⟩
abbrev main_while2b_v321 : Ref sig .tc := ⟨.hbm, 364, rfl⟩
abbrev main_while2b_v322 : Ref sig .tc := ⟨.hbm, 365, rfl⟩
abbrev main_while2b_v323 : Ref sig .tc := ⟨.hbm, 366, rfl⟩
abbrev main_while2b_v324 : Ref sig .tc := ⟨.hbm, 367, rfl⟩
abbrev main_while2b_v325 : Ref sig .tc := ⟨.hbm, 368, rfl⟩
abbrev main_while2b_v326 : Ref sig .tc := ⟨.hbm, 369, rfl⟩
abbrev main_while2b_v327 : Ref sig .tc := ⟨.hbm, 370, rfl⟩
abbrev main_while2b_c_70 : Ref sig .tc := ⟨.hbm, 371, rfl⟩
abbrev main_while2b_v328 : Ref sig .tc := ⟨.hbm, 372, rfl⟩
abbrev main_v220 : Ref sig .tc := ⟨.hbm, 373, rfl⟩
abbrev main_c_41 : Ref sig .tc := ⟨.hbm, 374, rfl⟩
abbrev main_v221 : Ref sig .tc := ⟨.hbm, 375, rfl⟩
abbrev main_v222 : Ref sig .tc := ⟨.hbm, 376, rfl⟩
abbrev main_c_42 : Ref sig .tc := ⟨.hbm, 377, rfl⟩
abbrev main_v223 : Ref sig .tc := ⟨.hbm, 378, rfl⟩
abbrev main_v224 : Ref sig .tc := ⟨.hbm, 379, rfl⟩
abbrev main_v225 : Ref sig .tc := ⟨.hbm, 380, rfl⟩
abbrev main_c_43 : Ref sig .tc := ⟨.hbm, 381, rfl⟩
abbrev main_v226 : Ref sig .tc := ⟨.hbm, 382, rfl⟩
abbrev main_v227 : Ref sig .tc := ⟨.hbm, 383, rfl⟩
abbrev main_c_44 : Ref sig .tc := ⟨.hbm, 384, rfl⟩
abbrev main_v228 : Ref sig .tc := ⟨.hbm, 385, rfl⟩
abbrev main_v229 : Ref sig .tc := ⟨.hbm, 386, rfl⟩
abbrev main_v230 : Ref sig .tc := ⟨.hbm, 387, rfl⟩
abbrev main_v231 : Ref sig .tc := ⟨.hbm, 388, rfl⟩
abbrev main_v232 : Ref sig .tc := ⟨.hbm, 389, rfl⟩
abbrev main_v233 : Ref sig .tc := ⟨.hbm, 390, rfl⟩
abbrev main_v234 : Ref sig .tc := ⟨.hbm, 391, rfl⟩
abbrev main_v235 : Ref sig .tc := ⟨.hbm, 392, rfl⟩
abbrev main_c_45 : Ref sig .tc := ⟨.hbm, 393, rfl⟩
abbrev main_v236 : Ref sig .tc := ⟨.hbm, 394, rfl⟩
abbrev main_v237 : Ref sig .tc := ⟨.hbm, 395, rfl⟩
abbrev main_c_46 : Ref sig .tc := ⟨.hbm, 396, rfl⟩
abbrev main_v238 : Ref sig .tc := ⟨.hbm, 397, rfl⟩
abbrev main_v239 : Ref sig .tc := ⟨.hbm, 398, rfl⟩
abbrev main_v240 : Ref sig .tc := ⟨.hbm, 399, rfl⟩
abbrev main_v241 : Ref sig .tc := ⟨.hbm, 400, rfl⟩
abbrev main_v242 : Ref sig .tc := ⟨.hbm, 401, rfl⟩
abbrev main_v243 : Ref sig .tc := ⟨.hbm, 402, rfl⟩
abbrev main_c_47 : Ref sig .tc := ⟨.hbm, 403, rfl⟩
abbrev main_v244 : Ref sig .tc := ⟨.hbm, 404, rfl⟩
abbrev main_v245 : Ref sig .tc := ⟨.hbm, 405, rfl⟩
abbrev main_c_48 : Ref sig .tc := ⟨.hbm, 406, rfl⟩
abbrev main_v246 : Ref sig .tc := ⟨.hbm, 407, rfl⟩
abbrev main_v247 : Ref sig .tc := ⟨.hbm, 408, rfl⟩
abbrev main_v248 : Ref sig .tc := ⟨.hbm, 409, rfl⟩
abbrev main_c_49 : Ref sig .tc := ⟨.hbm, 410, rfl⟩
abbrev main_v249 : Ref sig .tc := ⟨.hbm, 411, rfl⟩
abbrev main_v250 : Ref sig .tc := ⟨.hbm, 412, rfl⟩
abbrev main_c_50 : Ref sig .tc := ⟨.hbm, 413, rfl⟩
abbrev main_v251 : Ref sig .tc := ⟨.hbm, 414, rfl⟩
abbrev main_v252 : Ref sig .tc := ⟨.hbm, 415, rfl⟩
abbrev main_v253 : Ref sig .tc := ⟨.hbm, 416, rfl⟩
abbrev main_v254 : Ref sig .tc := ⟨.hbm, 417, rfl⟩
abbrev main_v255 : Ref sig .tc := ⟨.hbm, 418, rfl⟩
abbrev main_v256 : Ref sig .tc := ⟨.hbm, 419, rfl⟩
abbrev main_v257 : Ref sig .tc := ⟨.hbm, 420, rfl⟩
abbrev main_v258 : Ref sig .tc := ⟨.hbm, 421, rfl⟩
abbrev main_v259 : Ref sig .tc := ⟨.hbm, 422, rfl⟩
abbrev main_v260 : Ref sig .tc := ⟨.hbm, 423, rfl⟩
abbrev main_v261 : Ref sig .tc := ⟨.hbm, 424, rfl⟩
abbrev main_v262 : Ref sig .tc := ⟨.hbm, 425, rfl⟩
abbrev main_v263 : Ref sig .tc := ⟨.hbm, 426, rfl⟩
abbrev main_v264 : Ref sig .tc := ⟨.hbm, 427, rfl⟩
abbrev main_v265 : Ref sig .tc := ⟨.hbm, 428, rfl⟩
abbrev main_c_51 : Ref sig .tc := ⟨.hbm, 429, rfl⟩
abbrev main_v266_0 : Ref sig .tc := ⟨.hbm, 430, rfl⟩
abbrev main_v266_1 : Ref sig .tc := ⟨.hbm, 431, rfl⟩
abbrev main_v266_2 : Ref sig .tc := ⟨.hbm, 432, rfl⟩
abbrev main_v266_3 : Ref sig .tc := ⟨.hbm, 433, rfl⟩
abbrev main_while3c_c_66 : Ref sig .tc := ⟨.hbm, 434, rfl⟩
abbrev main_while3c_v313 : Ref sig .tc := ⟨.hbm, 435, rfl⟩
abbrev main_while3b_call8_c : Ref sig .tc := ⟨.hbm, 436, rfl⟩
abbrev main_while3b_call8_c_0 : Ref sig .tc := ⟨.hbm, 437, rfl⟩
abbrev main_while3b_call8_v0 : Ref sig .tc := ⟨.hbm, 438, rfl⟩
abbrev main_while3b_v313 : Ref sig .tc := ⟨.hbm, 439, rfl⟩
abbrev main_while3b_c_66 : Ref sig .tc := ⟨.hbm, 440, rfl⟩
abbrev main_while3b_v314 : Ref sig .tc := ⟨.hbm, 441, rfl⟩
abbrev main_while3b_v315 : Ref sig .tc := ⟨.hbm, 442, rfl⟩
abbrev main_while3b_c_67 : Ref sig .tc := ⟨.hbm, 443, rfl⟩
abbrev main_while3b_v316 : Ref sig .tc := ⟨.hbm, 444, rfl⟩
abbrev main_while3b_v317 : Ref sig .tc := ⟨.hbm, 445, rfl⟩
abbrev main_while3b_v318 : Ref sig .tc := ⟨.hbm, 446, rfl⟩
abbrev main_while3b_c_68 : Ref sig .tc := ⟨.hbm, 447, rfl⟩
abbrev main_while3b_v319 : Ref sig .tc := ⟨.hbm, 448, rfl⟩
abbrev main_while3b_v320 : Ref sig .tc := ⟨.hbm, 449, rfl⟩
abbrev main_while3b_c_69 : Ref sig .tc := ⟨.hbm, 450, rfl⟩
abbrev main_while3b_v321 : Ref sig .tc := ⟨.hbm, 451, rfl⟩
abbrev main_while3b_v322 : Ref sig .tc := ⟨.hbm, 452, rfl⟩
abbrev main_while3b_v323 : Ref sig .tc := ⟨.hbm, 453, rfl⟩
abbrev main_while3b_v324 : Ref sig .tc := ⟨.hbm, 454, rfl⟩
abbrev main_while3b_v325 : Ref sig .tc := ⟨.hbm, 455, rfl⟩
abbrev main_while3b_v326 : Ref sig .tc := ⟨.hbm, 456, rfl⟩
abbrev main_while3b_v327 : Ref sig .tc := ⟨.hbm, 457, rfl⟩
abbrev main_while3b_c_70 : Ref sig .tc := ⟨.hbm, 458, rfl⟩
abbrev main_while3b_v328 : Ref sig .tc := ⟨.hbm, 459, rfl⟩
abbrev main_v267 : Ref sig .tc := ⟨.hbm, 460, rfl⟩
abbrev main_c_52 : Ref sig .tc := ⟨.hbm, 461, rfl⟩
abbrev main_v268 : Ref sig .tc := ⟨.hbm, 462, rfl⟩
abbrev main_v269 : Ref sig .tc := ⟨.hbm, 463, rfl⟩
abbrev main_c_53 : Ref sig .tc := ⟨.hbm, 464, rfl⟩
abbrev main_v270 : Ref sig .tc := ⟨.hbm, 465, rfl⟩
abbrev main_v271 : Ref sig .tc := ⟨.hbm, 466, rfl⟩
abbrev main_v272 : Ref sig .tc := ⟨.hbm, 467, rfl⟩
abbrev main_c_54 : Ref sig .tc := ⟨.hbm, 468, rfl⟩
abbrev main_v273 : Ref sig .tc := ⟨.hbm, 469, rfl⟩
abbrev main_v274 : Ref sig .tc := ⟨.hbm, 470, rfl⟩
abbrev main_c_55 : Ref sig .tc := ⟨.hbm, 471, rfl⟩
abbrev main_v275 : Ref sig .tc := ⟨.hbm, 472, rfl⟩
abbrev main_v276 : Ref sig .tc := ⟨.hbm, 473, rfl⟩
abbrev main_v277 : Ref sig .tc := ⟨.hbm, 474, rfl⟩
abbrev main_v278 : Ref sig .tc := ⟨.hbm, 475, rfl⟩
abbrev main_v279 : Ref sig .tc := ⟨.hbm, 476, rfl⟩
abbrev main_v280 : Ref sig .tc := ⟨.hbm, 477, rfl⟩
abbrev main_v281 : Ref sig .tc := ⟨.hbm, 478, rfl⟩
abbrev main_v282 : Ref sig .tc := ⟨.hbm, 479, rfl⟩
abbrev main_c_56 : Ref sig .tc := ⟨.hbm, 480, rfl⟩
abbrev main_v283 : Ref sig .tc := ⟨.hbm, 481, rfl⟩
abbrev main_v284 : Ref sig .tc := ⟨.hbm, 482, rfl⟩
abbrev main_c_57 : Ref sig .tc := ⟨.hbm, 483, rfl⟩
abbrev main_v285 : Ref sig .tc := ⟨.hbm, 484, rfl⟩
abbrev main_v286 : Ref sig .tc := ⟨.hbm, 485, rfl⟩
abbrev main_v287 : Ref sig .tc := ⟨.hbm, 486, rfl⟩
abbrev main_v288 : Ref sig .tc := ⟨.hbm, 487, rfl⟩
abbrev main_v289 : Ref sig .tc := ⟨.hbm, 488, rfl⟩
abbrev main_c_58 : Ref sig .tc := ⟨.hbm, 489, rfl⟩
abbrev main_v290 : Ref sig .tc := ⟨.hbm, 490, rfl⟩
abbrev main_v291 : Ref sig .tc := ⟨.hbm, 491, rfl⟩
abbrev main_c_59 : Ref sig .tc := ⟨.hbm, 492, rfl⟩
abbrev main_v292 : Ref sig .tc := ⟨.hbm, 493, rfl⟩
abbrev main_v293 : Ref sig .tc := ⟨.hbm, 494, rfl⟩
abbrev main_v294 : Ref sig .tc := ⟨.hbm, 495, rfl⟩
abbrev main_v295 : Ref sig .tc := ⟨.hbm, 496, rfl⟩
abbrev main_v296 : Ref sig .tc := ⟨.hbm, 497, rfl⟩
abbrev main_v297 : Ref sig .tc := ⟨.hbm, 498, rfl⟩
abbrev main_v298 : Ref sig .tc := ⟨.hbm, 499, rfl⟩
abbrev main_v299 : Ref sig .tc := ⟨.hbm, 500, rfl⟩
abbrev main_v300 : Ref sig .tc := ⟨.hbm, 501, rfl⟩
abbrev main_v301 : Ref sig .tc := ⟨.hbm, 502, rfl⟩
abbrev main_cst_60 : Ref sig .tc := ⟨.hbm, 503, rfl⟩
abbrev main_v302 : Ref sig .tc := ⟨.hbm, 504, rfl⟩
abbrev main_cst_61 : Ref sig .tc := ⟨.hbm, 505, rfl⟩
abbrev main_v303 : Ref sig .tc := ⟨.hbm, 506, rfl⟩
abbrev main_v304 : Ref sig .tc := ⟨.hbm, 507, rfl⟩
abbrev main_v305 : Ref sig .tc := ⟨.hbm, 508, rfl⟩
abbrev main_v306 : Ref sig .tc := ⟨.hbm, 509, rfl⟩
abbrev main_v307 : Ref sig .tc := ⟨.hbm, 510, rfl⟩
abbrev main_v308 : Ref sig .tc := ⟨.hbm, 511, rfl⟩
abbrev main_cst_62 : Ref sig .tc := ⟨.hbm, 512, rfl⟩
abbrev main_v309 : Ref sig .tc := ⟨.hbm, 513, rfl⟩
abbrev main_v310 : Ref sig .tc := ⟨.hbm, 514, rfl⟩
abbrev main_v311 : Ref sig .tc := ⟨.hbm, 515, rfl⟩
abbrev main_v312 : Ref sig .tc := ⟨.hbm, 516, rfl⟩

abbrev nD : Nat := 1
abbrev τ : Topo := Topo.v7x

variable {F : FTy → Type} [FloatOps F]

abbrev main_while0_count : Scf.Loop 32 := ⟨0#32, 24#32, 1#32⟩

abbrev main_while1_count : Scf.Loop 32 := ⟨0#32, 149#32, 1#32⟩

abbrev main_while2_count : Scf.Loop 32 := ⟨0#32, 399#32, 1#32⟩

abbrev main_while3_count : Scf.Loop 32 := ⟨0#32, 119#32, 1#32⟩
-- ==== Proof.Lines.lean ====
/-
  Running a program given as a list of segments (stretches of host operations, counted host loops, kernel regions),
  said once for every program of this certificate: if the segments lead from the buffers at launch to the buffers at
  `Vend`, then every execution ends, each unscoped buffer holds what `Vend` says, and every counter is back at zero.
-/
module

public import Idealize.ShloMosaic.Lib.StableHlo.RunLoop
public import Idealize.ShloMosaic.Lib.Scf.ExitTest
public import Idealize.ShloMosaic.Lib.Claim
public import Idealize.ShloMosaic.Lib.Tactic

@[expose] public section

noncomputable section

namespace Cert.Proof.Lines

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket PCfg ucRefs)

variable {nD : Nat} {τ : Topo} {sig : RefSig} {F : FTy → Type} {Λ₀ : Labels} {U : Type} [URA U]

local notation "𝕄" => MT nD τ sig Unit (Elt F) ℕ U ℕ

/-- No core owes another anything, so no cell carries a level. -/
abbrev L : GSem nD τ sig → Finset Unit := fun _ => ∅
abbrev lv : GSem nD τ sig → Unit → ℕ := fun _ _ => 0

/-- What travels beside the buffers: the core's account of what it owes, which stays zero. -/
abbrev Rw (c : Dev nD) : sProp 𝕄 := iprop(∃ W, owes (c : Thread nD τ) (0 : CellTallies nD τ sig Unit) W)

/-- The state between two segments: every unscoped buffer at `V c`, and the account. -/
abbrev At (V : Dev nD → Valuation τ sig (Elt F)) (c : Dev nD) : sProp 𝕄 :=
  iprop(held (c : Thread nD τ) (ucRefs τ sig) (V c) ∗ Rw c)

theorem run_to [∀ e, Nonempty (Elt F e)] {P : Type} [Fintype P] [DecidableEq P]
    (pcs : P → PCfg sig Λ₀ (Elt F)) (a : (p : P) → (pcs p).Adm)
    (phinj : Function.Injective (Pipeline.cellOf (nD := nD) (τ := τ) (Pipeline.pin pcs a)))
    (defs₀ : Defs nD τ sig (Elt F) Λ₀) {nL : Nat}
    (loops : Fin nL → Prog (TpuEff nD τ sig (Elt F) (HostLoop.Sig (Pipeline.Sig Λ₀ P fun p => (pcs p).Adm) nL) .tc) PUnit)
    {J : Type} [DecidableEq J] [Fintype J]
    (tk : J → Ticket (Ix := Unit) (Name := ℕ) (U := U) (Lvl := ℕ) (nD := nD) (τ := τ) pcs a)
    (m : (ℓ : Loc nD τ sig) → Buf (Elt F) ℓ) (ρ : Dev nD → PrngReg)
    (main : Dev nD → Prog (TpuEff nD τ sig (Elt F) (HostLoop.Sig (Pipeline.Sig Λ₀ P fun p => (pcs p).Adm) nL) .tc) PUnit)
    (segs : List (CSeg pcs a defs₀ Variants.none L lv loops tk))
    (hmain : ∀ c, main c = Pipeline.chain (segs.map CSeg.prog))
    (hdis : segs.Pairwise fun s s' => Disjoint s.T s'.T) (u₀ : U)
    (hu₀ : (ownU u₀ : sProp 𝕄) ⊢ bigSep Finset.univ fun j => BI.own ((tk j).EP (initOf (Pipeline.cells (Pipeline.pin pcs a) phinj) (Pipeline.launchToks (Pipeline.pin pcs a) phinj))))
    (Vend : Dev nD → Valuation τ sig (Elt F))
    (hch : CSeg.Chains (At (launchContents m)) segs (At Vend))
    (hsem : ∀ g : GSem nD τ sig, g.1.2 ≠ .tc ∨ g.2.isScoped .tc = true) :
    θ_run (HostLoop.defs loops (Pipeline.defs pcs defs₀)) (onTc (τ := τ) main) ⟨m, fun _ => 0, ρ⟩
      (fun r => (∀ (c : Dev nD) (b : Ref sig .tc), (Proc.devRef .tc b : DevRef τ sig).isScoped = false →
          r.2.mem ((c.tc : Thread nD τ).loc b) = Vend c (Proc.devRef .tc b)) ∧ r.2.sem = fun _ => 0) :=
  Pipeline.θ_run_regions_loop_kit_sems (Ix := Unit) (Name := ℕ) (U := U) (Lvl := ℕ) (J := J) (Val := Elt F)
    pcs a phinj defs₀ Variants.none L lv loops tk m ρ main segs
    (fun c Q => by rw [hmain c]; exact .rfl)
    hdis (O₀ := 0) (hL := fun _ _ => rfl) (G := fun _ => iprop(emp)) (u₀ := u₀)
    (hu₀ := by
      refine hu₀.trans ?_
      iintro H
      imodintro
      isplitl [H]; · iexact H
      iapply (show (BI.emp : sProp 𝕄) ⊢ bigSep Finset.univ (fun _ : Dev nD => (BI.emp : sProp 𝕄)) from by rw [BI.bigSep_emp_const])
      iempintro)
    (T₀ := At (launchContents m))
    (Tₙ := fun c => held (c : Thread nD τ) (ucRefs τ sig) (Vend c))
    (hch := hch)
    (hinit := by
      refine Pipeline.initEach L lv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Vend c b)
    (hfin := fun c s' => by
      unfold held
      iintro ⟨Hh, HSI⟩
      ihave Hr := (pointsTo_read_all (ucRefs τ sig) (fun b => ((c : Dev nD), b)) (fun b => Vend c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (hsem g)⟩)

/-- A buffer each trip of a counted loop maps by `g` holds, before trip `k`, `g` applied `k` times to its first contents. -/
theorem atTrip_iterate {condOps : List (HloOp τ sig (Elt F))} {bodyI : List (List (HloOp τ sig (Elt F)))}
    {W₀ : Dev nD → Valuation τ sig (Elt F)} {b : DevRef τ sig} (g : b.ty.Contents (Elt F) → b.ty.Contents (Elt F))
    (h : ∀ X, afterL bodyI (after condOps X) b = g (X b)) (c : Dev nD) :
    ∀ k, atTrip condOps bodyI W₀ k c b = g^[k] (W₀ c b)
  | 0 => rfl
  | k + 1 => by
    rw [atTrip_succ, h, atTrip_iterate g h c k, Function.iterate_succ_apply']

/-- Adding one `k` times to zero is the word `k`. -/
theorem count_iterate {ι : Type} (k : ℕ) :
    (fun x : ι → BitVec 32 => fun i => x i + 1#32)^[k] (fun _ => 0#32) = fun _ => BitVec.ofNat 32 k := by
  induction k with
  | zero => rfl
  | succ k ih =>
    rw [Function.iterate_succ_apply', ih]
    funext i
    rw [BitVec.ofNat_add]

/-- The loop's exit test: as words below `2^31`, `k` is less than `n` exactly when it is as a number. -/
theorem pred_iff (k n : ℕ) (hk : k ≤ n) (hn : n < 2 ^ 31) :
    IntOp.cmpi .slt (BitVec.ofNat 32 k) (BitVec.ofNat 32 n) = 1#1 ↔ k < n := by
  have hb : ∀ j, j ≤ n → (BitVec.ofNat 32 j).toInt = j := fun j hj => by
    rw [BitVec.toInt_eq_toNat_of_lt (by rw [BitVec.toNat_ofNat]; omega), BitVec.toNat_ofNat, Nat.mod_eq_of_lt (by omega)]
  show BitVec.ofBool ((BitVec.ofNat 32 k).slt (BitVec.ofNat 32 n)) = 1#1 ↔ k < n
  rw [BitVec.slt_eq_decide, hb k hk, hb n le_rfl]
  by_cases h : k < n
  · simp [h]
  · simp [h]

/-! ## Buffers no operation of a stretch writes -/

/-- The stretch leaves each buffer of `bs` as it found it. -/
def Keeps (bs : List (Ref sig .tc)) (ops : List (HloOp τ sig (Elt F))) : Prop :=
  ∀ b ∈ bs, ∀ V : Valuation τ sig (Elt F), after ops V (Proc.devRef .tc b) = V (Proc.devRef .tc b)

/-- It does so when `bs` has none of the references `W` its operations write, in order. -/
theorem Keeps.of {bs : List (Ref sig .tc)} {ops : List (HloOp τ sig (Elt F))} (W : List (Ref sig .tc))
    (hW : ops.map HloOp.writes = W.map fun w => {Proc.devRef (τ := τ) .tc w}) (hbs : ∀ b ∈ bs, b ∉ W) : Keeps bs ops :=
  fun b hb V => after_of_writes_sub ops V (forall_writes_sub_of_map hW) (hbs b hb)

/-- The same of a list of stretches. -/
def KeepsL (bs : List (Ref sig .tc)) (items : List (List (HloOp τ sig (Elt F)))) : Prop := ∀ ops ∈ items, Keeps bs ops

theorem KeepsL.nil {bs : List (Ref sig .tc)} : KeepsL bs ([] : List (List (HloOp τ sig (Elt F)))) := fun _ h => nomatch h

theorem KeepsL.cons {bs : List (Ref sig .tc)} {ops : List (HloOp τ sig (Elt F))} {items : List (List (HloOp τ sig (Elt F)))}
    (h : Keeps bs ops) (hs : KeepsL bs items) : KeepsL bs (ops :: items) := fun o ho => by
  rcases List.mem_cons.mp ho with rfl | ho
  · exact h
  · exact hs o ho

theorem KeepsL.afterL {bs : List (Ref sig .tc)} : ∀ {items : List (List (HloOp τ sig (Elt F)))}, KeepsL bs items → ∀ b ∈ bs,
    ∀ V : Valuation τ sig (Elt F), StableHlo.afterL items V (Proc.devRef .tc b) = V (Proc.devRef .tc b)
  | [], _, _, _, _ => rfl
  | ops :: items, h, b, hb, V => by
    rw [afterL_cons, KeepsL.afterL (fun o ho => h o (List.mem_cons_of_mem _ ho)) b hb, h ops List.mem_cons_self b hb]

/-- A counted loop keeps what its exit test and its body keep. -/
theorem KeepsL.loop {bs : List (Ref sig .tc)} {condOps : List (HloOp τ sig (Elt F))} {bodyI : List (List (HloOp τ sig (Elt F)))}
    (hc : Keeps bs condOps) (hb : KeepsL bs bodyI) (W₀ : Dev nD → Valuation τ sig (Elt F)) (c : Dev nD) (b : Ref sig .tc) (h : b ∈ bs) :
    ∀ k, after condOps (atTrip condOps bodyI W₀ k c) (Proc.devRef .tc b) = W₀ c (Proc.devRef .tc b)
  | 0 => by rw [hc b h, atTrip_zero]
  | k + 1 => by rw [hc b h, atTrip_succ, hb.afterL b h, KeepsL.loop hc hb W₀ c b h k]

end Cert.Proof.Lines

end
-- ==== Proof.KernelIdealFacts.lean ====
/-
  The host part of the idealized kernel program, up to the point where the kernel region is entered: its
  operation stretches and its four counted loops as segments, what every buffer holds along the way (`E0`, `X0`, `E1`,
  … : contents on entering and on leaving each loop), the loops' counters and exit tests, and the fact that no argument
  is ever written.
-/
module

public import proofs.«01_k».proof.Proof.Lines
public import Idealize.ShloMosaic.Lib.StableHlo.RunRead
public import proofs.«01_k».proof.Proof.Gen.KernelIdeal.Launch

@[expose] public section

set_option maxRecDepth 8000

noncomputable section

namespace Cert.Proof.KernelIdealHost

open Cert.KernelIdeal Cert.KernelIdeal.Gen
open Cert.Proof.Lines
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket)

variable {F : FTy → Type} [FloatOps F]

/-- The program's arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16]

/-- Loop 0's exit test: the bound `24` and the comparison of the counter with it. -/
abbrev cond0 : List (HloOp τ sig (Elt F)) :=
  [ nullary main_while0c_c_63 (constantI S_ 32 24#32),
    binary main_v89_2 main_while0c_c_63 main_while0c_v299 (cmpi .slt) ]

/-- Loop 0's body. -/
abbrev body0 : List (List (HloOp τ sig (Elt F))) := [while0Ops0, while0Ops0_1]

/-- Loop 1's exit test: the bound `149` and the comparison of the counter with it. -/
abbrev cond1 : List (HloOp τ sig (Elt F)) :=
  [ nullary main_while1c_c_63 (constantI S_ 32 149#32),
    binary main_v167_2 main_while1c_c_63 main_while1c_v299 (cmpi .slt) ]

/-- Loop 1's body. -/
abbrev body1 : List (List (HloOp τ sig (Elt F))) := [while1Ops0, while1Ops0_1]

/-- Loop 2's exit test: the bound `399` and the comparison of the counter with it. -/
abbrev cond2 : List (HloOp τ sig (Elt F)) :=
  [ nullary main_while2c_c_63 (constantI S_ 32 399#32),
    binary main_v219_2 main_while2c_c_63 main_while2c_v299 (cmpi .slt) ]

/-- Loop 2's body. -/
abbrev body2 : List (List (HloOp τ sig (Elt F))) := [while2Ops0, while2Ops0_1]

/-- Loop 3's exit test: the bound `119` and the comparison of the counter with it. -/
abbrev cond3 : List (HloOp τ sig (Elt F)) :=
  [ nullary main_while3c_c_63 (constantI S_ 32 119#32),
    binary main_v266_2 main_while3c_c_63 main_while3c_v299 (cmpi .slt) ]

/-- Loop 3's body. -/
abbrev body3 : List (List (HloOp τ sig (Elt F))) := [while3Ops0, while3Ops0_1]

/-- The stretches before loop 0. -/
abbrev line0 : List (List (HloOp τ sig (Elt F))) := [main_part0_ops0, main_part0_ops1, main_part0_ops2, main_part1_ops0, main_part1_ops1, main_part1_ops2]

/-- The stretches between loops 0 and 1. -/
abbrev line1 : List (List (HloOp τ sig (Elt F))) := [main_part1_ops3, main_part2_ops0, main_part3_ops0, main_part3_ops1, main_part3_ops2]

/-- The stretches between loops 1 and 2. -/
abbrev line2 : List (List (HloOp τ sig (Elt F))) := [main_part3_ops3, main_part4_ops0, main_part4_ops1, main_part4_ops2]

/-- The stretches between loops 2 and 3. -/
abbrev line3 : List (List (HloOp τ sig (Elt F))) := [main_part4_ops3, main_part5_ops0, main_part5_ops1, main_part5_ops2]

/-- The stretches after loop 3. -/
abbrev line4 : List (List (HloOp τ sig (Elt F))) := [main_part5_ops3, main_part6_ops0]

/-! ## The stretches allocate nothing, stay within the core's own buffers, and write no argument -/

theorem keeps_main_part0_ops0 : Keeps args (main_part0_ops0 (F := F)) :=
  .of [main_v0, main_v1, main_v2, main_c, main_v3, main_v4, main_v5, main_v6, main_v7, main_v8, main_v9, main_v10, main_c_0, main_v11, main_v12, main_c_1, main_v13, main_v14, main_v15, main_v16, main_v17, main_c_2, main_v18, main_v19, main_c_3, main_v20, main_v21, main_v22, main_v23, main_v24, main_v25, main_v26, main_v27, main_v28, main_v29, main_v30, main_v31, main_v32, main_v33, main_cst, main_v34] rfl (by decide +kernel)

theorem keeps_main_part0_ops1 : Keeps args (main_part0_ops1 (F := F)) :=
  .of [main_call0_v0, main_call0_cst, main_call0_c, main_call0_v1_0, main_v35] rfl (by decide +kernel)

theorem keeps_main_part0_ops2 : Keeps args (main_part0_ops2 (F := F)) :=
  .of [main_v36, main_v37, main_v38, main_c_4, main_v39, main_v40, main_v41, main_v42, main_v43, main_v44, main_v45, main_v46, main_c_5, main_v47, main_v48, main_c_6, main_v49, main_v50] rfl (by decide +kernel)

theorem keeps_main_part1_ops0 : Keeps args (main_part1_ops0 (F := F)) :=
  .of [main_v51, main_v52, main_v53, main_c_7, main_v54, main_v55, main_c_8, main_v56, main_v57, main_v58, main_v59, main_v60, main_v61, main_v62, main_v63, main_v64, main_v65, main_c_9, main_v66, main_v67, main_c_10, main_v68, main_v69, main_v70, main_c_11, main_v71, main_v72, main_c_12, main_v73, main_v74, main_v75, main_v76, main_v77, main_v78, main_v79, main_v80, main_v81, main_v82] rfl (by decide +kernel)

theorem keeps_main_part1_ops1 : Keeps args (main_part1_ops1 (F := F)) :=
  .of [main_v83] rfl (by decide +kernel)

theorem keeps_main_part1_ops2 : Keeps args (main_part1_ops2 (F := F)) :=
  .of [main_v84, main_v85, main_v86, main_v87, main_v88, main_c_13, main_v89_0, main_v89_1, main_v89_2, main_v89_3] rfl (by decide +kernel)

theorem keeps_main_part1_ops3 : Keeps args (main_part1_ops3 (F := F)) :=
  .of [main_v90, main_v91, main_c_14, main_v92, main_v93, main_c_15, main_v94, main_v95, main_v96, main_c_16] rfl (by decide +kernel)

theorem keeps_main_part2_ops0 : Keeps args (main_part2_ops0 (F := F)) :=
  .of [main_v97, main_v98, main_c_17, main_v99, main_v100, main_v101, main_v102, main_v103, main_v104, main_v105, main_v106, main_v107, main_v108, main_c_18, main_v109, main_v110, main_c_19, main_v111, main_v112, main_v113, main_v114, main_v115, main_v116, main_c_20, main_v117, main_v118, main_v119, main_v120, main_v121, main_v122, main_v123, main_v124, main_c_21, main_v125, main_v126, main_c_22, main_v127, main_v128, main_v129, main_v130, main_v131, main_c_23, main_v132, main_v133, main_c_24, main_v134, main_v135, main_v136, main_v137, main_v138, main_v139, main_v140, main_v141, main_v142, main_v143, main_c_25, main_v144, main_v145, main_c_26, main_v146] rfl (by decide +kernel)

theorem keeps_main_part3_ops0 : Keeps args (main_part3_ops0 (F := F)) :=
  .of [main_v147, main_v148, main_c_27, main_v149, main_v150, main_c_28, main_v151, main_v152, main_v153, main_v154, main_v155, main_v156, main_v157, main_v158, main_v159, main_v160] rfl (by decide +kernel)

theorem keeps_main_part3_ops1 : Keeps args (main_part3_ops1 (F := F)) :=
  .of [main_v161] rfl (by decide +kernel)

theorem keeps_main_part3_ops2 : Keeps args (main_part3_ops2 (F := F)) :=
  .of [main_v162, main_v163, main_v164, main_v165, main_v166, main_c_29, main_v167_0, main_v167_1, main_v167_2, main_v167_3] rfl (by decide +kernel)

theorem keeps_main_part3_ops3 : Keeps args (main_part3_ops3 (F := F)) :=
  .of [main_v168, main_v169, main_c_30, main_v170, main_v171, main_c_31, main_v172, main_v173, main_v174, main_c_32, main_v175, main_v176, main_c_33, main_v177, main_v178, main_v179, main_v180, main_v181, main_v182, main_v183, main_v184, main_v185, main_v186, main_c_34, main_v187, main_v188, main_c_35, main_v189, main_v190, main_v191, main_v192, main_v193] rfl (by decide +kernel)

theorem keeps_main_part4_ops0 : Keeps args (main_part4_ops0 (F := F)) :=
  .of [main_v194, main_v195, main_v196, main_c_36, main_v197, main_v198, main_c_37, main_v199, main_v200, main_v201, main_c_38, main_v202, main_v203, main_c_39, main_v204, main_v205, main_v206, main_v207, main_v208, main_v209, main_v210, main_v211, main_v212] rfl (by decide +kernel)

theorem keeps_main_part4_ops1 : Keeps args (main_part4_ops1 (F := F)) :=
  .of [main_v213] rfl (by decide +kernel)

theorem keeps_main_part4_ops2 : Keeps args (main_part4_ops2 (F := F)) :=
  .of [main_v214, main_v215, main_v216, main_v217, main_v218, main_c_40, main_v219_0, main_v219_1, main_v219_2, main_v219_3] rfl (by decide +kernel)

theorem keeps_main_part4_ops3 : Keeps args (main_part4_ops3 (F := F)) :=
  .of [main_v220, main_c_41, main_v221, main_v222, main_c_42, main_v223, main_v224, main_v225, main_c_43, main_v226, main_v227, main_c_44, main_v228, main_v229, main_v230, main_v231, main_v232, main_v233, main_v234, main_v235, main_c_45, main_v236, main_v237, main_c_46, main_v238] rfl (by decide +kernel)

theorem keeps_main_part5_ops0 : Keeps args (main_part5_ops0 (F := F)) :=
  .of [main_v239, main_v240, main_v241, main_v242, main_v243, main_c_47, main_v244, main_v245, main_c_48, main_v246, main_v247, main_v248, main_c_49, main_v249, main_v250, main_c_50, main_v251, main_v252, main_v253, main_v254, main_v255, main_v256, main_v257, main_v258, main_v259] rfl (by decide +kernel)

theorem keeps_main_part5_ops1 : Keeps args (main_part5_ops1 (F := F)) :=
  .of [main_v260] rfl (by decide +kernel)

theorem keeps_main_part5_ops2 : Keeps args (main_part5_ops2 (F := F)) :=
  .of [main_v261, main_v262, main_v263, main_v264, main_v265, main_c_51, main_v266_0, main_v266_1, main_v266_2, main_v266_3] rfl (by decide +kernel)

theorem keeps_main_part5_ops3 : Keeps args (main_part5_ops3 (F := F)) :=
  .of [main_v267, main_c_52, main_v268, main_v269, main_c_53, main_v270, main_v271, main_v272, main_c_54, main_v273, main_v274, main_c_55, main_v275, main_v276, main_v277, main_v278, main_v279, main_v280, main_v281, main_v282, main_c_56, main_v283, main_v284] rfl (by decide +kernel)

theorem keeps_main_part6_ops0 : Keeps args (main_part6_ops0 (F := F)) :=
  .of [main_c_57, main_v285, main_v286, main_v287, main_v288, main_v289, main_c_58, main_v290, main_v291, main_c_59, main_v292, main_v293, main_v294, main_v295, main_v296, main_v297] rfl (by decide +kernel)

theorem keeps_while0Ops0 : Keeps args (while0Ops0 (F := F)) :=
  .of [main_while0b_call2_c, main_while0b_call2_c_0, main_while0b_call2_c_1, main_while0b_call2_v0, main_while0b_v299] rfl (by decide +kernel)

theorem keeps_while0Ops0_1 : Keeps args (while0Ops0_1 (F := F)) :=
  .of [main_while0b_c_63, main_while0b_v300, main_while0b_v301, main_while0b_c_64, main_while0b_v302, main_while0b_v303, main_while0b_v304, main_while0b_c_65, main_while0b_v305, main_while0b_v306, main_while0b_c_66, main_while0b_v307, main_while0b_v308, main_while0b_v309, main_while0b_v310, main_while0b_v311, main_while0b_v312, main_while0b_v313, main_while0b_c_67, main_while0b_v314, main_v89_2, main_v89_3] rfl (by decide +kernel)

theorem keeps_while1Ops0 : Keeps args (while1Ops0 (F := F)) :=
  .of [main_while1b_call4_c, main_while1b_call4_c_0, main_while1b_call4_c_1, main_while1b_call4_v0, main_while1b_v299] rfl (by decide +kernel)

theorem keeps_while1Ops0_1 : Keeps args (while1Ops0_1 (F := F)) :=
  .of [main_while1b_c_63, main_while1b_v300, main_while1b_v301, main_while1b_c_64, main_while1b_v302, main_while1b_v303, main_while1b_v304, main_while1b_c_65, main_while1b_v305, main_while1b_v306, main_while1b_c_66, main_while1b_v307, main_while1b_v308, main_while1b_v309, main_while1b_v310, main_while1b_v311, main_while1b_v312, main_while1b_v313, main_while1b_c_67, main_while1b_v314, main_v167_2, main_v167_3] rfl (by decide +kernel)

theorem keeps_while2Ops0 : Keeps args (while2Ops0 (F := F)) :=
  .of [main_while2b_call6_c, main_while2b_call6_c_0, main_while2b_call6_v0, main_while2b_v299] rfl (by decide +kernel)

theorem keeps_while2Ops0_1 : Keeps args (while2Ops0_1 (F := F)) :=
  .of [main_while2b_c_63, main_while2b_v300, main_while2b_v301, main_while2b_c_64, main_while2b_v302, main_while2b_v303, main_while2b_v304, main_while2b_c_65, main_while2b_v305, main_while2b_v306, main_while2b_c_66, main_while2b_v307, main_while2b_v308, main_while2b_v309, main_while2b_v310, main_while2b_v311, main_while2b_v312, main_while2b_v313, main_while2b_c_67, main_while2b_v314, main_v219_2, main_v219_3] rfl (by decide +kernel)

theorem keeps_while3Ops0 : Keeps args (while3Ops0 (F := F)) :=
  .of [main_while3b_call8_c, main_while3b_call8_c_0, main_while3b_call8_v0, main_while3b_v299] rfl (by decide +kernel)

theorem keeps_while3Ops0_1 : Keeps args (while3Ops0_1 (F := F)) :=
  .of [main_while3b_c_63, main_while3b_v300, main_while3b_v301, main_while3b_c_64, main_while3b_v302, main_while3b_v303, main_while3b_v304, main_while3b_c_65, main_while3b_v305, main_while3b_v306, main_while3b_c_66, main_while3b_v307, main_while3b_v308, main_while3b_v309, main_while3b_v310, main_while3b_v311, main_while3b_v312, main_while3b_v313, main_while3b_c_67, main_while3b_v314, main_v266_2, main_v266_3] rfl (by decide +kernel)

theorem keeps_cond0 : Keeps args (cond0 (F := F)) :=
  .of [main_while0c_c_63, main_while0c_v299] rfl (by decide +kernel)

theorem keeps_cond1 : Keeps args (cond1 (F := F)) :=
  .of [main_while1c_c_63, main_while1c_v299] rfl (by decide +kernel)

theorem keeps_cond2 : Keeps args (cond2 (F := F)) :=
  .of [main_while2c_c_63, main_while2c_v299] rfl (by decide +kernel)

theorem keeps_cond3 : Keeps args (cond3 (F := F)) :=
  .of [main_while3c_c_63, main_while3c_v299] rfl (by decide +kernel)

theorem plain_line0 : Plain (line0 (F := F)) :=
  .cons main_part0_ops0_sub (.cons main_part0_ops1_sub (.cons main_part0_ops2_sub (.cons main_part1_ops0_sub (.cons main_part1_ops1_sub (.cons main_part1_ops2_sub .nil (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))

theorem keeps_line0 : KeepsL args (line0 (F := F)) :=
  .cons keeps_main_part0_ops0 (.cons keeps_main_part0_ops1 (.cons keeps_main_part0_ops2 (.cons keeps_main_part1_ops0 (.cons keeps_main_part1_ops1 (.cons keeps_main_part1_ops2 .nil)))))

theorem plain_line1 : Plain (line1 (F := F)) :=
  .cons main_part1_ops3_sub (.cons main_part2_ops0_sub (.cons main_part3_ops0_sub (.cons main_part3_ops1_sub (.cons main_part3_ops2_sub .nil (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))

theorem keeps_line1 : KeepsL args (line1 (F := F)) :=
  .cons keeps_main_part1_ops3 (.cons keeps_main_part2_ops0 (.cons keeps_main_part3_ops0 (.cons keeps_main_part3_ops1 (.cons keeps_main_part3_ops2 .nil))))

theorem plain_line2 : Plain (line2 (F := F)) :=
  .cons main_part3_ops3_sub (.cons main_part4_ops0_sub (.cons main_part4_ops1_sub (.cons main_part4_ops2_sub .nil (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))

theorem keeps_line2 : KeepsL args (line2 (F := F)) :=
  .cons keeps_main_part3_ops3 (.cons keeps_main_part4_ops0 (.cons keeps_main_part4_ops1 (.cons keeps_main_part4_ops2 .nil)))

theorem plain_line3 : Plain (line3 (F := F)) :=
  .cons main_part4_ops3_sub (.cons main_part5_ops0_sub (.cons main_part5_ops1_sub (.cons main_part5_ops2_sub .nil (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))

theorem keeps_line3 : KeepsL args (line3 (F := F)) :=
  .cons keeps_main_part4_ops3 (.cons keeps_main_part5_ops0 (.cons keeps_main_part5_ops1 (.cons keeps_main_part5_ops2 .nil)))

theorem plain_line4 : Plain (line4 (F := F)) :=
  .cons main_part5_ops3_sub (.cons main_part6_ops0_sub .nil (List.forall_iff_forall_mem.mp (forall_fresh_of_map rfl))) (List.forall_iff_forall_mem.mp (forall_fresh_of_map rfl))

theorem keeps_line4 : KeepsL args (line4 (F := F)) :=
  .cons keeps_main_part5_ops3 (.cons keeps_main_part6_ops0 .nil)

theorem plain_body0 : Plain (body0 (F := F)) :=
  .cons while0Ops0_sub (.cons while0Ops0_1_sub .nil (List.forall_iff_forall_mem.mp (forall_fresh_of_map rfl))) (List.forall_iff_forall_mem.mp (forall_fresh_of_map rfl))

theorem keeps_body0 : KeepsL args (body0 (F := F)) :=
  .cons keeps_while0Ops0 (.cons keeps_while0Ops0_1 .nil)

theorem plain_body1 : Plain (body1 (F := F)) :=
  .cons while1Ops0_sub (.cons while1Ops0_1_sub .nil (List.forall_iff_forall_mem.mp (forall_fresh_of_map rfl))) (List.forall_iff_forall_mem.mp (forall_fresh_of_map rfl))

theorem keeps_body1 : KeepsL args (body1 (F := F)) :=
  .cons keeps_while1Ops0 (.cons keeps_while1Ops0_1 .nil)

theorem plain_body2 : Plain (body2 (F := F)) :=
  .cons while2Ops0_sub (.cons while2Ops0_1_sub .nil (List.forall_iff_forall_mem.mp (forall_fresh_of_map rfl))) (List.forall_iff_forall_mem.mp (forall_fresh_of_map rfl))

theorem keeps_body2 : KeepsL args (body2 (F := F)) :=
  .cons keeps_while2Ops0 (.cons keeps_while2Ops0_1 .nil)

theorem plain_body3 : Plain (body3 (F := F)) :=
  .cons while3Ops0_sub (.cons while3Ops0_1_sub .nil (List.forall_iff_forall_mem.mp (forall_fresh_of_map rfl))) (List.forall_iff_forall_mem.mp (forall_fresh_of_map rfl))

theorem keeps_body3 : KeepsL args (body3 (F := F)) :=
  .cons keeps_while3Ops0 (.cons keeps_while3Ops0_1 .nil)

end Cert.Proof.KernelIdealHost

end
-- ==== Proof.KernelIdealHost.lean ====
/-
  The host part of the idealized kernel program, up to the point where the kernel region is entered: its
  operation stretches and its four counted loops as segments, what every buffer holds along the way (`E0`, `X0`, `E1`,
  … : contents on entering and on leaving each loop), the loops' counters and exit tests, and the fact that no argument
  is ever written.
-/
module

public import proofs.«01_k».proof.Proof.KernelIdealFacts
public import Idealize.ShloMosaic.Lib.StableHlo.RunRead
public import proofs.«01_k».proof.Proof.Gen.KernelIdeal.Launch

@[expose] public section

set_option maxRecDepth 8000

noncomputable section

namespace Cert.Proof.KernelIdealHost

open Cert.KernelIdeal Cert.KernelIdeal.Gen
open Cert.Proof.Lines
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket)

variable {F : FTy → Type} [FloatOps F]

/-! ## The counters and the exit tests -/

/-- Loop 0's counter is zero where the stretch before the loop ends, -/
theorem start0 (X : Valuation τ sig (Elt F)) : after main_part1_ops2 X main_v89_2 = fun _ => (0#32 : BitVec 32) := by
  after_reads_simp
  rfl

/-- one trip adds one to it, -/
theorem step0 (X : Valuation τ sig (Elt F)) :
    afterL body0 (after cond0 X) main_v89_2 = addi (X main_v89_2) (constantI S_ 32 1#32) := by
  show after while0Ops0_1 (after while0Ops0 (after cond0 X)) main_v89_2 = _
  after_reads_simp
  rfl

/-- so it counts the trips, -/
theorem count0 (W₀ : Dev nD → Valuation τ sig (Elt F)) (h0 : ∀ c, W₀ c main_v89_2 = fun _ => (0#32 : BitVec 32)) (c : Dev nD) (k : ℕ) :
    atTrip cond0 body0 W₀ k c main_v89_2 = fun _ => (BitVec.ofNat 32 k : BitVec 32) :=
  (atTrip_iterate (W₀ := W₀) (b := Proc.devRef .tc main_v89_2) (fun x => addi x (constantI S_ 32 1#32)) step0 c k).trans
    ((congrArg _ (h0 c)).trans (count_iterate k))

-- the rule for one operation is stated for any thread; using it at the TensorCore's needs plain definitions unfolded
set_option backward.isDefEq.respectTransparency.types false in
/-- and the exit test lets exactly 24 trips through. -/
theorem test0 {U : Type} [URA U] (W₀ : Dev nD → Valuation τ sig (Elt F)) (h0 : ∀ c, W₀ c main_v89_2 = fun _ => (0#32 : BitVec 32)) :
    LoopCond (Ix := Unit) (Name := ℕ) (U := U) (Lvl := ℕ) (pcfgs (F := F)) defs₀ Variants.none loops Rw main_while0_cond cond0 body0 W₀ 24 := by
  intro k hk c bd
  have hctr := count0 W₀ h0 c k
  unfold main_while0_cond
  rw [wp_bind]
  iintro ⟨Hb, Hh, HR⟩
  iapply (StableHlo.wp_hlo_within (Variants.lift Variants.none) (c : Thread nD τ) bd Set.univ (Pipeline.sub_ucRefs _ (nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (Pipeline.sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip cond0 body0 W₀ k c) main_v89_2 HostLoop.idx0)
        (HloOp.result _ (atTrip cond0 body0 W₀ k c) main_while0c_c_63 HostLoop.idx0) = 1#1) (k < 24)
    rw [nullary_result_ne _ _ _ _ (by decide), nullary_result, hctr]
    exact pred_iff k 24 hk (by decide)
  isplitl [Hb]; · iexact Hb
  isplitl [Hh]; · rw [after_cons, after_cons, after_nil]; iexact Hh
  iexact HR

/-- Loop 1's counter is zero where the stretch before the loop ends, -/
theorem start1 (X : Valuation τ sig (Elt F)) : after main_part3_ops2 X main_v167_2 = fun _ => (0#32 : BitVec 32) := by
  after_reads_simp
  rfl

/-- one trip adds one to it, -/
theorem step1 (X : Valuation τ sig (Elt F)) :
    afterL body1 (after cond1 X) main_v167_2 = addi (X main_v167_2) (constantI S_ 32 1#32) := by
  show after while1Ops0_1 (after while1Ops0 (after cond1 X)) main_v167_2 = _
  after_reads_simp
  rfl

/-- so it counts the trips, -/
theorem count1 (W₀ : Dev nD → Valuation τ sig (Elt F)) (h0 : ∀ c, W₀ c main_v167_2 = fun _ => (0#32 : BitVec 32)) (c : Dev nD) (k : ℕ) :
    atTrip cond1 body1 W₀ k c main_v167_2 = fun _ => (BitVec.ofNat 32 k : BitVec 32) :=
  (atTrip_iterate (W₀ := W₀) (b := Proc.devRef .tc main_v167_2) (fun x => addi x (constantI S_ 32 1#32)) step1 c k).trans
    ((congrArg _ (h0 c)).trans (count_iterate k))

-- the rule for one operation is stated for any thread; using it at the TensorCore's needs plain definitions unfolded
set_option backward.isDefEq.respectTransparency.types false in
/-- and the exit test lets exactly 149 trips through. -/
theorem test1 {U : Type} [URA U] (W₀ : Dev nD → Valuation τ sig (Elt F)) (h0 : ∀ c, W₀ c main_v167_2 = fun _ => (0#32 : BitVec 32)) :
    LoopCond (Ix := Unit) (Name := ℕ) (U := U) (Lvl := ℕ) (pcfgs (F := F)) defs₀ Variants.none loops Rw main_while1_cond cond1 body1 W₀ 149 := by
  intro k hk c bd
  have hctr := count1 W₀ h0 c k
  unfold main_while1_cond
  rw [wp_bind]
  iintro ⟨Hb, Hh, HR⟩
  iapply (StableHlo.wp_hlo_within (Variants.lift Variants.none) (c : Thread nD τ) bd Set.univ (Pipeline.sub_ucRefs _ (nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (Pipeline.sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip cond1 body1 W₀ k c) main_v167_2 HostLoop.idx0)
        (HloOp.result _ (atTrip cond1 body1 W₀ k c) main_while1c_c_63 HostLoop.idx0) = 1#1) (k < 149)
    rw [nullary_result_ne _ _ _ _ (by decide), nullary_result, hctr]
    exact pred_iff k 149 hk (by decide)
  isplitl [Hb]; · iexact Hb
  isplitl [Hh]; · rw [after_cons, after_cons, after_nil]; iexact Hh
  iexact HR

/-- Loop 2's counter is zero where the stretch before the loop ends, -/
theorem start2 (X : Valuation τ sig (Elt F)) : after main_part4_ops2 X main_v219_2 = fun _ => (0#32 : BitVec 32) := by
  after_reads_simp
  rfl

/-- one trip adds one to it, -/
theorem step2 (X : Valuation τ sig (Elt F)) :
    afterL body2 (after cond2 X) main_v219_2 = addi (X main_v219_2) (constantI S_ 32 1#32) := by
  show after while2Ops0_1 (after while2Ops0 (after cond2 X)) main_v219_2 = _
  after_reads_simp
  rfl

/-- so it counts the trips, -/
theorem count2 (W₀ : Dev nD → Valuation τ sig (Elt F)) (h0 : ∀ c, W₀ c main_v219_2 = fun _ => (0#32 : BitVec 32)) (c : Dev nD) (k : ℕ) :
    atTrip cond2 body2 W₀ k c main_v219_2 = fun _ => (BitVec.ofNat 32 k : BitVec 32) :=
  (atTrip_iterate (W₀ := W₀) (b := Proc.devRef .tc main_v219_2) (fun x => addi x (constantI S_ 32 1#32)) step2 c k).trans
    ((congrArg _ (h0 c)).trans (count_iterate k))

-- the rule for one operation is stated for any thread; using it at the TensorCore's needs plain definitions unfolded
set_option backward.isDefEq.respectTransparency.types false in
/-- and the exit test lets exactly 399 trips through. -/
theorem test2 {U : Type} [URA U] (W₀ : Dev nD → Valuation τ sig (Elt F)) (h0 : ∀ c, W₀ c main_v219_2 = fun _ => (0#32 : BitVec 32)) :
    LoopCond (Ix := Unit) (Name := ℕ) (U := U) (Lvl := ℕ) (pcfgs (F := F)) defs₀ Variants.none loops Rw main_while2_cond cond2 body2 W₀ 399 := by
  intro k hk c bd
  have hctr := count2 W₀ h0 c k
  unfold main_while2_cond
  rw [wp_bind]
  iintro ⟨Hb, Hh, HR⟩
  iapply (StableHlo.wp_hlo_within (Variants.lift Variants.none) (c : Thread nD τ) bd Set.univ (Pipeline.sub_ucRefs _ (nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (Pipeline.sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip cond2 body2 W₀ k c) main_v219_2 HostLoop.idx0)
        (HloOp.result _ (atTrip cond2 body2 W₀ k c) main_while2c_c_63 HostLoop.idx0) = 1#1) (k < 399)
    rw [nullary_result_ne _ _ _ _ (by decide), nullary_result, hctr]
    exact pred_iff k 399 hk (by decide)
  isplitl [Hb]; · iexact Hb
  isplitl [Hh]; · rw [after_cons, after_cons, after_nil]; iexact Hh
  iexact HR

/-- Loop 3's counter is zero where the stretch before the loop ends, -/
theorem start3 (X : Valuation τ sig (Elt F)) : after main_part5_ops2 X main_v266_2 = fun _ => (0#32 : BitVec 32) := by
  after_reads_simp
  rfl

/-- one trip adds one to it, -/
theorem step3 (X : Valuation τ sig (Elt F)) :
    afterL body3 (after cond3 X) main_v266_2 = addi (X main_v266_2) (constantI S_ 32 1#32) := by
  show after while3Ops0_1 (after while3Ops0 (after cond3 X)) main_v266_2 = _
  after_reads_simp
  rfl

/-- so it counts the trips, -/
theorem count3 (W₀ : Dev nD → Valuation τ sig (Elt F)) (h0 : ∀ c, W₀ c main_v266_2 = fun _ => (0#32 : BitVec 32)) (c : Dev nD) (k : ℕ) :
    atTrip cond3 body3 W₀ k c main_v266_2 = fun _ => (BitVec.ofNat 32 k : BitVec 32) :=
  (atTrip_iterate (W₀ := W₀) (b := Proc.devRef .tc main_v266_2) (fun x => addi x (constantI S_ 32 1#32)) step3 c k).trans
    ((congrArg _ (h0 c)).trans (count_iterate k))

-- the rule for one operation is stated for any thread; using it at the TensorCore's needs plain definitions unfolded
set_option backward.isDefEq.respectTransparency.types false in
/-- and the exit test lets exactly 119 trips through. -/
theorem test3 {U : Type} [URA U] (W₀ : Dev nD → Valuation τ sig (Elt F)) (h0 : ∀ c, W₀ c main_v266_2 = fun _ => (0#32 : BitVec 32)) :
    LoopCond (Ix := Unit) (Name := ℕ) (U := U) (Lvl := ℕ) (pcfgs (F := F)) defs₀ Variants.none loops Rw main_while3_cond cond3 body3 W₀ 119 := by
  intro k hk c bd
  have hctr := count3 W₀ h0 c k
  unfold main_while3_cond
  rw [wp_bind]
  iintro ⟨Hb, Hh, HR⟩
  iapply (StableHlo.wp_hlo_within (Variants.lift Variants.none) (c : Thread nD τ) bd Set.univ (Pipeline.sub_ucRefs _ (nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (Pipeline.sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip cond3 body3 W₀ k c) main_v266_2 HostLoop.idx0)
        (HloOp.result _ (atTrip cond3 body3 W₀ k c) main_while3c_c_63 HostLoop.idx0) = 1#1) (k < 119)
    rw [nullary_result_ne _ _ _ _ (by decide), nullary_result, hctr]
    exact pred_iff k 119 hk (by decide)
  isplitl [Hb]; · iexact Hb
  isplitl [Hh]; · rw [after_cons, after_cons, after_nil]; iexact Hh
  iexact HR

/-! ## What the buffers hold along the program -/

variable (m : (ℓ : Loc nD τ sig) → Buf (Elt F) ℓ)

/-- On entering loop 0, -/
def E0 (c : Dev nD) : Valuation τ sig (Elt F) := afterL line0 (launchContents m c)
/-- and on leaving it, 24 trips later. -/
def X0 (c : Dev nD) : Valuation τ sig (Elt F) := after cond0 (atTrip cond0 body0 (E0 m) 24 c)

/-- On entering loop 1, -/
def E1 (c : Dev nD) : Valuation τ sig (Elt F) := afterL line1 (X0 m c)
/-- and on leaving it, 149 trips later. -/
def X1 (c : Dev nD) : Valuation τ sig (Elt F) := after cond1 (atTrip cond1 body1 (E1 m) 149 c)

/-- On entering loop 2, -/
def E2 (c : Dev nD) : Valuation τ sig (Elt F) := afterL line2 (X1 m c)
/-- and on leaving it, 399 trips later. -/
def X2 (c : Dev nD) : Valuation τ sig (Elt F) := after cond2 (atTrip cond2 body2 (E2 m) 399 c)

/-- On entering loop 3, -/
def E3 (c : Dev nD) : Valuation τ sig (Elt F) := afterL line3 (X2 m c)
/-- and on leaving it, 119 trips later. -/
def X3 (c : Dev nD) : Valuation τ sig (Elt F) := after cond3 (atTrip cond3 body3 (E3 m) 119 c)

/-- At the end of the host part. -/
def Efin (c : Dev nD) : Valuation τ sig (Elt F) := afterL line4 (X3 m c)

theorem E0_start (c : Dev nD) : E0 m c main_v89_2 = fun _ => (0#32 : BitVec 32) := by
  unfold E0; exact start0 (F := F) _

theorem E1_start (c : Dev nD) : E1 m c main_v167_2 = fun _ => (0#32 : BitVec 32) := by
  unfold E1; exact start1 (F := F) _

theorem E2_start (c : Dev nD) : E2 m c main_v219_2 = fun _ => (0#32 : BitVec 32) := by
  unfold E2; exact start2 (F := F) _

theorem E3_start (c : Dev nD) : E3 m c main_v266_2 = fun _ => (0#32 : BitVec 32) := by
  unfold E3; exact start3 (F := F) _

/-- Every argument is still as launched at the end of the host part. -/
theorem Efin_arg (c : Dev nD) (b : Ref sig .tc) (hb : b ∈ args) : Efin m c b = m ((c : Thread nD τ).loc b) := by
  unfold Efin
  rw [keeps_line4.afterL b hb]
  unfold X3; rw [KeepsL.loop keeps_cond3 keeps_body3 _ c b hb]; unfold E3; rw [keeps_line3.afterL b hb]
  unfold X2; rw [KeepsL.loop keeps_cond2 keeps_body2 _ c b hb]; unfold E2; rw [keeps_line2.afterL b hb]
  unfold X1; rw [KeepsL.loop keeps_cond1 keeps_body1 _ c b hb]; unfold E1; rw [keeps_line1.afterL b hb]
  unfold X0; rw [KeepsL.loop keeps_cond0 keeps_body0 _ c b hb]; unfold E0; rw [keeps_line0.afterL b hb]

/-! ## The segments -/

variable {U : Type} [URA U] (a : (p : Fin 1) → (pcfgs (F := F) p).Adm) {J : Type} [DecidableEq J]
  (tk : J → Ticket (Ix := Unit) (Name := ℕ) (U := U) (Lvl := ℕ) (nD := nD) (τ := τ) (pcfgs (F := F)) a)

/-- The host part, segment by segment. -/
def segs : List (CSeg (pcfgs (F := F)) a defs₀ Variants.none L lv loops tk) :=
  segsOf _ _ _ _ _ _ _ _ Rw line0 plain_line0 (launchContents m)
    ++ loopSeg _ _ _ _ _ _ _ _ 0 main_while0_cond main_while0_body rfl cond0 body0 plain_body0 while0_body_chain 24 (E0 m) Rw (test0 (E0 m) (E0_start m))
    :: (segsOf _ _ _ _ _ _ _ _ Rw line1 plain_line1 (X0 m)
    ++ loopSeg _ _ _ _ _ _ _ _ 1 main_while1_cond main_while1_body rfl cond1 body1 plain_body1 while1_body_chain 149 (E1 m) Rw (test1 (E1 m) (E1_start m))
    :: (segsOf _ _ _ _ _ _ _ _ Rw line2 plain_line2 (X1 m)
    ++ loopSeg _ _ _ _ _ _ _ _ 2 main_while2_cond main_while2_body rfl cond2 body2 plain_body2 while2_body_chain 399 (E2 m) Rw (test2 (E2 m) (E2_start m))
    :: (segsOf _ _ _ _ _ _ _ _ Rw line3 plain_line3 (X2 m)
    ++ loopSeg _ _ _ _ _ _ _ _ 3 main_while3_cond main_while3_body rfl cond3 body3 plain_body3 while3_body_chain 119 (E3 m) Rw (test3 (E3 m) (E3_start m))
    :: (segsOf _ _ _ _ _ _ _ _ Rw line4 plain_line4 (X3 m)))))

/-- They lead from the buffers at launch to the buffers at the end of the host part. -/
theorem segs_chains : CSeg.Chains (At (launchContents m)) (segs m a tk) (At (Efin m)) := by
  unfold segs
  exact CSeg.Chains.append (segsOf_chains _ _ _ _ _ _ _ _ Rw line0 plain_line0 _) ⟨fun _ => .rfl, CSeg.Chains.append (segsOf_chains _ _ _ _ _ _ _ _ Rw line1 plain_line1 _) ⟨fun _ => .rfl, CSeg.Chains.append (segsOf_chains _ _ _ _ _ _ _ _ Rw line2 plain_line2 _) ⟨fun _ => .rfl, CSeg.Chains.append (segsOf_chains _ _ _ _ _ _ _ _ Rw line3 plain_line3 _) ⟨fun _ => .rfl, segsOf_chains _ _ _ _ _ _ _ _ Rw line4 plain_line4 _⟩⟩⟩⟩

/-- Their programs are the printed program's pieces, in order. -/
theorem segs_prog : (segs m a tk).map CSeg.prog = [ seq main_part0_ops0, seq main_part0_ops1, seq main_part0_ops2, seq main_part1_ops0, seq main_part1_ops1, seq main_part1_ops2, HostLoop.enter 0, seq main_part1_ops3, seq main_part2_ops0, seq main_part3_ops0, seq main_part3_ops1, seq main_part3_ops2, HostLoop.enter 1, seq main_part3_ops3, seq main_part4_ops0, seq main_part4_ops1, seq main_part4_ops2, HostLoop.enter 2, seq main_part4_ops3, seq main_part5_ops0, seq main_part5_ops1, seq main_part5_ops2, HostLoop.enter 3, seq main_part5_ops3, seq main_part6_ops0 ] := by
  unfold segs
  simp only [List.map_append, List.map_cons, segsOf_prog]
  rfl

/-- None of them consumes a region's ticket. -/
theorem segs_T : ∀ s ∈ segs m a tk, s.T = ∅ := by
  unfold segs
  intro s hs
  simp only [List.mem_append, List.mem_cons] at hs
  rcases hs with hs | rfl | hs | rfl | hs | rfl | hs | rfl | hs
  all_goals first
    | exact (segsOf_M_T _ _ _ _ _ _ _ _ _ _ _ _ s hs).2
    | exact loopSeg_T _ _ _ _ _ _ _ _ _

end Cert.Proof.KernelIdealHost

end
-- ==== Proof.KernelIdealRun.lean ====
/-
  The kernel region of the idealized kernel program: the head kernel has no grid, so one run of its body on the whole of the
  features, the weights and the bias leaves the whole result. Here are the body's run, what the region leaves in the
  result's array, and the run of the complete program: it ends, every argument is as launched, every counter is zero,
  and the result is what the region left.
-/
module

public import proofs.«01_k».proof.Proof.KernelIdealHost
public import proofs.«01_k».proof.Proof.Gen.KernelIdeal.Skeleton
public import proofs.«01_k».proof.Proof.Gen.KernelIdeal.Points
public import Idealize.ShloMosaic.Lib.VecWindow
public import Idealize.ShloMosaic.Lib.Pipeline.Value

@[expose] public section

noncomputable section

namespace Cert.Proof.KernelIdealHost

open Cert.KernelIdeal Cert.KernelIdeal.Gen
open Cert.Proof.Lines
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket Dat Cfg Window BodyObligation cellOf)

variable {F : FTy → Type} [FloatOps F]

/-- The algebra of the run: the pipeline library's, beside the transfers' counters. -/
abbrev UU : Type := UR sig nD τ × Counters

local notation "𝕄" => MT nD τ sig Unit (Elt F) ℕ UU ℕ

/-- A buffer's contents through a memref on core `c`, and the whole of it held at some. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## One run of the body -/

/-- What the body leaves in the result's buffer, with the proof that it runs from the four buffers held whole and gives
    the three operands' back as they were. -/
def headRun (c : Dev nD) (M0 : Memref sig .tc .vmem S32x84 .f32) (h0 : M0.IsWhole) (M1 : Memref sig .tc .vmem S10x84 .f32) (h1 : M1.IsWhole)
    (M2 : Memref sig .tc .vmem S1x10 .f32) (h2 : M2.IsWhole) (M3 : Memref sig .tc .vmem S32x10 .f32) (h3 : M3.IsWhole)
    (f0 : Bf (F := F) c M0) (f1 : Bf (F := F) c M1) (f2 : Bf (F := F) c M2) (f3 : Bf (F := F) c M3) :
    { W : Bf (F := F) c M3 // ∀ (E : Set ℕ) (Q : PUnit → sProp 𝕄),
        iprop(pt c M0 f0 ∗ pt c M1 f1 ∗ pt c M2 f2 ∗ pt c M3 f3 ∗ (iprop(pt c M0 f0 ∗ pt c M1 f1 ∗ pt c M2 f2 ∗ pt c M3 W) -∗ Q ⟨⟩))
          ⊢ wp frame (wpE (defs₀ (F := F)) Variants.none c none) E (cc0__head_kernel M0 h0 M1 h1 M2 h2 M3 h3) Q } := by
  refine ⟨?_, fun E Q => ?run⟩
  case run =>
    rw [cc0__head_kernel_eq_skeleton]
    unfold cc0__head_kernel_skel
    iintro ⟨H0, H1, H2, H3, Hk⟩
    sl_exec!
    sl_step
    iapply Hk
    isplitl [H0]; · iexact H0
    isplitl [H1]; · iexact H1
    isplitl [H2]; · iexact H2
    iexact H3

/-- What the four staging buffers' contents become: the result's buffer reads the head of what the operands' read. -/
theorem headRun_read (c : Dev nD) (M0 : Memref sig .tc .vmem S32x84 .f32) (h0 : M0.IsWhole) (M1 : Memref sig .tc .vmem S10x84 .f32) (h1 : M1.IsWhole)
    (M2 : Memref sig .tc .vmem S1x10 .f32) (h2 : M2.IsWhole) (M3 : Memref sig .tc .vmem S32x10 .f32) (h3 : M3.IsWhole)
    (f0 : Bf (F := F) c M0) (f1 : Bf (F := F) c M1) (f2 : Bf (F := F) c M2) (f3 : Bf (F := F) c M3) :
    M3.view.read (Elt F) (headRun c M0 h0 M1 h1 M2 h2 M3 h3 f0 f1 f2 f3).1
      = k0_pay1 (M0.view.read (Elt F) f0) (M1.view.read (Elt F) f1) (M2.view.read (Elt F) f2) := by
  refine (View.read_writes_full _ _ _ _ _).trans ?_
  rw [View.readAt_full, View.readAt_full, View.readAt_full]

/-! ## The region's proof data, at the contents on entering it -/

variable (V : (c : Dev nD) → (b : Ref sig .tc) → Buf (Elt F) ((c : Thread nD τ).loc b))

/-- The three operands' blocks, as they are staged: each the whole of its array. -/
abbrev stg0 (c : Dev nD) : (cfg0.win 0).block.Idx → Elt F (cfg0.win 0).elt := ((cfg0.win 0).blk t0_0).view.read (Elt F) (V c main_v296)
abbrev stg1 (c : Dev nD) : (cfg0.win 1).block.Idx → Elt F (cfg0.win 1).elt := ((cfg0.win 1).blk t0_0).view.read (Elt F) (V c main_arg3)
abbrev stg2 (c : Dev nD) : (cfg0.win 2).block.Idx → Elt F (cfg0.win 2).elt := ((cfg0.win 2).blk t0_0).view.read (Elt F) (V c main_v297)

/-- The head of the three blocks. -/
def headOut (c : Dev nD) : S32x10.Idx → Elt F .f32 := k0_pay1 (stg0 V c) (stg1 V c) (stg2 V c)

/-- The proof data of the region: the arrays as they are on entering it; after the body the operands' buffers as
    fetched and the result's at the head of them; nothing owed; full shares. -/
def dat (c : Dev nD) : Dat τ (Elt F) Unit ℕ UU ℕ cfg0 c where
  A w := V c (Pipeline.arrRef spec0 w)
  after w _ := match w with
    | ⟨0, _⟩ => stg0 V c
    | ⟨1, _⟩ => stg1 V c
    | ⟨2, _⟩ => stg2 V c
    | ⟨3, _⟩ => headOut V c
  Φ _ := Pipeline.scopedRest (Ix := Unit) (Name := ℕ) (U := UU) (Lvl := ℕ) (Val := Elt F) spec0 c
  q _ := fullShare
  owed _ := 0

/-- No prefetched table: their contents are admissible. -/
abbrev adm : (p : Fin 1) → (pcfgs (F := F) p).Adm := fun p => (cfgs p).toPCfg_adm

/-- The family of proof data over the program's one region. -/
def pdats : (p : Fin 1) → (c : Dev nD) → Dat τ (Elt F) Unit ℕ UU ℕ (Pipeline.pin (pcfgs (F := F)) adm p) c
  | ⟨0, _⟩ => fun c => dat V c

/-- The fetched windows' buffers hold their blocks when the body runs. -/
theorem before0 (c : Dev nD) (d : (cfg0.win 0).block.Idx → Elt F (cfg0.win 0).elt) : (dat V c).before 0 t0_0 d = stg0 V c := by
  unfold Dat.before; rw [if_pos (by decide)]; rfl
theorem before1 (c : Dev nD) (d : (cfg0.win 1).block.Idx → Elt F (cfg0.win 1).elt) : (dat V c).before 1 t0_0 d = stg1 V c := by
  unfold Dat.before; rw [if_pos (by decide)]; rfl
theorem before2 (c : Dev nD) (d : (cfg0.win 2).block.Idx → Elt F (cfg0.win 2).elt) : (dat V c).before 2 t0_0 d = stg2 V c := by
  unfold Dat.before; rw [if_pos (by decide)]; rfl

/-- The body's obligation: the four buffers taken apart, `headRun` applied, its outcome put together again. -/
theorem body_obligation (c : Dev nD) : BodyObligation (dat V c) (defs₀ (F := F)) Variants.none () Set.univ := fun t => by
  obtain rfl := fin_N0 t
  rw [bigSep_W0, bigSep_W0]
  simp only [owns_whole_eq]
  rw [show (dat V c).Φ t0_0.succ = (dat V c).Φ t0_0.castSucc from rfl,
    show (dat V c).owesAt () t0_0.succ = (dat V c).owesAt () t0_0.castSucc from rfl]
  iintro ⟨HΦ, Howes, ⟨%d0, %f0, %hf0, H0⟩, ⟨%d1, %f1, %hf1, H1⟩, ⟨%d2, %f2, %hf2, H2⟩, ⟨%d3, %f3, -, H3⟩⟩
  rw [before0] at hf0
  rw [before1] at hf1
  rw [before2] at hf2
  subst hf0 hf1 hf2
  iapply ((headRun c (stage0_0 0) (hstage0_0 0) (stage0_1 0) (hstage0_1 0) (stage0_2 0) (hstage0_2 0) (stage0_3 0) (hstage0_3 0)
    (stg0 V c) (stg1 V c) (stg2 V c) f3).2 Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  iexists _; isplitr; swap; (· iexact H3)
  ipureintro
  dsimp only [dat]
  exact headRun_read c (stage0_0 0) (hstage0_0 0) (stage0_1 0) (hstage0_1 0) (stage0_2 0) (hstage0_2 0) (stage0_3 0) (hstage0_3 0)
    (stg0 V c) (stg1 V c) (stg2 V c) f3

/-! ## The region over the thread's state -/

/-- The result's array after the region. -/
def headArr (c : Dev nD) : Buf (Elt F) ((c : Thread nD τ).loc main_v298) := (dat V c).arrAt 3 cfg0.N

variable (Vp : (c : Dev nD) → (b : Ref sig .tc) → Buf (Elt F) ((c : Thread nD τ).loc b))

-- the library's statements are over the pinned configuration; meeting them takes plain definitions unfolded
set_option backward.isDefEq.respectTransparency.types false in
/-- The region, entered with every unscoped buffer at `V` and left with every one at `Vp`: any contents that have the
    result's array as the region leaves it and agree with `V` elsewhere. -/
def reg (hout : ∀ c, Vp c main_v298 = headArr V c) (hne : ∀ c (b : Ref sig .tc), b ≠ main_v298 → Vp c b = V c b) :
    Pipeline.RegionSeg (pcfgs (F := F)) adm (pdats V) () defs₀ Variants.none L lv 0 where
  win := launch0.win.to₀
  block_pos := launch0.block_pos
  stage_whole := launch0.stage_whole
  K := PEmpty
  osem k := k.elim
  ho := Pipeline.OwnSemFacts.none _
  hbody c := (body_obligation V c).loose
  hwaits := Pipeline.hwaits_of_owed_zero _ _ _ _ L lv 0 fun _ _ => rfl
  pre c := iprop(unscopedBufs c (V c) ∗ Rw c)
  post c := iprop(unscopedBufs c (Vp c) ∗ Rw c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none,
      show (pdats V 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hne c main_v296 (by decide)).symm
        · exact ((pdats V 0 c).arrAt_in 1 rfl _).trans (hne c main_arg3 (by decide)).symm
        · exact ((pdats V 0 c).arrAt_in 2 rfl _).trans (hne c main_v297 (by decide)).symm
        · exact (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- Each window's one block is the whole of its array, every element at its own place. -/
theorem emb0 (i : S32x84.Idx) : ((cfg0.win 0).blk t0_0).view.emb i = i := by
  funext a; apply Fin.ext; show 0 * _ + 1 * (i a : ℕ) = (i a : ℕ); omega
theorem emb1 (i : S10x84.Idx) : ((cfg0.win 1).blk t0_0).view.emb i = i := by
  funext a; apply Fin.ext; show 0 * _ + 1 * (i a : ℕ) = (i a : ℕ); omega
theorem emb2 (i : S1x10.Idx) : ((cfg0.win 2).blk t0_0).view.emb i = i := by
  funext a; apply Fin.ext; show 0 * _ + 1 * (i a : ℕ) = (i a : ℕ); omega
theorem emb3 (i : S32x10.Idx) : ((cfg0.win 3).blk t0_0).view.emb i = i := by
  funext a; apply Fin.ext; show 0 * _ + 1 * (i a : ℕ) = (i a : ℕ); omega

theorem stg0_eq (c : Dev nD) : stg0 V c = (V c main_v296 : S32x84.Idx → Elt F .f32) := by
  funext i; show V c main_v296 (((cfg0.win 0).blk t0_0).view.emb i) = _; rw [emb0]
theorem stg1_eq (c : Dev nD) : stg1 V c = (V c main_arg3 : S10x84.Idx → Elt F .f32) := by
  funext i; show V c main_arg3 (((cfg0.win 1).blk t0_0).view.emb i) = _; rw [emb1]
theorem stg2_eq (c : Dev nD) : stg2 V c = (V c main_v297 : S1x10.Idx → Elt F .f32) := by
  funext i; show V c main_v297 (((cfg0.win 2).blk t0_0).view.emb i) = _; rw [emb2]

/-- The one point's block is the result's whole array: it ends at the head of the operands' arrays. -/
theorem headArr_eq (c : Dev nD) : headArr V c = (k0_pay1 (F := F) (V c main_v296) (V c main_arg3) (V c main_v297) : S32x10.Idx → Elt F .f32) := by
  unfold headArr
  refine (dat V c).arrAt_eq_of_cover 3 _ (fun t _ => ?_) (fun i => ⟨t0_0, flush0_3 _, ?_⟩)
  · obtain rfl := fin_N0 t
    funext i
    show headOut V c i = k0_pay1 (F := F) (V c main_v296) (V c main_arg3) (V c main_v297) (((cfg0.win 3).blk t0_0).view.emb i)
    rw [emb3]
    unfold headOut
    rw [stg0_eq, stg1_eq, stg2_eq]
  · exact Finset.mem_map.mpr ⟨i, Finset.mem_univ _, emb3 i⟩

/-! ## The complete program -/

variable (m : (ℓ : Loc nD τ sig) → Buf (Elt F) ℓ) (ρ : Dev nD → PrngReg)

/-- What the host part leaves, which the region is entered with, -/
abbrev Ven (c : Dev nD) (b : Ref sig .tc) : Buf (Elt F) ((c : Thread nD τ).loc b) := Efin m c b
/-- and what the buffers hold when the program ends: the same, but for the result. -/
def Vend (c : Dev nD) : Valuation τ sig (Elt F) := Function.update (Efin m c) main_v298 (headArr (Ven m) c)

theorem Vend_out (c : Dev nD) : Vend m c main_v298 = headArr (Ven m) c := by
  unfold Vend; exact Function.update_self ..
theorem Vend_ne (c : Dev nD) (b : Ref sig .tc) (h : b ≠ main_v298) : Vend m c b = Ven m c b := by
  unfold Vend; exact Function.update_of_ne (StableHlo.devRef_ne_of_ne h) _ _

/-- The one ticket: the region's. -/
def tk : Fin 1 → Ticket (Ix := Unit) (Name := ℕ) (U := UU) (Lvl := ℕ) (nD := nD) (τ := τ) (pcfgs (F := F)) adm :=
  fun _ => { p := 0, pdats := pdats (Ven m), EP := embL }

/-- The launch's element of the algebra: every staging cell and every transfer of the pipeline; no counter yet. -/
def u₀ : UU := (initOf (Pipeline.cells cfgs cellOf_inj) (Pipeline.launchToks cfgs cellOf_inj), 1)

/-- The program as segments: the host part, then the region. -/
def allSegs : List (CSeg (pcfgs (F := F)) adm defs₀ Variants.none L lv loops (tk m)) :=
  segs m adm (tk m) ++ [CSeg.region _ _ () (cellOf_inj) _ _ _ _ _ _ (0 : Fin 1)
    (reg (Ven m) (fun c b => Vend m c b) (Vend_out m) (Vend_ne m))]

-- as for the region
set_option backward.isDefEq.respectTransparency.types false in
/-- The program ends, every buffer that outlives it holds what `Vend` says, and every counter is zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = Vend m c (Proc.devRef .tc b)) ∧ r.2.sem = fun _ => 0) :=
  run_to (pcfgs (F := F)) adm cellOf_inj defs₀ loops (tk m) m ρ main (allSegs m)
    (fun c => by
      rw [main_chain_windows]; unfold allSegs; rw [List.map_append, segs_prog]; rfl)
    (by
      unfold allSegs
      rw [List.pairwise_append]
      refine ⟨?_, List.pairwise_singleton _ _, fun s hs _ _ => by rw [segs_T m adm (tk m) s hs]; exact Finset.disjoint_empty_left _⟩
      refine List.Pairwise.imp_of_mem (fun {s} {_} hs _ _ => by rw [segs_T m adm (tk m) s hs]; exact Finset.disjoint_empty_left _)
        (List.pairwise_of_forall (R := fun _ _ => True) fun _ _ => trivial))
    u₀
    (by
      unfold u₀
      iintro Hu
      ihave H := (ownU_pair _ _) $$ Hu
      icases H with ⟨HP, -⟩
      rw [show (Finset.univ : Finset (Fin 1)) = {0} from rfl, BI.bigSep_singleton]
      iexact HP)
    (Vend m)
    (by
      unfold allSegs
      exact CSeg.Chains.append (segs_chains m adm (tk m))
        ⟨fun c => sep_mono (Entails.of_eq (Pipeline.unscopedBufs_held c (Efin m c)).symm) .rfl,
          fun c => sep_mono (Entails.of_eq (Pipeline.unscopedBufs_held c (Vend m c))) .rfl⟩)
    (fun g => .inr (by revert g; decide))

/-- Every argument ends as launched. -/
theorem Vend_arg (c : Dev nD) (b : Ref sig .tc) (hb : b ∈ args) (hn : b ≠ main_v298) : Vend m c b = m ((c : Thread nD τ).loc b) :=
  (Vend_ne m c b hn).trans (Efin_arg m c b hb)

end Cert.Proof.KernelIdealHost

end
-- ==== Proof.RefLine.lean ====
/-
  The reference program as straight pieces: each stretch of host operations of its `main` as a list, the bodies of
  its four host loops likewise, and the equations saying that the printed program is the chain of these pieces.
  Every other module about the reference talks about these lists.
-/
module

public import proofs.«01_k».proof.Proof.Gen.ReferenceIdeal
public import Idealize.ShloMosaic.Lib.Pipeline.Kit
public import Idealize.ShloMosaic.Lib.Pipeline.Regions

@[expose] public section

set_option maxRecDepth 3216

noncomputable section

namespace Cert.ReferenceIdeal.Line

open Cert.ReferenceIdeal Cert.ReferenceIdeal.Gen
open Idealize.ShloMosaic Idealize.ShloMosaic.TcCoe
open Idealize.SL.Sem

variable {F : FTy → Type} [FloatOps F]

/-- Operations of the printed `main_part0`, piece 0, in order. -/
abbrev main_part0_ops0 : List (HloOp τ sig (Elt F)) :=
  ( StableHlo.reshape main_arg0 main_v0 (rfl : (.f32 : EltTy) = .f32) shapeCasts_S32x1x32x32_S32x32x32
  :: StableHlo.unary main_v0 main_v1 (broadcastInDim S32x32x32x1 ![0, 1, 2] bcast_S32x32x32_S32x32x32x1_0_1_2 : (⟨S32x32x32, .f32⟩ : BufTy).Contents (Elt F) → (⟨S32x32x32x1, .f32⟩ : BufTy).Contents (Elt F))
  :: StableHlo.nullary main_v2 (iotaInDim S29 32 0)
  :: StableHlo.nullary main_c (constantI S_ 32 1#32)
  :: StableHlo.unary main_c main_v3 (broadcastInDim S29 ![] bcast_S_S29 : (⟨S_, .i32⟩ : BufTy).Contents (Elt F) → (⟨S29, .i32⟩ : BufTy).Contents (Elt F))
  :: StableHlo.binary main_v2 main_v3 main_v4 (muli : (⟨S29, .i32⟩ : BufTy).Contents (Elt F) → (⟨S29, .i32⟩ : BufTy).Contents (Elt F) → (⟨S29, .i32⟩ : BufTy).Contents (Elt F))
  :: StableHlo.unary main_v4 main_v5 (broadcastInDim S29x1 ![0] bcast_S29_S29x1_0 : (⟨S29, .i32⟩ : BufTy).Contents (Elt F) → (⟨S29x1, .i32⟩ : BufTy).Contents (Elt F))
  :: StableHlo.nullary main_v6 (iotaInDim S4 32 0)
  :: StableHlo.unary main_v6 main_v7 (broadcastInDim S1x4 ![1] bcast_S4_S1x4_1 : (⟨S4, .i32⟩ : BufTy).Contents (Elt F) → (⟨S1x4, .i32⟩ : BufTy).Contents (Elt F))
  :: StableHlo.unary main_v5 main_v8 (broadcastInDim S29x4 ![0, 1] bcast_S29x1_S29x4_0_1 : (⟨S29x1, .i32⟩ : BufTy).Contents (Elt F) → (⟨S29x4, .i32⟩ : BufTy).Contents (Elt F))
  :: StableHlo.unary main_v7 main_v9 (broadcastInDim S29x4 ![0, 1] bcast_S1x4_S29x4_0_1 : (⟨S1x4, .i32⟩ : BufTy).Contents (Elt F) → (⟨S29x4, .i32⟩ : BufTy).Contents (Elt F))
  :: StableHlo.binary main_v8 main_v9 main_v10 (addi : (⟨S29x4, .i32⟩ : BufTy).Contents (Elt F) → (⟨S29x4, .i32⟩ : BufTy).Contents (Elt F) → (⟨S29x4, .i32⟩ : BufTy).Contents (Elt F))
  :: StableHlo.nullary main_c_0 (constantI S_ 32 0#32)
  :: StableHlo.unary main_c_0 main_v11 (broadcastInDim S29x4 ![] bcast_S_S29x4 : (⟨S_, .i32⟩ : BufTy).Contents (Elt F) → (⟨S29x4, .i32⟩ : BufTy).Contents (Elt F))
  :: StableHlo.binary main_v10 main_v11 main_v12 (cmpi .slt : (⟨S29x4, .i32⟩ : BufTy).Contents (Elt F) → (⟨S29x4, .i32⟩ : BufTy).Contents (Elt F) → (⟨S29x4, .i1⟩ : BufTy).Contents (Elt F))
  :: StableHlo.nullary main_c_1 (constantI S_ 32 32#32)
  :: StableHlo.unary main_c_1 main_v13 (broadcastInDim S29x4 ![] bcast_S_S29x4 : (⟨S_, .i32⟩ : BufTy).Contents (Elt F) → (⟨S29x4, .i32⟩ : BufTy).Contents (Elt F))
  :: StableHlo.binary main_v10 main_v13 main_v14 (addi : (⟨S29x4, .i32⟩ : BufTy).Contents (Elt F) → (⟨S29x4, .i32⟩ : BufTy).Contents (Elt F) → (⟨S29x4, .i32⟩ : BufTy).Contents (Elt F))
  :: StableHlo.ternary main_v12 main_v14 main_v10 main_v15 (select : (⟨S29x4, .i1⟩ : BufTy).Contents (Elt F) → (⟨S29x4, .i32⟩ : BufTy).Contents (Elt F) → (⟨S29x4, .i32⟩ : BufTy).Contents (Elt F) → (⟨S29x4, .i32⟩ : BufTy).Contents (Elt F))
  :: StableHlo.unary main_v15 main_v16 (broadcastInDim S29x4x1 ![0, 1] bcast_S29x4_S29x4x1_0_1 : (⟨S29x4, .i32⟩ : BufTy).Contents (Elt F) → (⟨S29x4x1, .i32⟩ : BufTy).Contents (Elt F))
  :: StableHlo.binary main_v1 main_v16 main_v17 ((fun x i => Host.gather gather_S32x32x32x1_S29x4x1_S32x29x4x32x1_034_1_n_n_1_2_321321 x i) : (⟨S32x32x32x1, .f32⟩ : BufTy).Contents (Elt F) → (⟨S29x4x1, .i32⟩ : BufTy).Contents (Elt F) → (⟨S32x29x4x32x1, .f32⟩ : BufTy).Contents (Elt F))
  :: StableHlo.nullary main_c_2 (constantI S_ 32 0#32)
  :: StableHlo.unary main_c_2 main_v18 (broadcastInDim S29x4 ![] bcast_S_S29x4 : (⟨S_, .i32⟩ : BufTy).Contents (Elt F) → (⟨S29x4, .i32⟩ : BufTy).Contents (Elt F))
  :: StableHlo.binary main_v10 main_v18 main_v19 (cmpi .slt : (⟨S29x4, .i32⟩ : BufTy).Contents (Elt F) → (⟨S29x4, .i32⟩ : BufTy).Contents (Elt F) → (⟨S29x4, .i1⟩ : BufTy).Contents (Elt F))
  :: StableHlo.nullary main_c_3 (constantI S_ 32 32#32)
  :: StableHlo.unary main_c_3 main_v20 (broadcastInDim S29x4 ![] bcast_S_S29x4 : (⟨S_, .i32⟩ : BufTy).Contents (Elt F) → (⟨S29x4, .i32⟩ : BufTy).Contents (Elt F))
  :: StableHlo.binary main_v10 main_v20 main_v21 (addi : (⟨S29x4, .i32⟩ : BufTy).Contents (Elt F) → (⟨S29x4, .i32⟩ : BufTy).Contents (Elt F) → (⟨S29x4, .i32⟩ : BufTy).Contents (Elt F))
  :: StableHlo.ternary main_v19 main_v21 main_v10 main_v22 (select : (⟨S29x4, .i1⟩ : BufTy).Contents (Elt F) → (⟨S29x4, .i32⟩ : BufTy).Contents (Elt F) → (⟨S29x4, .i32⟩ : BufTy).Contents (Elt F) → (⟨S29x4, .i32⟩ : BufTy).Contents (Elt F))
  :: StableHlo.unary main_v22 main_v23 (broadcastInDim S29x4x1 ![0, 1] bcast_S29x4_S29x4x1_0_1 : (⟨S29x4, .i32⟩ : BufTy).Contents (Elt F) → (⟨S29x4x1, .i32⟩ : BufTy).Contents (Elt F))
  :: StableHlo.binary main_v17 main_v23 main_v24 ((fun x i => Host.gather gather_S32x29x4x32x1_S29x4x1_S32x29x4x29x4x1_0125_3_n_n_3_2_3229411 x i) : (⟨S32x29x4x32x1, .f32⟩ : BufTy).Contents (Elt F) → (⟨S29x4x1, .i32⟩ : BufTy).Contents (Elt F) → (⟨S32x29x4x29x4x1, .f32⟩ : BufTy).Contents (Elt F))
  :: StableHlo.unary main_v24 main_v25 ((transpose S32x29x29x4x4x1 [0, 1, 3, 2, 4, 5] · transposes_S32x29x4x29x4x1_S32x29x29x4x4x1_0_1_3_2_4_5) : (⟨S32x29x4x29x4x1, .f32⟩ : BufTy).Contents (Elt F) → (⟨S32x29x29x4x4x1, .f32⟩ : BufTy).Contents (Elt F))
  :: StableHlo.reshape main_v25 main_v26 (rfl : (.f32 : EltTy) = .f32) shapeCasts_S32x29x29x4x4x1_S32x841x16
  :: StableHlo.unary main_v26 main_v27 (broadcastInDim S32x841x1x16 ![0, 1, 3] bcast_S32x841x16_S32x841x1x16_0_1_3 : (⟨S32x841x16, .f32⟩ : BufTy).Contents (Elt F) → (⟨S32x841x1x16, .f32⟩ : BufTy).Contents (Elt F))
  :: StableHlo.unary main_arg1 main_v28 (broadcastInDim S1x256x16 ![1, 2] bcast_S256x16_S1x256x16_1_2 : (⟨S256x16, .f32⟩ : BufTy).Contents (Elt F) → (⟨S1x256x16, .f32⟩ : BufTy).Contents (Elt F))
  :: StableHlo.unary main_v28 main_v29 (broadcastInDim S1x1x256x16 ![1, 2, 3] bcast_S1x256x16_S1x1x256x16_1_2_3 : (⟨S1x256x16, .f32⟩ : BufTy).Contents (Elt F) → (⟨S1x1x256x16, .f32⟩ : BufTy).Contents (Elt F))
  :: StableHlo.unary main_v27 main_v30 (broadcastInDim S32x841x256x16 ![0, 1, 2, 3] bcast_S32x841x1x16_S32x841x256x16_0_1_2_3 : (⟨S32x841x1x16, .f32⟩ : BufTy).Contents (Elt F) → (⟨S32x841x256x16, .f32⟩ : BufTy).Contents (Elt F))
  :: StableHlo.unary main_v29 main_v31 (broadcastInDim S32x841x256x16 ![0, 1, 2, 3] bcast_S1x1x256x16_S32x841x256x16_0_1_2_3 : (⟨S1x1x256x16, .f32⟩ : BufTy).Contents (Elt F) → (⟨S32x841x256x16, .f32⟩ : BufTy).Contents (Elt F))
  :: StableHlo.binary main_v30 main_v31 main_v32 (subf : (⟨S32x841x256x16, .f32⟩ : BufTy).Contents (Elt F) → (⟨S32x841x256x16, .f32⟩ : BufTy).Contents (Elt F) → (⟨S32x841x256x16, .f32⟩ : BufTy).Contents (Elt F))
  :: StableHlo.binary main_v32 main_v32 main_v33 (mulf : (⟨S32x841x256x16, .f32⟩ : BufTy).Contents (Elt F) → (⟨S32x841x256x16, .f32⟩ : BufTy).Contents (Elt F) → (⟨S32x841x256x16, .f32⟩ : BufTy).Contents (Elt F))
  :: StableHlo.nullary main_cst (constant S_ .f32 0x00000000#32)
  :: StableHlo.binary main_v33 main_cst main_v34 ((fun x v => Host.reduceAdd x v reducesTo_S32x841x256x16_S32x841x256_d3 h_S_) : (⟨S32x841x256x16, .f32⟩ : BufTy).Contents (Elt F) → (⟨S_, .f32⟩ : BufTy).Contents (Elt F) → (⟨S32x841x256, .f32⟩ : BufTy).Contents (Elt F))
  :: [] )

/-- The buffers these operations touch are all the TensorCore's. -/
theorem main_part0_ops0_sub : (main_part0_ops0 : List (HloOp τ sig (Elt F))).Forall fun op => op.bufs ⊆ StableHlo.tcRefs τ sig :=
  ⟨StableHlo.reshape_bufs_sub .., StableHlo.unary_bufs_sub .., StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub ..⟩

/-- Operations of the printed `main_part0`, piece 1, in order. -/
abbrev main_part0_ops1 : List (HloOp τ sig (Elt F)) :=
  [ StableHlo.TRef.nullary (.of main_call0_v0 : StableHlo.TRef sig ⟨S32x841x256, .i32⟩) (iotaInDim S32x841x256 32 2),
    StableHlo.TRef.nullary (.of main_call0_cst : StableHlo.TRef sig ⟨S_, .f32⟩) (constant S_ .f32 0x7F800000#32),
    StableHlo.TRef.nullary (.of main_call0_c : StableHlo.TRef sig ⟨S_, .i32⟩) (constantI S_ 32 0#32),
    StableHlo.TRef.quaternary (.of main_v34 : StableHlo.TRef sig ⟨S32x841x256, .f32⟩) (.of main_call0_v0 : StableHlo.TRef sig ⟨S32x841x256, .i32⟩) (.of main_call0_cst : StableHlo.TRef sig ⟨S_, .f32⟩) (.of main_call0_c : StableHlo.TRef sig ⟨S_, .i32⟩) (.of main_call0_v1_0 : StableHlo.TRef sig ⟨S32x841, .f32⟩) (fun x y u v j => (Host.argReduce reducer_argmin_f32_i32 x y u v reducesTo_S32x841x256_S32x841_d2 h_S_ j).1),
    StableHlo.TRef.quaternary (.of main_v34 : StableHlo.TRef sig ⟨S32x841x256, .f32⟩) (.of main_call0_v0 : StableHlo.TRef sig ⟨S32x841x256, .i32⟩) (.of main_call0_cst : StableHlo.TRef sig ⟨S_, .f32⟩) (.of main_call0_c : StableHlo.TRef sig ⟨S_, .i32⟩) (.of main_v35 : StableHlo.TRef sig ⟨S32x841, .i32⟩) (fun x y u v j => (Host.argReduce reducer_argmin_f32_i32 x y u v reducesTo_S32x841x256_S32x841_d2 h_S_ j).2) ]

/-- The buffers these operations touch are all the TensorCore's. -/
theorem main_part0_ops1_sub : (main_part0_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

/-- Operations of the printed `main_part0`, piece 2, in order. -/
abbrev main_part0_ops2 : List (HloOp τ sig (Elt F)) :=
  [ StableHlo.reshape main_v35 main_v36 (rfl : (.i32 : EltTy) = .i32) shapeCasts_S32x841_S32x29x29,
    StableHlo.unary main_v36 main_v37 (broadcastInDim S32x29x29x1 ![0, 1, 2] bcast_S32x29x29_S32x29x29x1_0_1_2 : (⟨S32x29x29, .i32⟩ : BufTy).Contents (Elt F) → (⟨S32x29x29x1, .i32⟩ : BufTy).Contents (Elt F)),
    StableHlo.nullary main_v38 (iotaInDim S13 32 0),
    StableHlo.nullary main_c_4 (constantI S_ 32 2#32),
    StableHlo.unary main_c_4 main_v39 (broadcastInDim S13 ![] bcast_S_S13 : (⟨S_, .i32⟩ : BufTy).Contents (Elt F) → (⟨S13, .i32⟩ : BufTy).Contents (Elt F)),
    StableHlo.binary main_v38 main_v39 main_v40 (muli : (⟨S13, .i32⟩ : BufTy).Contents (Elt F) → (⟨S13, .i32⟩ : BufTy).Contents (Elt F) → (⟨S13, .i32⟩ : BufTy).Contents (Elt F)),
    StableHlo.unary main_v40 main_v41 (broadcastInDim S13x1 ![0] bcast_S13_S13x1_0 : (⟨S13, .i32⟩ : BufTy).Contents (Elt F) → (⟨S13x1, .i32⟩ : BufTy).Contents (Elt F)),
    StableHlo.nullary main_v42 (iotaInDim S5 32 0),
    StableHlo.unary main_v42 main_v43 (broadcastInDim S1x5 ![1] bcast_S5_S1x5_1 : (⟨S5, .i32⟩ : BufTy).Contents (Elt F) → (⟨S1x5, .i32⟩ : BufTy).Contents (Elt F)),
    StableHlo.unary main_v41 main_v44 (broadcastInDim S13x5 ![0, 1] bcast_S13x1_S13x5_0_1 : (⟨S13x1, .i32⟩ : BufTy).Contents (Elt F) → (⟨S13x5, .i32⟩ : BufTy).Contents (Elt F)),
    StableHlo.unary main_v43 main_v45 (broadcastInDim S13x5 ![0, 1] bcast_S1x5_S13x5_0_1 : (⟨S1x5, .i32⟩ : BufTy).Contents (Elt F) → (⟨S13x5, .i32⟩ : BufTy).Contents (Elt F)),
    StableHlo.binary main_v44 main_v45 main_v46 (addi : (⟨S13x5, .i32⟩ : BufTy).Contents (Elt F) → (⟨S13x5, .i32⟩ : BufTy).Contents (Elt F) → (⟨S13x5, .i32⟩ : BufTy).Contents (Elt F)),
    StableHlo.nullary main_c_5 (constantI S_ 32 0#32),
    StableHlo.unary main_c_5 main_v47 (broadcastInDim S13x5 ![] bcast_S_S13x5 : (⟨S_, .i32⟩ : BufTy).Contents (Elt F) → (⟨S13x5, .i32⟩ : BufTy).Contents (Elt F)),
    StableHlo.binary main_v46 main_v47 main_v48 (cmpi .slt : (⟨S13x5, .i32⟩ : BufTy).Contents (Elt F) → (⟨S13x5, .i32⟩ : BufTy).Contents (Elt F) → (⟨S13x5, .i1⟩ : BufTy).Contents (Elt F)),
    StableHlo.nullary main_c_6 (constantI S_ 32 29#32),
    StableHlo.unary main_c_6 main_v49 (broadcastInDim S13x5 ![] bcast_S_S13x5 : (⟨S_, .i32⟩ : BufTy).Contents (Elt F) → (⟨S13x5, .i32⟩ : BufTy).Contents (Elt F)),
    StableHlo.binary main_v46 main_v49 main_v50 (addi : (⟨S13x5, .i32⟩ : BufTy).Contents (Elt F) → (⟨S13x5, .i32⟩ : BufTy).Contents (Elt F) → (⟨S13x5, .i32⟩ : BufTy).Contents (Elt F)) ]

/-- The buffers these operations touch are all the TensorCore's. -/
theorem main_part0_ops2_sub : (main_part0_ops2 : List (HloOp τ sig (Elt F))).Forall fun op => op.bufs ⊆ StableHlo.tcRefs τ sig :=
  ⟨StableHlo.reshape_bufs_sub .., StableHlo.unary_bufs_sub .., StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩

/-- The printed `main_part0` is the chain of its pieces. -/
theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (HostLoop.Sig (Pipeline.Sig Λ₀ (Fin 0) fun p => (pcfgs (F := F) p).Adm) 4) .tc) PUnit) := by
  rewrite [StableHlo.chainK_seq_cons, Pipeline.chainK_cons]
  chain_rfl

/-- Operations of the printed `main_part1`, piece 0, in order. -/
abbrev main_part1_ops0 : List (HloOp τ sig (Elt F)) :=
  ( StableHlo.ternary main_v48 main_v50 main_v46 main_v51 (select : (⟨S13x5, .i1⟩ : BufTy).Contents (Elt F) → (⟨S13x5, .i32⟩ : BufTy).Contents (Elt F) → (⟨S13x5, .i32⟩ : BufTy).Contents (Elt F) → (⟨S13x5, .i32⟩ : BufTy).Contents (Elt F))
  :: StableHlo.unary main_v51 main_v52 (broadcastInDim S13x5x1 ![0, 1] bcast_S13x5_S13x5x1_0_1 : (⟨S13x5, .i32⟩ : BufTy).Contents (Elt F) → (⟨S13x5x1, .i32⟩ : BufTy).Contents (Elt F))
  :: StableHlo.binary main_v37 main_v52 main_v53 ((fun x i => Host.gather gather_S32x29x29x1_S13x5x1_S32x13x5x29x1_034_1_n_n_1_2_321291 x i) : (⟨S32x29x29x1, .i32⟩ : BufTy).Contents (Elt F) → (⟨S13x5x1, .i32⟩ : BufTy).Contents (Elt F) → (⟨S32x13x5x29x1, .i32⟩ : BufTy).Contents (Elt F))
  :: StableHlo.nullary main_c_7 (constantI S_ 32 0#32)
  :: StableHlo.unary main_c_7 main_v54 (broadcastInDim S13x5 ![] bcast_S_S13x5 : (⟨S_, .i32⟩ : BufTy).Contents (Elt F) → (⟨S13x5, .i32⟩ : BufTy).Contents (Elt F))
  :: StableHlo.binary main_v46 main_v54 main_v55 (cmpi .slt : (⟨S13x5, .i32⟩ : BufTy).Contents (Elt F) → (⟨S13x5, .i32⟩ : BufTy).Contents (Elt F) → (⟨S13x5, .i1⟩ : BufTy).Contents (Elt F))
  :: StableHlo.nullary main_c_8 (constantI S_ 32 29#32)
  :: StableHlo.unary main_c_8 main_v56 (broadcastInDim S13x5 ![] bcast_S_S13x5 : (⟨S_, .i32⟩ : BufTy).Contents (Elt F) → (⟨S13x5, .i32⟩ : BufTy).Contents (Elt F))
  :: StableHlo.binary main_v46 main_v56 main_v57 (addi : (⟨S13x5, .i32⟩ : BufTy).Contents (Elt F) → (⟨S13x5, .i32⟩ : BufTy).Contents (Elt F) → (⟨S13x5, .i32⟩ : BufTy).Contents (Elt F))
  :: StableHlo.ternary main_v55 main_v57 main_v46 main_v58 (select : (⟨S13x5, .i1⟩ : BufTy).Contents (Elt F) → (⟨S13x5, .i32⟩ : BufTy).Contents (Elt F) → (⟨S13x5, .i32⟩ : BufTy).Contents (Elt F) → (⟨S13x5, .i32⟩ : BufTy).Contents (Elt F))
  :: StableHlo.unary main_v58 main_v59 (broadcastInDim S13x5x1 ![0, 1] bcast_S13x5_S13x5x1_0_1 : (⟨S13x5, .i32⟩ : BufTy).Contents (Elt F) → (⟨S13x5x1, .i32⟩ : BufTy).Contents (Elt F))
  :: StableHlo.binary main_v53 main_v59 main_v60 ((fun x i => Host.gather gather_S32x13x5x29x1_S13x5x1_S32x13x5x13x5x1_0125_3_n_n_3_2_3213511 x i) : (⟨S32x13x5x29x1, .i32⟩ : BufTy).Contents (Elt F) → (⟨S13x5x1, .i32⟩ : BufTy).Contents (Elt F) → (⟨S32x13x5x13x5x1, .i32⟩ : BufTy).Contents (Elt F))
  :: StableHlo.unary main_v60 main_v61 ((transpose S32x13x13x5x5x1 [0, 1, 3, 2, 4, 5] · transposes_S32x13x5x13x5x1_S32x13x13x5x5x1_0_1_3_2_4_5) : (⟨S32x13x5x13x5x1, .i32⟩ : BufTy).Contents (Elt F) → (⟨S32x13x13x5x5x1, .i32⟩ : BufTy).Contents (Elt F))
  :: StableHlo.reshape main_v61 main_v62 (rfl : (.i32 : EltTy) = .i32) shapeCasts_S32x13x13x5x5x1_S32x169x25
  :: StableHlo.unary main_v62 main_v63 (broadcastInDim S32x169x1x25 ![0, 1, 3] bcast_S32x169x25_S32x169x1x25_0_1_3 : (⟨S32x169x25, .i32⟩ : BufTy).Contents (Elt F) → (⟨S32x169x1x25, .i32⟩ : BufTy).Contents (Elt F))
  :: StableHlo.unary main_arg9 main_v64 ((transpose S6x25 [1, 0] · transposes_S25x6_S6x25_1_0) : (⟨S25x6, .i32⟩ : BufTy).Contents (Elt F) → (⟨S6x25, .i32⟩ : BufTy).Contents (Elt F))
  :: StableHlo.unary main_v64 main_v65 (broadcastInDim S1x6x25 ![1, 2] bcast_S6x25_S1x6x25_1_2 : (⟨S6x25, .i32⟩ : BufTy).Contents (Elt F) → (⟨S1x6x25, .i32⟩ : BufTy).Contents (Elt F))
  :: StableHlo.nullary main_c_9 (constantI S_ 32 0#32)
  :: StableHlo.unary main_c_9 main_v66 (broadcastInDim S32x169x1x25 ![] bcast_S_S32x169x1x25 : (⟨S_, .i32⟩ : BufTy).Contents (Elt F) → (⟨S32x169x1x25, .i32⟩ : BufTy).Contents (Elt F))
  :: StableHlo.binary main_v63 main_v66 main_v67 (cmpi .slt : (⟨S32x169x1x25, .i32⟩ : BufTy).Contents (Elt F) → (⟨S32x169x1x25, .i32⟩ : BufTy).Contents (Elt F) → (⟨S32x169x1x25, .i1⟩ : BufTy).Contents (Elt F))
  :: StableHlo.nullary main_c_10 (constantI S_ 32 256#32)
  :: StableHlo.unary main_c_10 main_v68 (broadcastInDim S32x169x1x25 ![] bcast_S_S32x169x1x25 : (⟨S_, .i32⟩ : BufTy).Contents (Elt F) → (⟨S32x169x1x25, .i32⟩ : BufTy).Contents (Elt F))
  :: StableHlo.binary main_v63 main_v68 main_v69 (addi : (⟨S32x169x1x25, .i32⟩ : BufTy).Contents (Elt F) → (⟨S32x169x1x25, .i32⟩ : BufTy).Contents (Elt F) → (⟨S32x169x1x25, .i32⟩ : BufTy).Contents (Elt F))
  :: StableHlo.ternary main_v67 main_v69 main_v63 main_v70 (select : (⟨S32x169x1x25, .i1⟩ : BufTy).Contents (Elt F) → (⟨S32x169x1x25, .i32⟩ : BufTy).Contents (Elt F) → (⟨S32x169x1x25, .i32⟩ : BufTy).Contents (Elt F) → (⟨S32x169x1x25, .i32⟩ : BufTy).Contents (Elt F))
  :: StableHlo.nullary main_c_11 (constantI S_ 32 0#32)
  :: StableHlo.unary main_c_11 main_v71 (broadcastInDim S1x6x25 ![] bcast_S_S1x6x25 : (⟨S_, .i32⟩ : BufTy).Contents (Elt F) → (⟨S1x6x25, .i32⟩ : BufTy).Contents (Elt F))
  :: StableHlo.binary main_v65 main_v71 main_v72 (cmpi .slt : (⟨S1x6x25, .i32⟩ : BufTy).Contents (Elt F) → (⟨S1x6x25, .i32⟩ : BufTy).Contents (Elt F) → (⟨S1x6x25, .i1⟩ : BufTy).Contents (Elt F))
  :: StableHlo.nullary main_c_12 (constantI S_ 32 256#32)
  :: StableHlo.unary main_c_12 main_v73 (broadcastInDim S1x6x25 ![] bcast_S_S1x6x25 : (⟨S_, .i32⟩ : BufTy).Contents (Elt F) → (⟨S1x6x25, .i32⟩ : BufTy).Contents (Elt F))
  :: StableHlo.binary main_v65 main_v73 main_v74 (addi : (⟨S1x6x25, .i32⟩ : BufTy).Contents (Elt F) → (⟨S1x6x25, .i32⟩ : BufTy).Contents (Elt F) → (⟨S1x6x25, .i32⟩ : BufTy).Contents (Elt F))
  :: StableHlo.ternary main_v72 main_v74 main_v65 main_v75 (select : (⟨S1x6x25, .i1⟩ : BufTy).Contents (Elt F) → (⟨S1x6x25, .i32⟩ : BufTy).Contents (Elt F) → (⟨S1x6x25, .i32⟩ : BufTy).Contents (Elt F) → (⟨S1x6x25, .i32⟩ : BufTy).Contents (Elt F))
  :: StableHlo.unary main_v70 main_v76 (broadcastInDim S32x169x6x25 ![0, 1, 2, 3] bcast_S32x169x1x25_S32x169x6x25_0_1_2_3 : (⟨S32x169x1x25, .i32⟩ : BufTy).Contents (Elt F) → (⟨S32x169x6x25, .i32⟩ : BufTy).Contents (Elt F))
  :: StableHlo.unary main_v75 main_v77 (broadcastInDim S169x6x25 ![0, 1, 2] bcast_S1x6x25_S169x6x25_0_1_2 : (⟨S1x6x25, .i32⟩ : BufTy).Contents (Elt F) → (⟨S169x6x25, .i32⟩ : BufTy).Contents (Elt F))
  :: StableHlo.unary main_v76 main_v78 (broadcastInDim S32x169x6x25x1 ![0, 1, 2, 3] bcast_S32x169x6x25_S32x169x6x25x1_0_1_2_3 : (⟨S32x169x6x25, .i32⟩ : BufTy).Contents (Elt F) → (⟨S32x169x6x25x1, .i32⟩ : BufTy).Contents (Elt F))
  :: StableHlo.unary main_v77 main_v79 (broadcastInDim S169x6x25x1 ![0, 1, 2] bcast_S169x6x25_S169x6x25x1_0_1_2 : (⟨S169x6x25, .i32⟩ : BufTy).Contents (Elt F) → (⟨S169x6x25x1, .i32⟩ : BufTy).Contents (Elt F))
  :: StableHlo.unary main_v79 main_v80 (broadcastInDim S32x169x6x25x1 ![1, 2, 3, 4] bcast_S169x6x25x1_S32x169x6x25x1_1_2_3_4 : (⟨S169x6x25x1, .i32⟩ : BufTy).Contents (Elt F) → (⟨S32x169x6x25x1, .i32⟩ : BufTy).Contents (Elt F))
  :: StableHlo.binary main_v78 main_v80 main_v81 ((fun a b => concatenate S32x169x6x25x2 4 [⟨S32x169x6x25x1, a⟩, ⟨S32x169x6x25x1, b⟩] concatenates_S32x169x6x25x1_S32x169x6x25x1_S32x169x6x25x2_d4) : (⟨S32x169x6x25x1, .i32⟩ : BufTy).Contents (Elt F) → (⟨S32x169x6x25x1, .i32⟩ : BufTy).Contents (Elt F) → (⟨S32x169x6x25x2, .i32⟩ : BufTy).Contents (Elt F))
  :: StableHlo.binary main_arg5 main_v81 main_v82 ((fun x i => Host.gather gather_S256x256_S32x169x6x25x2_S32x169x6x25_n_01_n_n_01_4_11 x i) : (⟨S256x256, .i32⟩ : BufTy).Contents (Elt F) → (⟨S32x169x6x25x2, .i32⟩ : BufTy).Contents (Elt F) → (⟨S32x169x6x25, .i32⟩ : BufTy).Contents (Elt F))
  :: [] )

/-- The buffers these operations touch are all the TensorCore's. -/
theorem main_part1_ops0_sub : (main_part1_ops0 : List (HloOp τ sig (Elt F))).Forall fun op => op.bufs ⊆ StableHlo.tcRefs τ sig :=
  ⟨StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub ..⟩

/-- Operations of the printed `main_part1`, piece 1, in order. -/
abbrev main_part1_ops1 : List (HloOp τ sig (Elt F)) :=
  [ StableHlo.TRef.unary (.of main_v82 : StableHlo.TRef sig ⟨S32x169x6x25, .i32⟩) (.of main_v83 : StableHlo.TRef sig ⟨S32x169x6x25, .i32⟩) (fun x => Host.sort S32x169x6x25 3 comparator_i32_d3 x) ]

/-- The buffers these operations touch are all the TensorCore's. -/
theorem main_part1_ops1_sub : (main_part1_ops1 : List (HloOp τ sig (Elt F))).Forall fun op => op.bufs ⊆ StableHlo.tcRefs τ sig :=
  StableHlo.unary_bufs_sub ..

/-- Operations of the printed `main_part1`, piece 2, in order. -/
abbrev main_part1_ops2 : List (HloOp τ sig (Elt F)) :=
  [ StableHlo.unary main_v83 main_v84 ((extractStridedSlice S32x169x6x1 ![0, 0, 0, 0] · slices_S32x169x6x25_S32x169x6x1_0_0_0_0) : (⟨S32x169x6x25, .i32⟩ : BufTy).Contents (Elt F) → (⟨S32x169x6x1, .i32⟩ : BufTy).Contents (Elt F)),
    StableHlo.reshape main_v84 main_v85 (rfl : (.i32 : EltTy) = .i32) shapeCasts_S32x169x6x1_S32x169x6,
    StableHlo.unary main_v83 main_v86 ((extractStridedSlice S32x169x6x24 ![0, 0, 0, 1] · slices_S32x169x6x25_S32x169x6x24_0_0_0_1) : (⟨S32x169x6x25, .i32⟩ : BufTy).Contents (Elt F) → (⟨S32x169x6x24, .i32⟩ : BufTy).Contents (Elt F)),
    StableHlo.unary main_v86 main_v87 ((transpose S32x24x169x6 [0, 3, 1, 2] · transposes_S32x169x6x24_S32x24x169x6_0_3_1_2) : (⟨S32x169x6x24, .i32⟩ : BufTy).Contents (Elt F) → (⟨S32x24x169x6, .i32⟩ : BufTy).Contents (Elt F)),
    StableHlo.unary main_v87 main_v88 ((transpose S24x32x169x6 [1, 0, 2, 3] · transposes_S32x24x169x6_S24x32x169x6_1_0_2_3) : (⟨S32x24x169x6, .i32⟩ : BufTy).Contents (Elt F) → (⟨S24x32x169x6, .i32⟩ : BufTy).Contents (Elt F)),
    StableHlo.nullary main_c_13 (constantI S_ 32 0#32),
    StableHlo.unary main_v88 main_v89_0 id,
    StableHlo.unary main_arg6 main_v89_1 id,
    StableHlo.unary main_c_13 main_v89_2 id,
    StableHlo.unary main_v85 main_v89_3 id ]

/-- The buffers these operations touch are all the TensorCore's. -/
theorem main_part1_ops2_sub : (main_part1_ops2 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub ..⟩

/-- Operations of the printed `main_part1`, piece 3, in order. -/
abbrev main_part1_ops3 : List (HloOp τ sig (Elt F)) :=
  [ StableHlo.nullary main_v90 (iotaInDim S6 32 0),
    StableHlo.unary main_v90 main_v91 (broadcastInDim S1x6 ![1] bcast_S6_S1x6_1 : (⟨S6, .i32⟩ : BufTy).Contents (Elt F) → (⟨S1x6, .i32⟩ : BufTy).Contents (Elt F)),
    StableHlo.nullary main_c_14 (constantI S_ 32 0#32),
    StableHlo.unary main_c_14 main_v92 (broadcastInDim S32x169x6 ![] bcast_S_S32x169x6 : (⟨S_, .i32⟩ : BufTy).Contents (Elt F) → (⟨S32x169x6, .i32⟩ : BufTy).Contents (Elt F)),
    StableHlo.binary main_v89_3 main_v92 main_v93 (cmpi .slt : (⟨S32x169x6, .i32⟩ : BufTy).Contents (Elt F) → (⟨S32x169x6, .i32⟩ : BufTy).Contents (Elt F) → (⟨S32x169x6, .i1⟩ : BufTy).Contents (Elt F)),
    StableHlo.nullary main_c_15 (constantI S_ 32 256#32),
    StableHlo.unary main_c_15 main_v94 (broadcastInDim S32x169x6 ![] bcast_S_S32x169x6 : (⟨S_, .i32⟩ : BufTy).Contents (Elt F) → (⟨S32x169x6, .i32⟩ : BufTy).Contents (Elt F)),
    StableHlo.binary main_v89_3 main_v94 main_v95 (addi : (⟨S32x169x6, .i32⟩ : BufTy).Contents (Elt F) → (⟨S32x169x6, .i32⟩ : BufTy).Contents (Elt F) → (⟨S32x169x6, .i32⟩ : BufTy).Contents (Elt F)),
    StableHlo.ternary main_v93 main_v95 main_v89_3 main_v96 (select : (⟨S32x169x6, .i1⟩ : BufTy).Contents (Elt F) → (⟨S32x169x6, .i32⟩ : BufTy).Contents (Elt F) → (⟨S32x169x6, .i32⟩ : BufTy).Contents (Elt F) → (⟨S32x169x6, .i32⟩ : BufTy).Contents (Elt F)),
    StableHlo.nullary main_c_16 (constantI S_ 32 0#32) ]

/-- The buffers these operations touch are all the TensorCore's. -/
theorem main_part1_ops3_sub : (main_part1_ops3 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub ..⟩

/-- The printed `main_part1` is the chain of its pieces. -/
theorem main_part1_chain (c : Dev nD) : main_part1 (F := F) c = (Pipeline.chainK
  [ StableHlo.seq main_part1_ops0,
    StableHlo.seq main_part1_ops1,
    StableHlo.seq main_part1_ops2,
    HostLoop.enter 0 ]
  (StableHlo.seq main_part1_ops3) : Prog (TpuEff nD τ sig (Elt F) (HostLoop.Sig (Pipeline.Sig Λ₀ (Fin 0) fun p => (pcfgs (F := F) p).Adm) 4) .tc) PUnit) := by
  rewrite [StableHlo.chainK_seq_cons, Pipeline.chainK_cons, StableHlo.chainK_seq_cons, Pipeline.chainK_cons]
  chain_rfl

/-- Operations of the printed `main_part2`, piece 0, in order. -/
abbrev main_part2_ops0 : List (HloOp τ sig (Elt F)) :=
  ( StableHlo.unary main_c_16 main_v97 (broadcastInDim S1x6 ![] bcast_S_S1x6 : (⟨S_, .i32⟩ : BufTy).Contents (Elt F) → (⟨S1x6, .i32⟩ : BufTy).Contents (Elt F))
  :: StableHlo.binary main_v91 main_v97 main_v98 (cmpi .slt : (⟨S1x6, .i32⟩ : BufTy).Contents (Elt F) → (⟨S1x6, .i32⟩ : BufTy).Contents (Elt F) → (⟨S1x6, .i1⟩ : BufTy).Contents (Elt F))
  :: StableHlo.nullary main_c_17 (constantI S_ 32 6#32)
  :: StableHlo.unary main_c_17 main_v99 (broadcastInDim S1x6 ![] bcast_S_S1x6 : (⟨S_, .i32⟩ : BufTy).Contents (Elt F) → (⟨S1x6, .i32⟩ : BufTy).Contents (Elt F))
  :: StableHlo.binary main_v91 main_v99 main_v100 (addi : (⟨S1x6, .i32⟩ : BufTy).Contents (Elt F) → (⟨S1x6, .i32⟩ : BufTy).Contents (Elt F) → (⟨S1x6, .i32⟩ : BufTy).Contents (Elt F))
  :: StableHlo.ternary main_v98 main_v100 main_v91 main_v101 (select : (⟨S1x6, .i1⟩ : BufTy).Contents (Elt F) → (⟨S1x6, .i32⟩ : BufTy).Contents (Elt F) → (⟨S1x6, .i32⟩ : BufTy).Contents (Elt F) → (⟨S1x6, .i32⟩ : BufTy).Contents (Elt F))
  :: StableHlo.unary main_v101 main_v102 (broadcastInDim S169x6 ![0, 1] bcast_S1x6_S169x6_0_1 : (⟨S1x6, .i32⟩ : BufTy).Contents (Elt F) → (⟨S169x6, .i32⟩ : BufTy).Contents (Elt F))
  :: StableHlo.unary main_v96 main_v103 (broadcastInDim S32x169x6x1 ![0, 1, 2] bcast_S32x169x6_S32x169x6x1_0_1_2 : (⟨S32x169x6, .i32⟩ : BufTy).Contents (Elt F) → (⟨S32x169x6x1, .i32⟩ : BufTy).Contents (Elt F))
  :: StableHlo.unary main_v102 main_v104 (broadcastInDim S169x6x1 ![0, 1] bcast_S169x6_S169x6x1_0_1 : (⟨S169x6, .i32⟩ : BufTy).Contents (Elt F) → (⟨S169x6x1, .i32⟩ : BufTy).Contents (Elt F))
  :: StableHlo.unary main_v104 main_v105 (broadcastInDim S32x169x6x1 ![1, 2, 3] bcast_S169x6x1_S32x169x6x1_1_2_3 : (⟨S169x6x1, .i32⟩ : BufTy).Contents (Elt F) → (⟨S32x169x6x1, .i32⟩ : BufTy).Contents (Elt F))
  :: StableHlo.binary main_v103 main_v105 main_v106 ((fun a b => concatenate S32x169x6x2 3 [⟨S32x169x6x1, a⟩, ⟨S32x169x6x1, b⟩] concatenates_S32x169x6x1_S32x169x6x1_S32x169x6x2_d3) : (⟨S32x169x6x1, .i32⟩ : BufTy).Contents (Elt F) → (⟨S32x169x6x1, .i32⟩ : BufTy).Contents (Elt F) → (⟨S32x169x6x2, .i32⟩ : BufTy).Contents (Elt F))
  :: StableHlo.binary main_arg13 main_v106 main_v107 ((fun x i => Host.gather gather_S256x6_S32x169x6x2_S32x169x6_n_01_n_n_01_3_11 x i) : (⟨S256x6, .i32⟩ : BufTy).Contents (Elt F) → (⟨S32x169x6x2, .i32⟩ : BufTy).Contents (Elt F) → (⟨S32x169x6, .i32⟩ : BufTy).Contents (Elt F))
  :: StableHlo.reshape main_v107 main_v108 (rfl : (.i32 : EltTy) = .i32) shapeCasts_S32x169x6_S32x13x13x6
  :: StableHlo.nullary main_c_18 (constantI S_ 32 0#32)
  :: StableHlo.unary main_c_18 main_v109 (broadcastInDim S32x13x13x6 ![] bcast_S_S32x13x13x6 : (⟨S_, .i32⟩ : BufTy).Contents (Elt F) → (⟨S32x13x13x6, .i32⟩ : BufTy).Contents (Elt F))
  :: StableHlo.binary main_v108 main_v109 main_v110 (cmpi .slt : (⟨S32x13x13x6, .i32⟩ : BufTy).Contents (Elt F) → (⟨S32x13x13x6, .i32⟩ : BufTy).Contents (Elt F) → (⟨S32x13x13x6, .i1⟩ : BufTy).Contents (Elt F))
  :: StableHlo.nullary main_c_19 (constantI S_ 32 256#32)
  :: StableHlo.unary main_c_19 main_v111 (broadcastInDim S32x13x13x6 ![] bcast_S_S32x13x13x6 : (⟨S_, .i32⟩ : BufTy).Contents (Elt F) → (⟨S32x13x13x6, .i32⟩ : BufTy).Contents (Elt F))
  :: StableHlo.binary main_v108 main_v111 main_v112 (addi : (⟨S32x13x13x6, .i32⟩ : BufTy).Contents (Elt F) → (⟨S32x13x13x6, .i32⟩ : BufTy).Contents (Elt F) → (⟨S32x13x13x6, .i32⟩ : BufTy).Contents (Elt F))
  :: StableHlo.ternary main_v110 main_v112 main_v108 main_v113 (select : (⟨S32x13x13x6, .i1⟩ : BufTy).Contents (Elt F) → (⟨S32x13x13x6, .i32⟩ : BufTy).Contents (Elt F) → (⟨S32x13x13x6, .i32⟩ : BufTy).Contents (Elt F) → (⟨S32x13x13x6, .i32⟩ : BufTy).Contents (Elt F))
  :: StableHlo.unary main_v113 main_v114 (broadcastInDim S32x13x13x6x1 ![0, 1, 2, 3] bcast_S32x13x13x6_S32x13x13x6x1_0_1_2_3 : (⟨S32x13x13x6, .i32⟩ : BufTy).Contents (Elt F) → (⟨S32x13x13x6x1, .i32⟩ : BufTy).Contents (Elt F))
  :: StableHlo.binary main_arg8 main_v114 main_v115 ((fun x i => Host.gather gather_S256_S32x13x13x6x1_S32x13x13x6_n_0_n_n_0_4_1 x i) : (⟨S256, .i32⟩ : BufTy).Contents (Elt F) → (⟨S32x13x13x6x1, .i32⟩ : BufTy).Contents (Elt F) → (⟨S32x13x13x6, .i32⟩ : BufTy).Contents (Elt F))
  :: StableHlo.nullary main_v116 (iotaInDim S5 32 0)
  :: StableHlo.nullary main_c_20 (constantI S_ 32 2#32)
  :: StableHlo.unary main_c_20 main_v117 (broadcastInDim S5 ![] bcast_S_S5 : (⟨S_, .i32⟩ : BufTy).Contents (Elt F) → (⟨S5, .i32⟩ : BufTy).Contents (Elt F))
  :: StableHlo.binary main_v116 main_v117 main_v118 (muli : (⟨S5, .i32⟩ : BufTy).Contents (Elt F) → (⟨S5, .i32⟩ : BufTy).Contents (Elt F) → (⟨S5, .i32⟩ : BufTy).Contents (Elt F))
  :: StableHlo.unary main_v118 main_v119 (broadcastInDim S5x1 ![0] bcast_S5_S5x1_0 : (⟨S5, .i32⟩ : BufTy).Contents (Elt F) → (⟨S5x1, .i32⟩ : BufTy).Contents (Elt F))
  :: StableHlo.nullary main_v120 (iotaInDim S5 32 0)
  :: StableHlo.unary main_v120 main_v121 (broadcastInDim S1x5 ![1] bcast_S5_S1x5_1 : (⟨S5, .i32⟩ : BufTy).Contents (Elt F) → (⟨S1x5, .i32⟩ : BufTy).Contents (Elt F))
  :: StableHlo.unary main_v119 main_v122 (broadcastInDim S5x5 ![0, 1] bcast_S5x1_S5x5_0_1 : (⟨S5x1, .i32⟩ : BufTy).Contents (Elt F) → (⟨S5x5, .i32⟩ : BufTy).Contents (Elt F))
  :: StableHlo.unary main_v121 main_v123 (broadcastInDim S5x5 ![0, 1] bcast_S1x5_S5x5_0_1 : (⟨S1x5, .i32⟩ : BufTy).Contents (Elt F) → (⟨S5x5, .i32⟩ : BufTy).Contents (Elt F))
  :: StableHlo.binary main_v122 main_v123 main_v124 (addi : (⟨S5x5, .i32⟩ : BufTy).Contents (Elt F) → (⟨S5x5, .i32⟩ : BufTy).Contents (Elt F) → (⟨S5x5, .i32⟩ : BufTy).Contents (Elt F))
  :: StableHlo.nullary main_c_21 (constantI S_ 32 0#32)
  :: StableHlo.unary main_c_21 main_v125 (broadcastInDim S5x5 ![] bcast_S_S5x5 : (⟨S_, .i32⟩ : BufTy).Contents (Elt F) → (⟨S5x5, .i32⟩ : BufTy).Contents (Elt F))
  :: StableHlo.binary main_v124 main_v125 main_v126 (cmpi .slt : (⟨S5x5, .i32⟩ : BufTy).Contents (Elt F) → (⟨S5x5, .i32⟩ : BufTy).Contents (Elt F) → (⟨S5x5, .i1⟩ : BufTy).Contents (Elt F))
  :: StableHlo.nullary main_c_22 (constantI S_ 32 13#32)
  :: StableHlo.unary main_c_22 main_v127 (broadcastInDim S5x5 ![] bcast_S_S5x5 : (⟨S_, .i32⟩ : BufTy).Contents (Elt F) → (⟨S5x5, .i32⟩ : BufTy).Contents (Elt F))
  :: StableHlo.binary main_v124 main_v127 main_v128 (addi : (⟨S5x5, .i32⟩ : BufTy).Contents (Elt F) → (⟨S5x5, .i32⟩ : BufTy).Contents (Elt F) → (⟨S5x5, .i32⟩ : BufTy).Contents (Elt F))
  :: StableHlo.ternary main_v126 main_v128 main_v124 main_v129 (select : (⟨S5x5, .i1⟩ : BufTy).Contents (Elt F) → (⟨S5x5, .i32⟩ : BufTy).Contents (Elt F) → (⟨S5x5, .i32⟩ : BufTy).Contents (Elt F) → (⟨S5x5, .i32⟩ : BufTy).Contents (Elt F))
  :: StableHlo.unary main_v129 main_v130 (broadcastInDim S5x5x1 ![0, 1] bcast_S5x5_S5x5x1_0_1 : (⟨S5x5, .i32⟩ : BufTy).Contents (Elt F) → (⟨S5x5x1, .i32⟩ : BufTy).Contents (Elt F))
  :: StableHlo.binary main_v115 main_v130 main_v131 ((fun x i => Host.gather gather_S32x13x13x6_S5x5x1_S32x5x5x13x6_034_1_n_n_1_2_321136 x i) : (⟨S32x13x13x6, .i32⟩ : BufTy).Contents (Elt F) → (⟨S5x5x1, .i32⟩ : BufTy).Contents (Elt F) → (⟨S32x5x5x13x6, .i32⟩ : BufTy).Contents (Elt F))
  :: StableHlo.nullary main_c_23 (constantI S_ 32 0#32)
  :: StableHlo.unary main_c_23 main_v132 (broadcastInDim S5x5 ![] bcast_S_S5x5 : (⟨S_, .i32⟩ : BufTy).Contents (Elt F) → (⟨S5x5, .i32⟩ : BufTy).Contents (Elt F))
  :: StableHlo.binary main_v124 main_v132 main_v133 (cmpi .slt : (⟨S5x5, .i32⟩ : BufTy).Contents (Elt F) → (⟨S5x5, .i32⟩ : BufTy).Contents (Elt F) → (⟨S5x5, .i1⟩ : BufTy).Contents (Elt F))
  :: StableHlo.nullary main_c_24 (constantI S_ 32 13#32)
  :: StableHlo.unary main_c_24 main_v134 (broadcastInDim S5x5 ![] bcast_S_S5x5 : (⟨S_, .i32⟩ : BufTy).Contents (Elt F) → (⟨S5x5, .i32⟩ : BufTy).Contents (Elt F))
  :: StableHlo.binary main_v124 main_v134 main_v135 (addi : (⟨S5x5, .i32⟩ : BufTy).Contents (Elt F) → (⟨S5x5, .i32⟩ : BufTy).Contents (Elt F) → (⟨S5x5, .i32⟩ : BufTy).Contents (Elt F))
  :: StableHlo.ternary main_v133 main_v135 main_v124 main_v136 (select : (⟨S5x5, .i1⟩ : BufTy).Contents (Elt F) → (⟨S5x5, .i32⟩ : BufTy).Contents (Elt F) → (⟨S5x5, .i32⟩ : BufTy).Contents (Elt F) → (⟨S5x5, .i32⟩ : BufTy).Contents (Elt F))
  :: StableHlo.unary main_v136 main_v137 (broadcastInDim S5x5x1 ![0, 1] bcast_S5x5_S5x5x1_0_1 : (⟨S5x5, .i32⟩ : BufTy).Contents (Elt F) → (⟨S5x5x1, .i32⟩ : BufTy).Contents (Elt F))
  :: StableHlo.binary main_v131 main_v137 main_v138 ((fun x i => Host.gather gather_S32x5x5x13x6_S5x5x1_S32x5x5x5x5x6_0125_3_n_n_3_2_325516 x i) : (⟨S32x5x5x13x6, .i32⟩ : BufTy).Contents (Elt F) → (⟨S5x5x1, .i32⟩ : BufTy).Contents (Elt F) → (⟨S32x5x5x5x5x6, .i32⟩ : BufTy).Contents (Elt F))
  :: StableHlo.unary main_v138 main_v139 ((transpose S32x5x5x5x5x6 [0, 1, 3, 2, 4, 5] · transposes_S32x5x5x5x5x6_S32x5x5x5x5x6_0_1_3_2_4_5) : (⟨S32x5x5x5x5x6, .i32⟩ : BufTy).Contents (Elt F) → (⟨S32x5x5x5x5x6, .i32⟩ : BufTy).Contents (Elt F))
  :: StableHlo.reshape main_v139 main_v140 (rfl : (.i32 : EltTy) = .i32) shapeCasts_S32x5x5x5x5x6_S32x25x150
  :: StableHlo.unary main_v140 main_v141 (broadcastInDim S32x25x1x150 ![0, 1, 3] bcast_S32x25x150_S32x25x1x150_0_1_3 : (⟨S32x25x150, .i32⟩ : BufTy).Contents (Elt F) → (⟨S32x25x1x150, .i32⟩ : BufTy).Contents (Elt F))
  :: StableHlo.unary main_arg10 main_v142 ((transpose S16x150 [1, 0] · transposes_S150x16_S16x150_1_0) : (⟨S150x16, .i32⟩ : BufTy).Contents (Elt F) → (⟨S16x150, .i32⟩ : BufTy).Contents (Elt F))
  :: StableHlo.unary main_v142 main_v143 (broadcastInDim S1x16x150 ![1, 2] bcast_S16x150_S1x16x150_1_2 : (⟨S16x150, .i32⟩ : BufTy).Contents (Elt F) → (⟨S1x16x150, .i32⟩ : BufTy).Contents (Elt F))
  :: StableHlo.nullary main_c_25 (constantI S_ 32 0#32)
  :: StableHlo.unary main_c_25 main_v144 (broadcastInDim S32x25x1x150 ![] bcast_S_S32x25x1x150 : (⟨S_, .i32⟩ : BufTy).Contents (Elt F) → (⟨S32x25x1x150, .i32⟩ : BufTy).Contents (Elt F))
  :: StableHlo.binary main_v141 main_v144 main_v145 (cmpi .slt : (⟨S32x25x1x150, .i32⟩ : BufTy).Contents (Elt F) → (⟨S32x25x1x150, .i32⟩ : BufTy).Contents (Elt F) → (⟨S32x25x1x150, .i1⟩ : BufTy).Contents (Elt F))
  :: StableHlo.nullary main_c_26 (constantI S_ 32 256#32)
  :: StableHlo.unary main_c_26 main_v146 (broadcastInDim S32x25x1x150 ![] bcast_S_S32x25x1x150 : (⟨S_, .i32⟩ : BufTy).Contents (Elt F) → (⟨S32x25x1x150, .i32⟩ : BufTy).Contents (Elt F))
  :: [] )

/-- The buffers these operations touch are all the TensorCore's. -/
theorem main_part2_ops0_sub : (main_part2_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.binary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub ..⟩

/-- The printed `main_part2` is the chain of its pieces. -/
theorem main_part2_chain (c : Dev nD) : main_part2 (F := F) c = (Pipeline.chainK
  [  ]
  (StableHlo.seq main_part2_ops0) : Prog (TpuEff nD τ sig (Elt F) (HostLoop.Sig (Pipeline.Sig Λ₀ (Fin 0) fun p => (pcfgs (F := F) p).Adm) 4) .tc) PUnit) := by
  chain_rfl

/-- Operations of the printed `main_part3`, piece 0, in order. -/
abbrev main_part3_ops0 : List (HloOp τ sig (Elt F)) :=
  [ StableHlo.binary main_v141 main_v146 main_v147 (addi : (⟨S32x25x1x150, .i32⟩ : BufTy).Contents (Elt F) → (⟨S32x25x1x150, .i32⟩ : BufTy).Contents (Elt F) → (⟨S32x25x1x150, .i32⟩ : BufTy).Contents (Elt F)),
    StableHlo.ternary main_v145 main_v147 main_v141 main_v148 (select : (⟨S32x25x1x150, .i1⟩ : BufTy).Contents (Elt F) → (⟨S32x25x1x150, .i32⟩ : BufTy).Contents (Elt F) → (⟨S32x25x1x150, .i32⟩ : BufTy).Contents (Elt F) → (⟨S32x25x1x150, .i32⟩ : BufTy).Contents (Elt F)),
    StableHlo.nullary main_c_27 (constantI S_ 32 0#32),
    StableHlo.unary main_c_27 main_v149 (broadcastInDim S1x16x150 ![] bcast_S_S1x16x150 : (⟨S_, .i32⟩ : BufTy).Contents (Elt F) → (⟨S1x16x150, .i32⟩ : BufTy).Contents (Elt F)),
    StableHlo.binary main_v143 main_v149 main_v150 (cmpi .slt : (⟨S1x16x150, .i32⟩ : BufTy).Contents (Elt F) → (⟨S1x16x150, .i32⟩ : BufTy).Contents (Elt F) → (⟨S1x16x150, .i1⟩ : BufTy).Contents (Elt F)),
    StableHlo.nullary main_c_28 (constantI S_ 32 256#32),
    StableHlo.unary main_c_28 main_v151 (broadcastInDim S1x16x150 ![] bcast_S_S1x16x150 : (⟨S_, .i32⟩ : BufTy).Contents (Elt F) → (⟨S1x16x150, .i32⟩ : BufTy).Contents (Elt F)),
    StableHlo.binary main_v143 main_v151 main_v152 (addi : (⟨S1x16x150, .i32⟩ : BufTy).Contents (Elt F) → (⟨S1x16x150, .i32⟩ : BufTy).Contents (Elt F) → (⟨S1x16x150, .i32⟩ : BufTy).Contents (Elt F)),
    StableHlo.ternary main_v150 main_v152 main_v143 main_v153 (select : (⟨S1x16x150, .i1⟩ : BufTy).Contents (Elt F) → (⟨S1x16x150, .i32⟩ : BufTy).Contents (Elt F) → (⟨S1x16x150, .i32⟩ : BufTy).Contents (Elt F) → (⟨S1x16x150, .i32⟩ : BufTy).Contents (Elt F)),
    StableHlo.unary main_v148 main_v154 (broadcastInDim S32x25x16x150 ![0, 1, 2, 3] bcast_S32x25x1x150_S32x25x16x150_0_1_2_3 : (⟨S32x25x1x150, .i32⟩ : BufTy).Contents (Elt F) → (⟨S32x25x16x150, .i32⟩ : BufTy).Contents (Elt F)),
    StableHlo.unary main_v153 main_v155 (broadcastInDim S25x16x150 ![0, 1, 2] bcast_S1x16x150_S25x16x150_0_1_2 : (⟨S1x16x150, .i32⟩ : BufTy).Contents (Elt F) → (⟨S25x16x150, .i32⟩ : BufTy).Contents (Elt F)),
    StableHlo.unary main_v154 main_v156 (broadcastInDim S32x25x16x150x1 ![0, 1, 2, 3] bcast_S32x25x16x150_S32x25x16x150x1_0_1_2_3 : (⟨S32x25x16x150, .i32⟩ : BufTy).Contents (Elt F) → (⟨S32x25x16x150x1, .i32⟩ : BufTy).Contents (Elt F)),
    StableHlo.unary main_v155 main_v157 (broadcastInDim S25x16x150x1 ![0, 1, 2] bcast_S25x16x150_S25x16x150x1_0_1_2 : (⟨S25x16x150, .i32⟩ : BufTy).Contents (Elt F) → (⟨S25x16x150x1, .i32⟩ : BufTy).Contents (Elt F)),
    StableHlo.unary main_v157 main_v158 (broadcastInDim S32x25x16x150x1 ![1, 2, 3, 4] bcast_S25x16x150x1_S32x25x16x150x1_1_2_3_4 : (⟨S25x16x150x1, .i32⟩ : BufTy).Contents (Elt F) → (⟨S32x25x16x150x1, .i32⟩ : BufTy).Contents (Elt F)),
    StableHlo.binary main_v156 main_v158 main_v159 ((fun a b => concatenate S32x25x16x150x2 4 [⟨S32x25x16x150x1, a⟩, ⟨S32x25x16x150x1, b⟩] concatenates_S32x25x16x150x1_S32x25x16x150x1_S32x25x16x150x2_d4) : (⟨S32x25x16x150x1, .i32⟩ : BufTy).Contents (Elt F) → (⟨S32x25x16x150x1, .i32⟩ : BufTy).Contents (Elt F) → (⟨S32x25x16x150x2, .i32⟩ : BufTy).Contents (Elt F)),
    StableHlo.binary main_arg5 main_v159 main_v160 ((fun x i => Host.gather gather_S256x256_S32x25x16x150x2_S32x25x16x150_n_01_n_n_01_4_11 x i) : (⟨S256x256, .i32⟩ : BufTy).Contents (Elt F) → (⟨S32x25x16x150x2, .i32⟩ : BufTy).Contents (Elt F) → (⟨S32x25x16x150, .i32⟩ : BufTy).Contents (Elt F)) ]

/-- The buffers these operations touch are all the TensorCore's. -/
theorem main_part3_ops0_sub : (main_part3_ops0 : List (HloOp τ sig (Elt F))).Forall fun op => op.bufs ⊆ StableHlo.tcRefs τ sig :=
  ⟨StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub ..⟩

/-- Operations of the printed `main_part3`, piece 1, in order. -/
abbrev main_part3_ops1 : List (HloOp τ sig (Elt F)) :=
  [ StableHlo.TRef.unary (.of main_v160 : StableHlo.TRef sig ⟨S32x25x16x150, .i32⟩) (.of main_v161 : StableHlo.TRef sig ⟨S32x25x16x150, .i32⟩) (fun x => Host.sort S32x25x16x150 3 comparator_i32_d3 x) ]

/-- The buffers these operations touch are all the TensorCore's. -/
theorem main_part3_ops1_sub : (main_part3_ops1 : List (HloOp τ sig (Elt F))).Forall fun op => op.bufs ⊆ StableHlo.tcRefs τ sig :=
  StableHlo.unary_bufs_sub ..

/-- Operations of the printed `main_part3`, piece 2, in order. -/
abbrev main_part3_ops2 : List (HloOp τ sig (Elt F)) :=
  [ StableHlo.unary main_v161 main_v162 ((extractStridedSlice S32x25x16x1 ![0, 0, 0, 0] · slices_S32x25x16x150_S32x25x16x1_0_0_0_0) : (⟨S32x25x16x150, .i32⟩ : BufTy).Contents (Elt F) → (⟨S32x25x16x1, .i32⟩ : BufTy).Contents (Elt F)),
    StableHlo.reshape main_v162 main_v163 (rfl : (.i32 : EltTy) = .i32) shapeCasts_S32x25x16x1_S32x25x16,
    StableHlo.unary main_v161 main_v164 ((extractStridedSlice S32x25x16x149 ![0, 0, 0, 1] · slices_S32x25x16x150_S32x25x16x149_0_0_0_1) : (⟨S32x25x16x150, .i32⟩ : BufTy).Contents (Elt F) → (⟨S32x25x16x149, .i32⟩ : BufTy).Contents (Elt F)),
    StableHlo.unary main_v164 main_v165 ((transpose S32x149x25x16 [0, 3, 1, 2] · transposes_S32x25x16x149_S32x149x25x16_0_3_1_2) : (⟨S32x25x16x149, .i32⟩ : BufTy).Contents (Elt F) → (⟨S32x149x25x16, .i32⟩ : BufTy).Contents (Elt F)),
    StableHlo.unary main_v165 main_v166 ((transpose S149x32x25x16 [1, 0, 2, 3] · transposes_S32x149x25x16_S149x32x25x16_1_0_2_3) : (⟨S32x149x25x16, .i32⟩ : BufTy).Contents (Elt F) → (⟨S149x32x25x16, .i32⟩ : BufTy).Contents (Elt F)),
    StableHlo.nullary main_c_29 (constantI S_ 32 0#32),
    StableHlo.unary main_v166 main_v167_0 id,
    StableHlo.unary main_arg6 main_v167_1 id,
    StableHlo.unary main_c_29 main_v167_2 id,
    StableHlo.unary main_v163 main_v167_3 id ]

/-- The buffers these operations touch are all the TensorCore's. -/
theorem main_part3_ops2_sub : (main_part3_ops2 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub ..⟩

/-- Operations of the printed `main_part3`, piece 3, in order. -/
abbrev main_part3_ops3 : List (HloOp τ sig (Elt F)) :=
  [ StableHlo.nullary main_v168 (iotaInDim S16 32 0),
    StableHlo.unary main_v168 main_v169 (broadcastInDim S1x16 ![1] bcast_S16_S1x16_1 : (⟨S16, .i32⟩ : BufTy).Contents (Elt F) → (⟨S1x16, .i32⟩ : BufTy).Contents (Elt F)),
    StableHlo.nullary main_c_30 (constantI S_ 32 0#32),
    StableHlo.unary main_c_30 main_v170 (broadcastInDim S32x25x16 ![] bcast_S_S32x25x16 : (⟨S_, .i32⟩ : BufTy).Contents (Elt F) → (⟨S32x25x16, .i32⟩ : BufTy).Contents (Elt F)),
    StableHlo.binary main_v167_3 main_v170 main_v171 (cmpi .slt : (⟨S32x25x16, .i32⟩ : BufTy).Contents (Elt F) → (⟨S32x25x16, .i32⟩ : BufTy).Contents (Elt F) → (⟨S32x25x16, .i1⟩ : BufTy).Contents (Elt F)),
    StableHlo.nullary main_c_31 (constantI S_ 32 256#32),
    StableHlo.unary main_c_31 main_v172 (broadcastInDim S32x25x16 ![] bcast_S_S32x25x16 : (⟨S_, .i32⟩ : BufTy).Contents (Elt F) → (⟨S32x25x16, .i32⟩ : BufTy).Contents (Elt F)),
    StableHlo.binary main_v167_3 main_v172 main_v173 (addi : (⟨S32x25x16, .i32⟩ : BufTy).Contents (Elt F) → (⟨S32x25x16, .i32⟩ : BufTy).Contents (Elt F) → (⟨S32x25x16, .i32⟩ : BufTy).Contents (Elt F)),
    StableHlo.ternary main_v171 main_v173 main_v167_3 main_v174 (select : (⟨S32x25x16, .i1⟩ : BufTy).Contents (Elt F) → (⟨S32x25x16, .i32⟩ : BufTy).Contents (Elt F) → (⟨S32x25x16, .i32⟩ : BufTy).Contents (Elt F) → (⟨S32x25x16, .i32⟩ : BufTy).Contents (Elt F)),
    StableHlo.nullary main_c_32 (constantI S_ 32 0#32),
    StableHlo.unary main_c_32 main_v175 (broadcastInDim S1x16 ![] bcast_S_S1x16 : (⟨S_, .i32⟩ : BufTy).Contents (Elt F) → (⟨S1x16, .i32⟩ : BufTy).Contents (Elt F)),
    StableHlo.binary main_v169 main_v175 main_v176 (cmpi .slt : (⟨S1x16, .i32⟩ : BufTy).Contents (Elt F) → (⟨S1x16, .i32⟩ : BufTy).Contents (Elt F) → (⟨S1x16, .i1⟩ : BufTy).Contents (Elt F)),
    StableHlo.nullary main_c_33 (constantI S_ 32 16#32),
    StableHlo.unary main_c_33 main_v177 (broadcastInDim S1x16 ![] bcast_S_S1x16 : (⟨S_, .i32⟩ : BufTy).Contents (Elt F) → (⟨S1x16, .i32⟩ : BufTy).Contents (Elt F)),
    StableHlo.binary main_v169 main_v177 main_v178 (addi : (⟨S1x16, .i32⟩ : BufTy).Contents (Elt F) → (⟨S1x16, .i32⟩ : BufTy).Contents (Elt F) → (⟨S1x16, .i32⟩ : BufTy).Contents (Elt F)),
    StableHlo.ternary main_v176 main_v178 main_v169 main_v179 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F)),
    StableHlo.unary main_v179 main_v180 (broadcastInDim S25x16 ![0, 1] bcast_S1x16_S25x16_0_1 : (⟨S1x16, .i32⟩ : BufTy).Contents (Elt F) → (⟨S25x16, .i32⟩ : BufTy).Contents (Elt F)),
    StableHlo.unary main_v174 main_v181 (broadcastInDim S32x25x16x1 ![0, 1, 2] bcast_S32x25x16_S32x25x16x1_0_1_2 : (⟨S32x25x16, .i32⟩ : BufTy).Contents (Elt F) → (⟨S32x25x16x1, .i32⟩ : BufTy).Contents (Elt F)),
    StableHlo.unary main_v180 main_v182 (broadcastInDim S25x16x1 ![0, 1] bcast_S25x16_S25x16x1_0_1 : (⟨S25x16, .i32⟩ : BufTy).Contents (Elt F) → (⟨S25x16x1, .i32⟩ : BufTy).Contents (Elt F)),
    StableHlo.unary main_v182 main_v183 (broadcastInDim S32x25x16x1 ![1, 2, 3] bcast_S25x16x1_S32x25x16x1_1_2_3 : (⟨S25x16x1, .i32⟩ : BufTy).Contents (Elt F) → (⟨S32x25x16x1, .i32⟩ : BufTy).Contents (Elt F)),
    StableHlo.binary main_v181 main_v183 main_v184 ((fun a b => concatenate S32x25x16x2 3 [⟨S32x25x16x1, a⟩, ⟨S32x25x16x1, b⟩] concatenates_S32x25x16x1_S32x25x16x1_S32x25x16x2_d3) : (⟨S32x25x16x1, .i32⟩ : BufTy).Contents (Elt F) → (⟨S32x25x16x1, .i32⟩ : BufTy).Contents (Elt F) → (⟨S32x25x16x2, .i32⟩ : BufTy).Contents (Elt F)),
    StableHlo.binary main_arg14 main_v184 main_v185 ((fun x i => Host.gather gather_S256x16_S32x25x16x2_S32x25x16_n_01_n_n_01_3_11 x i) : (⟨S256x16, .i32⟩ : BufTy).Contents (Elt F) → (⟨S32x25x16x2, .i32⟩ : BufTy).Contents (Elt F) → (⟨S32x25x16, .i32⟩ : BufTy).Contents (Elt F)),
    StableHlo.reshape main_v185 main_v186 (rfl : (.i32 : EltTy) = .i32) shapeCasts_S32x25x16_S32x5x5x16,
    StableHlo.nullary main_c_34 (constantI S_ 32 0#32),
    StableHlo.unary main_c_34 main_v187 (broadcastInDim S32x5x5x16 ![] bcast_S_S32x5x5x16 : (⟨S_, .i32⟩ : BufTy).Contents (Elt F) → (⟨S32x5x5x16, .i32⟩ : BufTy).Contents (Elt F)),
    StableHlo.binary main_v186 main_v187 main_v188 (cmpi .slt : (⟨S32x5x5x16, .i32⟩ : BufTy).Contents (Elt F) → (⟨S32x5x5x16, .i32⟩ : BufTy).Contents (Elt F) → (⟨S32x5x5x16, .i1⟩ : BufTy).Contents (Elt F)),
    StableHlo.nullary main_c_35 (constantI S_ 32 256#32),
    StableHlo.unary main_c_35 main_v189 (broadcastInDim S32x5x5x16 ![] bcast_S_S32x5x5x16 : (⟨S_, .i32⟩ : BufTy).Contents (Elt F) → (⟨S32x5x5x16, .i32⟩ : BufTy).Contents (Elt F)),
    StableHlo.binary main_v186 main_v189 main_v190 (addi : (⟨S32x5x5x16, .i32⟩ : BufTy).Contents (Elt F) → (⟨S32x5x5x16, .i32⟩ : BufTy).Contents (Elt F) → (⟨S32x5x5x16, .i32⟩ : BufTy).Contents (Elt F)),
    StableHlo.ternary main_v188 main_v190 main_v186 main_v191 (select : (⟨S32x5x5x16, .i1⟩ : BufTy).Contents (Elt F) → (⟨S32x5x5x16, .i32⟩ : BufTy).Contents (Elt F) → (⟨S32x5x5x16, .i32⟩ : BufTy).Contents (Elt F) → (⟨S32x5x5x16, .i32⟩ : BufTy).Contents (Elt F)),
    StableHlo.unary main_v191 main_v192 (broadcastInDim S32x5x5x16x1 ![0, 1, 2, 3] bcast_S32x5x5x16_S32x5x5x16x1_0_1_2_3 : (⟨S32x5x5x16, .i32⟩ : BufTy).Contents (Elt F) → (⟨S32x5x5x16x1, .i32⟩ : BufTy).Contents (Elt F)),
    StableHlo.binary main_arg8 main_v192 main_v193 ((fun x i => Host.gather gather_S256_S32x5x5x16x1_S32x5x5x16_n_0_n_n_0_4_1 x i) : (⟨S256, .i32⟩ : BufTy).Contents (Elt F) → (⟨S32x5x5x16x1, .i32⟩ : BufTy).Contents (Elt F) → (⟨S32x5x5x16, .i32⟩ : BufTy).Contents (Elt F)) ]

/-- The buffers these operations touch are all the TensorCore's. -/
theorem main_part3_ops3_sub : (main_part3_ops3 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.binary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

/-- The printed `main_part3` is the chain of its pieces. -/
theorem main_part3_chain (c : Dev nD) : main_part3 (F := F) c = (Pipeline.chainK
  [ StableHlo.seq main_part3_ops0,
    StableHlo.seq main_part3_ops1,
    StableHlo.seq main_part3_ops2,
    HostLoop.enter 1 ]
  (StableHlo.seq main_part3_ops3) : Prog (TpuEff nD τ sig (Elt F) (HostLoop.Sig (Pipeline.Sig Λ₀ (Fin 0) fun p => (pcfgs (F := F) p).Adm) 4) .tc) PUnit) := by
  rewrite [StableHlo.chainK_seq_cons, Pipeline.chainK_cons, StableHlo.chainK_seq_cons, Pipeline.chainK_cons]
  chain_rfl

/-- Operations of the printed `main_part4`, piece 0, in order. -/
abbrev main_part4_ops0 : List (HloOp τ sig (Elt F)) :=
  [ StableHlo.unary main_v193 main_v194 ((transpose S32x16x5x5 [0, 3, 1, 2] · transposes_S32x5x5x16_S32x16x5x5_0_3_1_2) : (⟨S32x5x5x16, .i32⟩ : BufTy).Contents (Elt F) → (⟨S32x16x5x5, .i32⟩ : BufTy).Contents (Elt F)),
    StableHlo.reshape main_v194 main_v195 (rfl : (.i32 : EltTy) = .i32) shapeCasts_S32x16x5x5_S32x400,
    StableHlo.unary main_v195 main_v196 (broadcastInDim S32x1x400 ![0, 2] bcast_S32x400_S32x1x400_0_2 : (⟨S32x400, .i32⟩ : BufTy).Contents (Elt F) → (⟨S32x1x400, .i32⟩ : BufTy).Contents (Elt F)),
    StableHlo.nullary main_c_36 (constantI S_ 32 0#32),
    StableHlo.unary main_c_36 main_v197 (broadcastInDim S32x1x400 ![] bcast_S_S32x1x400 : (⟨S_, .i32⟩ : BufTy).Contents (Elt F) → (⟨S32x1x400, .i32⟩ : BufTy).Contents (Elt F)),
    StableHlo.binary main_v196 main_v197 main_v198 (cmpi .slt : (⟨S32x1x400, .i32⟩ : BufTy).Contents (Elt F) → (⟨S32x1x400, .i32⟩ : BufTy).Contents (Elt F) → (⟨S32x1x400, .i1⟩ : BufTy).Contents (Elt F)),
    StableHlo.nullary main_c_37 (constantI S_ 32 256#32),
    StableHlo.unary main_c_37 main_v199 (broadcastInDim S32x1x400 ![] bcast_S_S32x1x400 : (⟨S_, .i32⟩ : BufTy).Contents (Elt F) → (⟨S32x1x400, .i32⟩ : BufTy).Contents (Elt F)),
    StableHlo.binary main_v196 main_v199 main_v200 (addi : (⟨S32x1x400, .i32⟩ : BufTy).Contents (Elt F) → (⟨S32x1x400, .i32⟩ : BufTy).Contents (Elt F) → (⟨S32x1x400, .i32⟩ : BufTy).Contents (Elt F)),
    StableHlo.ternary main_v198 main_v200 main_v196 main_v201 (select : (⟨S32x1x400, .i1⟩ : BufTy).Contents (Elt F) → (⟨S32x1x400, .i32⟩ : BufTy).Contents (Elt F) → (⟨S32x1x400, .i32⟩ : BufTy).Contents (Elt F) → (⟨S32x1x400, .i32⟩ : BufTy).Contents (Elt F)),
    StableHlo.nullary main_c_38 (constantI S_ 32 0#32),
    StableHlo.unary main_c_38 main_v202 (broadcastInDim S120x400 ![] bcast_S_S120x400 : (⟨S_, .i32⟩ : BufTy).Contents (Elt F) → (⟨S120x400, .i32⟩ : BufTy).Contents (Elt F)),
    StableHlo.binary main_arg11 main_v202 main_v203 (cmpi .slt : (⟨S120x400, .i32⟩ : BufTy).Contents (Elt F) → (⟨S120x400, .i32⟩ : BufTy).Contents (Elt F) → (⟨S120x400, .i1⟩ : BufTy).Contents (Elt F)),
    StableHlo.nullary main_c_39 (constantI S_ 32 256#32),
    StableHlo.unary main_c_39 main_v204 (broadcastInDim S120x400 ![] bcast_S_S120x400 : (⟨S_, .i32⟩ : BufTy).Contents (Elt F) → (⟨S120x400, .i32⟩ : BufTy).Contents (Elt F)),
    StableHlo.binary main_arg11 main_v204 main_v205 (addi : (⟨S120x400, .i32⟩ : BufTy).Contents (Elt F) → (⟨S120x400, .i32⟩ : BufTy).Contents (Elt F) → (⟨S120x400, .i32⟩ : BufTy).Contents (Elt F)),
    StableHlo.ternary main_v203 main_v205 main_arg11 main_v206 (select : (⟨S120x400, .i1⟩ : BufTy).Contents (Elt F) → (⟨S120x400, .i32⟩ : BufTy).Contents (Elt F) → (⟨S120x400, .i32⟩ : BufTy).Contents (Elt F) → (⟨S120x400, .i32⟩ : BufTy).Contents (Elt F)),
    StableHlo.unary main_v201 main_v207 (broadcastInDim S32x120x400 ![0, 1, 2] bcast_S32x1x400_S32x120x400_0_1_2 : (⟨S32x1x400, .i32⟩ : BufTy).Contents (Elt F) → (⟨S32x120x400, .i32⟩ : BufTy).Contents (Elt F)),
    StableHlo.unary main_v207 main_v208 (broadcastInDim S32x120x400x1 ![0, 1, 2] bcast_S32x120x400_S32x120x400x1_0_1_2 : (⟨S32x120x400, .i32⟩ : BufTy).Contents (Elt F) → (⟨S32x120x400x1, .i32⟩ : BufTy).Contents (Elt F)),
    StableHlo.unary main_v206 main_v209 (broadcastInDim S120x400x1 ![0, 1] bcast_S120x400_S120x400x1_0_1 : (⟨S120x400, .i32⟩ : BufTy).Contents (Elt F) → (⟨S120x400x1, .i32⟩ : BufTy).Contents (Elt F)),
    StableHlo.unary main_v209 main_v210 (broadcastInDim S32x120x400x1 ![1, 2, 3] bcast_S120x400x1_S32x120x400x1_1_2_3 : (⟨S120x400x1, .i32⟩ : BufTy).Contents (Elt F) → (⟨S32x120x400x1, .i32⟩ : BufTy).Contents (Elt F)),
    StableHlo.binary main_v208 main_v210 main_v211 ((fun a b => concatenate S32x120x400x2 3 [⟨S32x120x400x1, a⟩, ⟨S32x120x400x1, b⟩] concatenates_S32x120x400x1_S32x120x400x1_S32x120x400x2_d3) : (⟨S32x120x400x1, .i32⟩ : BufTy).Contents (Elt F) → (⟨S32x120x400x1, .i32⟩ : BufTy).Contents (Elt F) → (⟨S32x120x400x2, .i32⟩ : BufTy).Contents (Elt F)),
    StableHlo.binary main_arg7 main_v211 main_v212 ((fun x i => Host.gather gather_S256x256_S32x120x400x2_S32x120x400_n_01_n_n_01_3_11 x i) : (⟨S256x256, .i32⟩ : BufTy).Contents (Elt F) → (⟨S32x120x400x2, .i32⟩ : BufTy).Contents (Elt F) → (⟨S32x120x400, .i32⟩ : BufTy).Contents (Elt F)) ]

/-- The buffers these operations touch are all the TensorCore's. -/
theorem main_part4_ops0_sub : (main_part4_ops0 : List (HloOp τ sig (Elt F))).Forall fun op => op.bufs ⊆ StableHlo.tcRefs τ sig :=
  ⟨StableHlo.unary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.binary_bufs_sub .., StableHlo.binary_bufs_sub ..⟩

/-- Operations of the printed `main_part4`, piece 1, in order. -/
abbrev main_part4_ops1 : List (HloOp τ sig (Elt F)) :=
  [ StableHlo.TRef.unary (.of main_v212 : StableHlo.TRef sig ⟨S32x120x400, .i32⟩) (.of main_v213 : StableHlo.TRef sig ⟨S32x120x400, .i32⟩) (fun x => Host.sort S32x120x400 2 comparator_i32_d2 x) ]

/-- The buffers these operations touch are all the TensorCore's. -/
theorem main_part4_ops1_sub : (main_part4_ops1 : List (HloOp τ sig (Elt F))).Forall fun op => op.bufs ⊆ StableHlo.tcRefs τ sig :=
  StableHlo.unary_bufs_sub ..

/-- Operations of the printed `main_part4`, piece 2, in order. -/
abbrev main_part4_ops2 : List (HloOp τ sig (Elt F)) :=
  [ StableHlo.unary main_v213 main_v214 ((extractStridedSlice S32x120x1 ![0, 0, 0] · slices_S32x120x400_S32x120x1_0_0_0) : (⟨S32x120x400, .i32⟩ : BufTy).Contents (Elt F) → (⟨S32x120x1, .i32⟩ : BufTy).Contents (Elt F)),
    StableHlo.reshape main_v214 main_v215 (rfl : (.i32 : EltTy) = .i32) shapeCasts_S32x120x1_S32x120,
    StableHlo.unary main_v213 main_v216 ((extractStridedSlice S32x120x399 ![0, 0, 1] · slices_S32x120x400_S32x120x399_0_0_1) : (⟨S32x120x400, .i32⟩ : BufTy).Contents (Elt F) → (⟨S32x120x399, .i32⟩ : BufTy).Contents (Elt F)),
    StableHlo.unary main_v216 main_v217 ((transpose S32x399x120 [0, 2, 1] · transposes_S32x120x399_S32x399x120_0_2_1) : (⟨S32x120x399, .i32⟩ : BufTy).Contents (Elt F) → (⟨S32x399x120, .i32⟩ : BufTy).Contents (Elt F)),
    StableHlo.unary main_v217 main_v218 ((transpose S399x32x120 [1, 0, 2] · transposes_S32x399x120_S399x32x120_1_0_2) : (⟨S32x399x120, .i32⟩ : BufTy).Contents (Elt F) → (⟨S399x32x120, .i32⟩ : BufTy).Contents (Elt F)),
    StableHlo.nullary main_c_40 (constantI S_ 32 0#32),
    StableHlo.unary main_v218 main_v219_0 id,
    StableHlo.unary main_arg6 main_v219_1 id,
    StableHlo.unary main_c_40 main_v219_2 id,
    StableHlo.unary main_v215 main_v219_3 id ]

/-- The buffers these operations touch are all the TensorCore's. -/
theorem main_part4_ops2_sub : (main_part4_ops2 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub ..⟩

/-- Operations of the printed `main_part4`, piece 3, in order. -/
abbrev main_part4_ops3 : List (HloOp τ sig (Elt F)) :=
  [ StableHlo.nullary main_v220 (iotaInDim S120 32 0),
    StableHlo.nullary main_c_41 (constantI S_ 32 0#32),
    StableHlo.unary main_c_41 main_v221 (broadcastInDim S32x120 ![] bcast_S_S32x120 : (⟨S_, .i32⟩ : BufTy).Contents (Elt F) → (⟨S32x120, .i32⟩ : BufTy).Contents (Elt F)),
    StableHlo.binary main_v219_3 main_v221 main_v222 (cmpi .slt : (⟨S32x120, .i32⟩ : BufTy).Contents (Elt F) → (⟨S32x120, .i32⟩ : BufTy).Contents (Elt F) → (⟨S32x120, .i1⟩ : BufTy).Contents (Elt F)),
    StableHlo.nullary main_c_42 (constantI S_ 32 256#32),
    StableHlo.unary main_c_42 main_v223 (broadcastInDim S32x120 ![] bcast_S_S32x120 : (⟨S_, .i32⟩ : BufTy).Contents (Elt F) → (⟨S32x120, .i32⟩ : BufTy).Contents (Elt F)),
    StableHlo.binary main_v219_3 main_v223 main_v224 (addi : (⟨S32x120, .i32⟩ : BufTy).Contents (Elt F) → (⟨S32x120, .i32⟩ : BufTy).Contents (Elt F) → (⟨S32x120, .i32⟩ : BufTy).Contents (Elt F)),
    StableHlo.ternary main_v222 main_v224 main_v219_3 main_v225 (select : (⟨S32x120, .i1⟩ : BufTy).Contents (Elt F) → (⟨S32x120, .i32⟩ : BufTy).Contents (Elt F) → (⟨S32x120, .i32⟩ : BufTy).Contents (Elt F) → (⟨S32x120, .i32⟩ : BufTy).Contents (Elt F)),
    StableHlo.nullary main_c_43 (constantI S_ 32 0#32),
    StableHlo.unary main_c_43 main_v226 (broadcastInDim S120 ![] bcast_S_S120 : (⟨S_, .i32⟩ : BufTy).Contents (Elt F) → (⟨S120, .i32⟩ : BufTy).Contents (Elt F)),
    StableHlo.binary main_v220 main_v226 main_v227 (cmpi .slt : (⟨S120, .i32⟩ : BufTy).Contents (Elt F) → (⟨S120, .i32⟩ : BufTy).Contents (Elt F) → (⟨S120, .i1⟩ : BufTy).Contents (Elt F)),
    StableHlo.nullary main_c_44 (constantI S_ 32 120#32),
    StableHlo.unary main_c_44 main_v228 (broadcastInDim S120 ![] bcast_S_S120 : (⟨S_, .i32⟩ : BufTy).Contents (Elt F) → (⟨S120, .i32⟩ : BufTy).Contents (Elt F)),
    StableHlo.binary main_v220 main_v228 main_v229 (addi : (⟨S120, .i32⟩ : BufTy).Contents (Elt F) → (⟨S120, .i32⟩ : BufTy).Contents (Elt F) → (⟨S120, .i32⟩ : BufTy).Contents (Elt F)),
    StableHlo.ternary main_v227 main_v229 main_v220 main_v230 (select : (⟨S120, .i1⟩ : BufTy).Contents (Elt F) → (⟨S120, .i32⟩ : BufTy).Contents (Elt F) → (⟨S120, .i32⟩ : BufTy).Contents (Elt F) → (⟨S120, .i32⟩ : BufTy).Contents (Elt F)),
    StableHlo.unary main_v225 main_v231 (broadcastInDim S32x120x1 ![0, 1] bcast_S32x120_S32x120x1_0_1 : (⟨S32x120, .i32⟩ : BufTy).Contents (Elt F) → (⟨S32x120x1, .i32⟩ : BufTy).Contents (Elt F)),
    StableHlo.unary main_v230 main_v232 (broadcastInDim S120x1 ![0] bcast_S120_S120x1_0 : (⟨S120, .i32⟩ : BufTy).Contents (Elt F) → (⟨S120x1, .i32⟩ : BufTy).Contents (Elt F)),
    StableHlo.unary main_v232 main_v233 (broadcastInDim S32x120x1 ![1, 2] bcast_S120x1_S32x120x1_1_2 : (⟨S120x1, .i32⟩ : BufTy).Contents (Elt F) → (⟨S32x120x1, .i32⟩ : BufTy).Contents (Elt F)),
    StableHlo.binary main_v231 main_v233 main_v234 ((fun a b => concatenate S32x120x2 2 [⟨S32x120x1, a⟩, ⟨S32x120x1, b⟩] concatenates_S32x120x1_S32x120x1_S32x120x2_d2) : (⟨S32x120x1, .i32⟩ : BufTy).Contents (Elt F) → (⟨S32x120x1, .i32⟩ : BufTy).Contents (Elt F) → (⟨S32x120x2, .i32⟩ : BufTy).Contents (Elt F)),
    StableHlo.binary main_arg15 main_v234 main_v235 ((fun x i => Host.gather gather_S256x120_S32x120x2_S32x120_n_01_n_n_01_2_11 x i) : (⟨S256x120, .i32⟩ : BufTy).Contents (Elt F) → (⟨S32x120x2, .i32⟩ : BufTy).Contents (Elt F) → (⟨S32x120, .i32⟩ : BufTy).Contents (Elt F)),
    StableHlo.nullary main_c_45 (constantI S_ 32 0#32),
    StableHlo.unary main_c_45 main_v236 (broadcastInDim S32x120 ![] bcast_S_S32x120 : (⟨S_, .i32⟩ : BufTy).Contents (Elt F) → (⟨S32x120, .i32⟩ : BufTy).Contents (Elt F)),
    StableHlo.binary main_v235 main_v236 main_v237 (cmpi .slt : (⟨S32x120, .i32⟩ : BufTy).Contents (Elt F) → (⟨S32x120, .i32⟩ : BufTy).Contents (Elt F) → (⟨S32x120, .i1⟩ : BufTy).Contents (Elt F)),
    StableHlo.nullary main_c_46 (constantI S_ 32 256#32),
    StableHlo.unary main_c_46 main_v238 (broadcastInDim S32x120 ![] bcast_S_S32x120 : (⟨S_, .i32⟩ : BufTy).Contents (Elt F) → (⟨S32x120, .i32⟩ : BufTy).Contents (Elt F)) ]

/-- The buffers these operations touch are all the TensorCore's. -/
theorem main_part4_ops3_sub : (main_part4_ops3 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub ..⟩

/-- The printed `main_part4` is the chain of its pieces. -/
theorem main_part4_chain (c : Dev nD) : main_part4 (F := F) c = (Pipeline.chainK
  [ StableHlo.seq main_part4_ops0,
    StableHlo.seq main_part4_ops1,
    StableHlo.seq main_part4_ops2,
    HostLoop.enter 2 ]
  (StableHlo.seq main_part4_ops3) : Prog (TpuEff nD τ sig (Elt F) (HostLoop.Sig (Pipeline.Sig Λ₀ (Fin 0) fun p => (pcfgs (F := F) p).Adm) 4) .tc) PUnit) := by
  rewrite [StableHlo.chainK_seq_cons, Pipeline.chainK_cons, StableHlo.chainK_seq_cons, Pipeline.chainK_cons]
  chain_rfl

/-- Operations of the printed `main_part5`, piece 0, in order. -/
abbrev main_part5_ops0 : List (HloOp τ sig (Elt F)) :=
  [ StableHlo.binary main_v235 main_v238 main_v239 (addi : (⟨S32x120, .i32⟩ : BufTy).Contents (Elt F) → (⟨S32x120, .i32⟩ : BufTy).Contents (Elt F) → (⟨S32x120, .i32⟩ : BufTy).Contents (Elt F)),
    StableHlo.ternary main_v237 main_v239 main_v235 main_v240 (select : (⟨S32x120, .i1⟩ : BufTy).Contents (Elt F) → (⟨S32x120, .i32⟩ : BufTy).Contents (Elt F) → (⟨S32x120, .i32⟩ : BufTy).Contents (Elt F) → (⟨S32x120, .i32⟩ : BufTy).Contents (Elt F)),
    StableHlo.unary main_v240 main_v241 (broadcastInDim S32x120x1 ![0, 1] bcast_S32x120_S32x120x1_0_1 : (⟨S32x120, .i32⟩ : BufTy).Contents (Elt F) → (⟨S32x120x1, .i32⟩ : BufTy).Contents (Elt F)),
    StableHlo.binary main_arg8 main_v241 main_v242 ((fun x i => Host.gather gather_S256_S32x120x1_S32x120_n_0_n_n_0_2_1 x i) : (⟨S256, .i32⟩ : BufTy).Contents (Elt F) → (⟨S32x120x1, .i32⟩ : BufTy).Contents (Elt F) → (⟨S32x120, .i32⟩ : BufTy).Contents (Elt F)),
    StableHlo.unary main_v242 main_v243 (broadcastInDim S32x1x120 ![0, 2] bcast_S32x120_S32x1x120_0_2 : (⟨S32x120, .i32⟩ : BufTy).Contents (Elt F) → (⟨S32x1x120, .i32⟩ : BufTy).Contents (Elt F)),
    StableHlo.nullary main_c_47 (constantI S_ 32 0#32),
    StableHlo.unary main_c_47 main_v244 (broadcastInDim S32x1x120 ![] bcast_S_S32x1x120 : (⟨S_, .i32⟩ : BufTy).Contents (Elt F) → (⟨S32x1x120, .i32⟩ : BufTy).Contents (Elt F)),
    StableHlo.binary main_v243 main_v244 main_v245 (cmpi .slt : (⟨S32x1x120, .i32⟩ : BufTy).Contents (Elt F) → (⟨S32x1x120, .i32⟩ : BufTy).Contents (Elt F) → (⟨S32x1x120, .i1⟩ : BufTy).Contents (Elt F)),
    StableHlo.nullary main_c_48 (constantI S_ 32 256#32),
    StableHlo.unary main_c_48 main_v246 (broadcastInDim S32x1x120 ![] bcast_S_S32x1x120 : (⟨S_, .i32⟩ : BufTy).Contents (Elt F) → (⟨S32x1x120, .i32⟩ : BufTy).Contents (Elt F)),
    StableHlo.binary main_v243 main_v246 main_v247 (addi : (⟨S32x1x120, .i32⟩ : BufTy).Contents (Elt F) → (⟨S32x1x120, .i32⟩ : BufTy).Contents (Elt F) → (⟨S32x1x120, .i32⟩ : BufTy).Contents (Elt F)),
    StableHlo.ternary main_v245 main_v247 main_v243 main_v248 (select : (⟨S32x1x120, .i1⟩ : BufTy).Contents (Elt F) → (⟨S32x1x120, .i32⟩ : BufTy).Contents (Elt F) → (⟨S32x1x120, .i32⟩ : BufTy).Contents (Elt F) → (⟨S32x1x120, .i32⟩ : BufTy).Contents (Elt F)),
    StableHlo.nullary main_c_49 (constantI S_ 32 0#32),
    StableHlo.unary main_c_49 main_v249 (broadcastInDim S84x120 ![] bcast_S_S84x120 : (⟨S_, .i32⟩ : BufTy).Contents (Elt F) → (⟨S84x120, .i32⟩ : BufTy).Contents (Elt F)),
    StableHlo.binary main_arg12 main_v249 main_v250 (cmpi .slt : (⟨S84x120, .i32⟩ : BufTy).Contents (Elt F) → (⟨S84x120, .i32⟩ : BufTy).Contents (Elt F) → (⟨S84x120, .i1⟩ : BufTy).Contents (Elt F)),
    StableHlo.nullary main_c_50 (constantI S_ 32 256#32),
    StableHlo.unary main_c_50 main_v251 (broadcastInDim S84x120 ![] bcast_S_S84x120 : (⟨S_, .i32⟩ : BufTy).Contents (Elt F) → (⟨S84x120, .i32⟩ : BufTy).Contents (Elt F)),
    StableHlo.binary main_arg12 main_v251 main_v252 (addi : (⟨S84x120, .i32⟩ : BufTy).Contents (Elt F) → (⟨S84x120, .i32⟩ : BufTy).Contents (Elt F) → (⟨S84x120, .i32⟩ : BufTy).Contents (Elt F)),
    StableHlo.ternary main_v250 main_v252 main_arg12 main_v253 (select : (⟨S84x120, .i1⟩ : BufTy).Contents (Elt F) → (⟨S84x120, .i32⟩ : BufTy).Contents (Elt F) → (⟨S84x120, .i32⟩ : BufTy).Contents (Elt F) → (⟨S84x120, .i32⟩ : BufTy).Contents (Elt F)),
    StableHlo.unary main_v248 main_v254 (broadcastInDim S32x84x120 ![0, 1, 2] bcast_S32x1x120_S32x84x120_0_1_2 : (⟨S32x1x120, .i32⟩ : BufTy).Contents (Elt F) → (⟨S32x84x120, .i32⟩ : BufTy).Contents (Elt F)),
    StableHlo.unary main_v254 main_v255 (broadcastInDim S32x84x120x1 ![0, 1, 2] bcast_S32x84x120_S32x84x120x1_0_1_2 : (⟨S32x84x120, .i32⟩ : BufTy).Contents (Elt F) → (⟨S32x84x120x1, .i32⟩ : BufTy).Contents (Elt F)),
    StableHlo.unary main_v253 main_v256 (broadcastInDim S84x120x1 ![0, 1] bcast_S84x120_S84x120x1_0_1 : (⟨S84x120, .i32⟩ : BufTy).Contents (Elt F) → (⟨S84x120x1, .i32⟩ : BufTy).Contents (Elt F)),
    StableHlo.unary main_v256 main_v257 (broadcastInDim S32x84x120x1 ![1, 2, 3] bcast_S84x120x1_S32x84x120x1_1_2_3 : (⟨S84x120x1, .i32⟩ : BufTy).Contents (Elt F) → (⟨S32x84x120x1, .i32⟩ : BufTy).Contents (Elt F)),
    StableHlo.binary main_v255 main_v257 main_v258 ((fun a b => concatenate S32x84x120x2 3 [⟨S32x84x120x1, a⟩, ⟨S32x84x120x1, b⟩] concatenates_S32x84x120x1_S32x84x120x1_S32x84x120x2_d3) : (⟨S32x84x120x1, .i32⟩ : BufTy).Contents (Elt F) → (⟨S32x84x120x1, .i32⟩ : BufTy).Contents (Elt F) → (⟨S32x84x120x2, .i32⟩ : BufTy).Contents (Elt F)),
    StableHlo.binary main_arg7 main_v258 main_v259 ((fun x i => Host.gather gather_S256x256_S32x84x120x2_S32x84x120_n_01_n_n_01_3_11 x i) : (⟨S256x256, .i32⟩ : BufTy).Contents (Elt F) → (⟨S32x84x120x2, .i32⟩ : BufTy).Contents (Elt F) → (⟨S32x84x120, .i32⟩ : BufTy).Contents (Elt F)) ]

/-- The buffers these operations touch are all the TensorCore's. -/
theorem main_part5_ops0_sub : (main_part5_ops0 : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.binary_bufs_sub .., StableHlo.binary_bufs_sub ..⟩

/-- Operations of the printed `main_part5`, piece 1, in order. -/
abbrev main_part5_ops1 : List (HloOp τ sig (Elt F)) :=
  [ StableHlo.TRef.unary (.of main_v259 : StableHlo.TRef sig ⟨S32x84x120, .i32⟩) (.of main_v260 : StableHlo.TRef sig ⟨S32x84x120, .i32⟩) (fun x => Host.sort S32x84x120 2 comparator_i32_d2 x) ]

/-- The buffers these operations touch are all the TensorCore's. -/
theorem main_part5_ops1_sub : (main_part5_ops1 : List (HloOp τ sig (Elt F))).Forall fun op => op.bufs ⊆ StableHlo.tcRefs τ sig :=
  StableHlo.unary_bufs_sub ..

/-- Operations of the printed `main_part5`, piece 2, in order. -/
abbrev main_part5_ops2 : List (HloOp τ sig (Elt F)) :=
  [ StableHlo.unary main_v260 main_v261 ((extractStridedSlice S32x84x1 ![0, 0, 0] · slices_S32x84x120_S32x84x1_0_0_0) : (⟨S32x84x120, .i32⟩ : BufTy).Contents (Elt F) → (⟨S32x84x1, .i32⟩ : BufTy).Contents (Elt F)),
    StableHlo.reshape main_v261 main_v262 (rfl : (.i32 : EltTy) = .i32) shapeCasts_S32x84x1_S32x84,
    StableHlo.unary main_v260 main_v263 ((extractStridedSlice S32x84x119 ![0, 0, 1] · slices_S32x84x120_S32x84x119_0_0_1) : (⟨S32x84x120, .i32⟩ : BufTy).Contents (Elt F) → (⟨S32x84x119, .i32⟩ : BufTy).Contents (Elt F)),
    StableHlo.unary main_v263 main_v264 ((transpose S32x119x84 [0, 2, 1] · transposes_S32x84x119_S32x119x84_0_2_1) : (⟨S32x84x119, .i32⟩ : BufTy).Contents (Elt F) → (⟨S32x119x84, .i32⟩ : BufTy).Contents (Elt F)),
    StableHlo.unary main_v264 main_v265 ((transpose S119x32x84 [1, 0, 2] · transposes_S32x119x84_S119x32x84_1_0_2) : (⟨S32x119x84, .i32⟩ : BufTy).Contents (Elt F) → (⟨S119x32x84, .i32⟩ : BufTy).Contents (Elt F)),
    StableHlo.nullary main_c_51 (constantI S_ 32 0#32),
    StableHlo.unary main_v265 main_v266_0 id,
    StableHlo.unary main_arg6 main_v266_1 id,
    StableHlo.unary main_c_51 main_v266_2 id,
    StableHlo.unary main_v262 main_v266_3 id ]

/-- The buffers these operations touch are all the TensorCore's. -/
theorem main_part5_ops2_sub : (main_part5_ops2 : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.nullary_bufs_sub .., StableHlo.unary_bufs_sub .., StableHlo.unary_bufs_sub .., StableHlo.unary_bufs_sub .., StableHlo.unary_bufs_sub ..⟩

/-- Operations of the printed `main_part5`, piece 3, in order. -/
abbrev main_part5_ops3 : List (HloOp τ sig (Elt F)) :=
  [ StableHlo.nullary main_v267 (iotaInDim S84 32 0),
    StableHlo.nullary main_c_52 (constantI S_ 32 0#32),
    StableHlo.unary main_c_52 main_v268 (broadcastInDim S32x84 ![] bcast_S_S32x84 : (⟨S_, .i32⟩ : BufTy).Contents (Elt F) → (⟨S32x84, .i32⟩ : BufTy).Contents (Elt F)),
    StableHlo.binary main_v266_3 main_v268 main_v269 (cmpi .slt : (⟨S32x84, .i32⟩ : BufTy).Contents (Elt F) → (⟨S32x84, .i32⟩ : BufTy).Contents (Elt F) → (⟨S32x84, .i1⟩ : BufTy).Contents (Elt F)),
    StableHlo.nullary main_c_53 (constantI S_ 32 256#32),
    StableHlo.unary main_c_53 main_v270 (broadcastInDim S32x84 ![] bcast_S_S32x84 : (⟨S_, .i32⟩ : BufTy).Contents (Elt F) → (⟨S32x84, .i32⟩ : BufTy).Contents (Elt F)),
    StableHlo.binary main_v266_3 main_v270 main_v271 (addi : (⟨S32x84, .i32⟩ : BufTy).Contents (Elt F) → (⟨S32x84, .i32⟩ : BufTy).Contents (Elt F) → (⟨S32x84, .i32⟩ : BufTy).Contents (Elt F)),
    StableHlo.ternary main_v269 main_v271 main_v266_3 main_v272 (select : (⟨S32x84, .i1⟩ : BufTy).Contents (Elt F) → (⟨S32x84, .i32⟩ : BufTy).Contents (Elt F) → (⟨S32x84, .i32⟩ : BufTy).Contents (Elt F) → (⟨S32x84, .i32⟩ : BufTy).Contents (Elt F)),
    StableHlo.nullary main_c_54 (constantI S_ 32 0#32),
    StableHlo.unary main_c_54 main_v273 (broadcastInDim S84 ![] bcast_S_S84 : (⟨S_, .i32⟩ : BufTy).Contents (Elt F) → (⟨S84, .i32⟩ : BufTy).Contents (Elt F)),
    StableHlo.binary main_v267 main_v273 main_v274 (cmpi .slt : (⟨S84, .i32⟩ : BufTy).Contents (Elt F) → (⟨S84, .i32⟩ : BufTy).Contents (Elt F) → (⟨S84, .i1⟩ : BufTy).Contents (Elt F)),
    StableHlo.nullary main_c_55 (constantI S_ 32 84#32),
    StableHlo.unary main_c_55 main_v275 (broadcastInDim S84 ![] bcast_S_S84 : (⟨S_, .i32⟩ : BufTy).Contents (Elt F) → (⟨S84, .i32⟩ : BufTy).Contents (Elt F)),
    StableHlo.binary main_v267 main_v275 main_v276 (addi : (⟨S84, .i32⟩ : BufTy).Contents (Elt F) → (⟨S84, .i32⟩ : BufTy).Contents (Elt F) → (⟨S84, .i32⟩ : BufTy).Contents (Elt F)),
    StableHlo.ternary main_v274 main_v276 main_v267 main_v277 (select : (⟨S84, .i1⟩ : BufTy).Contents (Elt F) → (⟨S84, .i32⟩ : BufTy).Contents (Elt F) → (⟨S84, .i32⟩ : BufTy).Contents (Elt F) → (⟨S84, .i32⟩ : BufTy).Contents (Elt F)),
    StableHlo.unary main_v272 main_v278 (broadcastInDim S32x84x1 ![0, 1] bcast_S32x84_S32x84x1_0_1 : (⟨S32x84, .i32⟩ : BufTy).Contents (Elt F) → (⟨S32x84x1, .i32⟩ : BufTy).Contents (Elt F)),
    StableHlo.unary main_v277 main_v279 (broadcastInDim S84x1 ![0] bcast_S84_S84x1_0 : (⟨S84, .i32⟩ : BufTy).Contents (Elt F) → (⟨S84x1, .i32⟩ : BufTy).Contents (Elt F)),
    StableHlo.unary main_v279 main_v280 (broadcastInDim S32x84x1 ![1, 2] bcast_S84x1_S32x84x1_1_2 : (⟨S84x1, .i32⟩ : BufTy).Contents (Elt F) → (⟨S32x84x1, .i32⟩ : BufTy).Contents (Elt F)),
    StableHlo.binary main_v278 main_v280 main_v281 ((fun a b => concatenate S32x84x2 2 [⟨S32x84x1, a⟩, ⟨S32x84x1, b⟩] concatenates_S32x84x1_S32x84x1_S32x84x2_d2) : (⟨S32x84x1, .i32⟩ : BufTy).Contents (Elt F) → (⟨S32x84x1, .i32⟩ : BufTy).Contents (Elt F) → (⟨S32x84x2, .i32⟩ : BufTy).Contents (Elt F)),
    StableHlo.binary main_arg16 main_v281 main_v282 ((fun x i => Host.gather gather_S256x84_S32x84x2_S32x84_n_01_n_n_01_2_11 x i) : (⟨S256x84, .i32⟩ : BufTy).Contents (Elt F) → (⟨S32x84x2, .i32⟩ : BufTy).Contents (Elt F) → (⟨S32x84, .i32⟩ : BufTy).Contents (Elt F)),
    StableHlo.nullary main_c_56 (constantI S_ 32 0#32),
    StableHlo.unary main_c_56 main_v283 (broadcastInDim S32x84 ![] bcast_S_S32x84 : (⟨S_, .i32⟩ : BufTy).Contents (Elt F) → (⟨S32x84, .i32⟩ : BufTy).Contents (Elt F)),
    StableHlo.binary main_v282 main_v283 main_v284 (cmpi .slt : (⟨S32x84, .i32⟩ : BufTy).Contents (Elt F) → (⟨S32x84, .i32⟩ : BufTy).Contents (Elt F) → (⟨S32x84, .i1⟩ : BufTy).Contents (Elt F)) ]

/-- The buffers these operations touch are all the TensorCore's. -/
theorem main_part5_ops3_sub : (main_part5_ops3 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub ..⟩

/-- The printed `main_part5` is the chain of its pieces. -/
theorem main_part5_chain (c : Dev nD) : main_part5 (F := F) c = (Pipeline.chainK
  [ StableHlo.seq main_part5_ops0,
    StableHlo.seq main_part5_ops1,
    StableHlo.seq main_part5_ops2,
    HostLoop.enter 3 ]
  (StableHlo.seq main_part5_ops3) : Prog (TpuEff nD τ sig (Elt F) (HostLoop.Sig (Pipeline.Sig Λ₀ (Fin 0) fun p => (pcfgs (F := F) p).Adm) 4) .tc) PUnit) := by
  rewrite [StableHlo.chainK_seq_cons, Pipeline.chainK_cons, StableHlo.chainK_seq_cons, Pipeline.chainK_cons]
  chain_rfl

/-- Operations of the printed `main_part6`, piece 0, in order. -/
abbrev main_part6_ops0 : List (HloOp τ sig (Elt F)) :=
  [ StableHlo.nullary main_c_57 (constantI S_ 32 256#32),
    StableHlo.unary main_c_57 main_v285 (broadcastInDim S32x84 ![] bcast_S_S32x84 : (⟨S_, .i32⟩ : BufTy).Contents (Elt F) → (⟨S32x84, .i32⟩ : BufTy).Contents (Elt F)),
    StableHlo.binary main_v282 main_v285 main_v286 (addi : (⟨S32x84, .i32⟩ : BufTy).Contents (Elt F) → (⟨S32x84, .i32⟩ : BufTy).Contents (Elt F) → (⟨S32x84, .i32⟩ : BufTy).Contents (Elt F)),
    StableHlo.ternary main_v284 main_v286 main_v282 main_v287 (select : (⟨S32x84, .i1⟩ : BufTy).Contents (Elt F) → (⟨S32x84, .i32⟩ : BufTy).Contents (Elt F) → (⟨S32x84, .i32⟩ : BufTy).Contents (Elt F) → (⟨S32x84, .i32⟩ : BufTy).Contents (Elt F)),
    StableHlo.unary main_v287 main_v288 (broadcastInDim S32x84x1 ![0, 1] bcast_S32x84_S32x84x1_0_1 : (⟨S32x84, .i32⟩ : BufTy).Contents (Elt F) → (⟨S32x84x1, .i32⟩ : BufTy).Contents (Elt F)),
    StableHlo.binary main_arg8 main_v288 main_v289 ((fun x i => Host.gather gather_S256_S32x84x1_S32x84_n_0_n_n_0_2_1 x i) : (⟨S256, .i32⟩ : BufTy).Contents (Elt F) → (⟨S32x84x1, .i32⟩ : BufTy).Contents (Elt F) → (⟨S32x84, .i32⟩ : BufTy).Contents (Elt F)),
    StableHlo.nullary main_c_58 (constantI S_ 32 0#32),
    StableHlo.unary main_c_58 main_v290 (broadcastInDim S32x84 ![] bcast_S_S32x84 : (⟨S_, .i32⟩ : BufTy).Contents (Elt F) → (⟨S32x84, .i32⟩ : BufTy).Contents (Elt F)),
    StableHlo.binary main_v289 main_v290 main_v291 (cmpi .slt : (⟨S32x84, .i32⟩ : BufTy).Contents (Elt F) → (⟨S32x84, .i32⟩ : BufTy).Contents (Elt F) → (⟨S32x84, .i1⟩ : BufTy).Contents (Elt F)),
    StableHlo.nullary main_c_59 (constantI S_ 32 256#32),
    StableHlo.unary main_c_59 main_v292 (broadcastInDim S32x84 ![] bcast_S_S32x84 : (⟨S_, .i32⟩ : BufTy).Contents (Elt F) → (⟨S32x84, .i32⟩ : BufTy).Contents (Elt F)),
    StableHlo.binary main_v289 main_v292 main_v293 (addi : (⟨S32x84, .i32⟩ : BufTy).Contents (Elt F) → (⟨S32x84, .i32⟩ : BufTy).Contents (Elt F) → (⟨S32x84, .i32⟩ : BufTy).Contents (Elt F)),
    StableHlo.ternary main_v291 main_v293 main_v289 main_v294 (select : (⟨S32x84, .i1⟩ : BufTy).Contents (Elt F) → (⟨S32x84, .i32⟩ : BufTy).Contents (Elt F) → (⟨S32x84, .i32⟩ : BufTy).Contents (Elt F) → (⟨S32x84, .i32⟩ : BufTy).Contents (Elt F)),
    StableHlo.unary main_v294 main_v295 (broadcastInDim S32x84x1 ![0, 1] bcast_S32x84_S32x84x1_0_1 : (⟨S32x84, .i32⟩ : BufTy).Contents (Elt F) → (⟨S32x84x1, .i32⟩ : BufTy).Contents (Elt F)),
    StableHlo.binary main_arg2 main_v295 main_v296 ((fun x i => Host.gather gather_S256_S32x84x1_S32x84_n_0_n_n_0_2_1 x i) : (⟨S256, .f32⟩ : BufTy).Contents (Elt F) → (⟨S32x84x1, .i32⟩ : BufTy).Contents (Elt F) → (⟨S32x84, .f32⟩ : BufTy).Contents (Elt F)),
    StableHlo.unary main_arg3 main_v297 ((transpose S84x10 [1, 0] · transposes_S10x84_S84x10_1_0) : (⟨S10x84, .f32⟩ : BufTy).Contents (Elt F) → (⟨S84x10, .f32⟩ : BufTy).Contents (Elt F)),
    StableHlo.binary main_v296 main_v297 main_v298 ((fun l r => Host.dotGeneral dot_S32x84_S84x10_S32x10_1_0_0_1_n_n none l r) : (⟨S32x84, .f32⟩ : BufTy).Contents (Elt F) → (⟨S84x10, .f32⟩ : BufTy).Contents (Elt F) → (⟨S32x10, .f32⟩ : BufTy).Contents (Elt F)),
    StableHlo.unary main_arg4 main_v299 (broadcastInDim S1x10 ![1] bcast_S10_S1x10_1 : (⟨S10, .f32⟩ : BufTy).Contents (Elt F) → (⟨S1x10, .f32⟩ : BufTy).Contents (Elt F)),
    StableHlo.unary main_v299 main_v300 (broadcastInDim S32x10 ![0, 1] bcast_S1x10_S32x10_0_1 : (⟨S1x10, .f32⟩ : BufTy).Contents (Elt F) → (⟨S32x10, .f32⟩ : BufTy).Contents (Elt F)),
    StableHlo.binary main_v298 main_v300 main_v301 (addf : (⟨S32x10, .f32⟩ : BufTy).Contents (Elt F) → (⟨S32x10, .f32⟩ : BufTy).Contents (Elt F) → (⟨S32x10, .f32⟩ : BufTy).Contents (Elt F)),
    StableHlo.nullary main_cst_60 (constant S_ .f32 0xFF800000#32),
    StableHlo.binary main_v301 main_cst_60 main_v302 ((fun x v => Host.reduce FloatOps.maximumf x v reducesTo_S32x10_S32_d1 h_S_) : (⟨S32x10, .f32⟩ : BufTy).Contents (Elt F) → (⟨S_, .f32⟩ : BufTy).Contents (Elt F) → (⟨S32, .f32⟩ : BufTy).Contents (Elt F)),
    StableHlo.nullary main_cst_61 (constant S_ .f32 0xFF800000#32),
    StableHlo.unary main_cst_61 main_v303 (broadcastInDim S32 ![] bcast_S_S32 : (⟨S_, .f32⟩ : BufTy).Contents (Elt F) → (⟨S32, .f32⟩ : BufTy).Contents (Elt F)),
    StableHlo.binary main_v303 main_v302 main_v304 (maximumf : (⟨S32, .f32⟩ : BufTy).Contents (Elt F) → (⟨S32, .f32⟩ : BufTy).Contents (Elt F) → (⟨S32, .f32⟩ : BufTy).Contents (Elt F)),
    StableHlo.unary main_v304 main_v305 (broadcastInDim S32x1 ![0] bcast_S32_S32x1_0 : (⟨S32, .f32⟩ : BufTy).Contents (Elt F) → (⟨S32x1, .f32⟩ : BufTy).Contents (Elt F)),
    StableHlo.unary main_v305 main_v306 (broadcastInDim S32x10 ![0, 1] bcast_S32x1_S32x10_0_1 : (⟨S32x1, .f32⟩ : BufTy).Contents (Elt F) → (⟨S32x10, .f32⟩ : BufTy).Contents (Elt F)),
    StableHlo.binary main_v301 main_v306 main_v307 (subf : (⟨S32x10, .f32⟩ : BufTy).Contents (Elt F) → (⟨S32x10, .f32⟩ : BufTy).Contents (Elt F) → (⟨S32x10, .f32⟩ : BufTy).Contents (Elt F)),
    StableHlo.unary main_v307 main_v308 (Host.exp : (⟨S32x10, .f32⟩ : BufTy).Contents (Elt F) → (⟨S32x10, .f32⟩ : BufTy).Contents (Elt F)),
    StableHlo.nullary main_cst_62 (constant S_ .f32 0x00000000#32),
    StableHlo.binary main_v308 main_cst_62 main_v309 ((fun x v => Host.reduceAdd x v reducesTo_S32x10_S32_d1 h_S_) : (⟨S32x10, .f32⟩ : BufTy).Contents (Elt F) → (⟨S_, .f32⟩ : BufTy).Contents (Elt F) → (⟨S32, .f32⟩ : BufTy).Contents (Elt F)),
    StableHlo.unary main_v309 main_v310 (broadcastInDim S32x1 ![0] bcast_S32_S32x1_0 : (⟨S32, .f32⟩ : BufTy).Contents (Elt F) → (⟨S32x1, .f32⟩ : BufTy).Contents (Elt F)),
    StableHlo.unary main_v310 main_v311 (broadcastInDim S32x10 ![0, 1] bcast_S32x1_S32x10_0_1 : (⟨S32x1, .f32⟩ : BufTy).Contents (Elt F) → (⟨S32x10, .f32⟩ : BufTy).Contents (Elt F)),
    StableHlo.binary main_v308 main_v311 main_v312 (Host.divf : (⟨S32x10, .f32⟩ : BufTy).Contents (Elt F) → (⟨S32x10, .f32⟩ : BufTy).Contents (Elt F) → (⟨S32x10, .f32⟩ : BufTy).Contents (Elt F)) ]

/-- The buffers these operations touch are all the TensorCore's. -/
theorem main_part6_ops0_sub : (main_part6_ops0 : List (HloOp τ sig (Elt F))).Forall fun op => op.bufs ⊆ StableHlo.tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩

/-- The printed `main_part6` is the chain of its pieces. -/
theorem main_part6_chain (c : Dev nD) : main_part6 (F := F) c = (Pipeline.chain
  [ StableHlo.seq main_part6_ops0 ] : Prog (TpuEff nD τ sig (Elt F) (HostLoop.Sig (Pipeline.Sig Λ₀ (Fin 0) fun p => (pcfgs (F := F) p).Adm) 4) .tc) PUnit) := by
  chain_rfl

/-- The whole reference program as a chain of these pieces and the four loops. -/
theorem main_chain_windows (c : Dev nD) : main (F := F) c = (Pipeline.chain
  [ StableHlo.seq main_part0_ops0,
    StableHlo.seq main_part0_ops1,
    StableHlo.seq main_part0_ops2,
    StableHlo.seq main_part1_ops0,
    StableHlo.seq main_part1_ops1,
    StableHlo.seq main_part1_ops2,
    HostLoop.enter 0,
    StableHlo.seq main_part1_ops3,
    StableHlo.seq main_part2_ops0,
    StableHlo.seq main_part3_ops0,
    StableHlo.seq main_part3_ops1,
    StableHlo.seq main_part3_ops2,
    HostLoop.enter 1,
    StableHlo.seq main_part3_ops3,
    StableHlo.seq main_part4_ops0,
    StableHlo.seq main_part4_ops1,
    StableHlo.seq main_part4_ops2,
    HostLoop.enter 2,
    StableHlo.seq main_part4_ops3,
    StableHlo.seq main_part5_ops0,
    StableHlo.seq main_part5_ops1,
    StableHlo.seq main_part5_ops2,
    HostLoop.enter 3,
    StableHlo.seq main_part5_ops3,
    StableHlo.seq main_part6_ops0 ] : Prog (TpuEff nD τ sig (Elt F) (HostLoop.Sig (Pipeline.Sig Λ₀ (Fin 0) fun p => (pcfgs (F := F) p).Adm) 4) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c) = _
  rewrite [main_part6_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

/-- The slice of the loop's stacked operand taken by trip number (host loop 0). -/
abbrev while0Ops0 : List (HloOp τ sig (Elt F)) :=
  [ StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.nullary (.of main_while0b_call2_c_1 : StableHlo.TRef sig ⟨S_, .i32⟩) (constantI S_ 32 0#32),
    StableHlo.TRef.unaryIndexed (.of main_v89_0 : StableHlo.TRef sig ⟨S24x32x169x6, .i32⟩) ![(.of main_v89_2 : StableHlo.TRef sig ⟨S_, .i32⟩), (.of main_while0b_call2_c : StableHlo.TRef sig ⟨S_, .i32⟩), (.of main_while0b_call2_c_0 : StableHlo.TRef sig ⟨S_, .i32⟩), (.of main_while0b_call2_c_1 : StableHlo.TRef sig ⟨S_, .i32⟩)] (.of main_while0b_call2_v0 : StableHlo.TRef sig ⟨S1x32x169x6, .i32⟩) (fun x i => Host.dynamicSlice S1x32x169x6 x (fun k => (i k (Shape.Idx.first h_S_)).toInt) sliceFits_S24x32x169x6_S1x32x169x6),
    StableHlo.TRef.reshape (.of main_while0b_call2_v0 : StableHlo.TRef sig ⟨S1x32x169x6, .i32⟩) (.of main_while0b_v313 : StableHlo.TRef sig ⟨S32x169x6, .i32⟩) (rfl : (.i32 : EltTy) = .i32) shapeCasts_S1x32x169x6_S32x169x6 ]

/-- The buffers these operations touch are all the TensorCore's. -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The rest of host loop 0's body: one table step and the counter's increment. -/
abbrev while0Ops0_1 : List (HloOp τ sig (Elt F)) :=
  [ StableHlo.nullary main_while0b_c_66 (constantI S_ 32 0#32),
    StableHlo.unary main_while0b_c_66 main_while0b_v314 (broadcastInDim S32x169x6 ![] bcast_S_S32x169x6 : (⟨S_, .i32⟩ : BufTy).Contents (Elt F) → (⟨S32x169x6, .i32⟩ : BufTy).Contents (Elt F)),
    StableHlo.binary main_while0b_v313 main_while0b_v314 main_while0b_v315 (cmpi .slt : (⟨S32x169x6, .i32⟩ : BufTy).Contents (Elt F) → (⟨S32x169x6, .i32⟩ : BufTy).Contents (Elt F) → (⟨S32x169x6, .i1⟩ : BufTy).Contents (Elt F)),
    StableHlo.nullary main_while0b_c_67 (constantI S_ 32 256#32),
    StableHlo.unary main_while0b_c_67 main_while0b_v316 (broadcastInDim S32x169x6 ![] bcast_S_S32x169x6 : (⟨S_, .i32⟩ : BufTy).Contents (Elt F) → (⟨S32x169x6, .i32⟩ : BufTy).Contents (Elt F)),
    StableHlo.binary main_while0b_v313 main_while0b_v316 main_while0b_v317 (addi : (⟨S32x169x6, .i32⟩ : BufTy).Contents (Elt F) → (⟨S32x169x6, .i32⟩ : BufTy).Contents (Elt F) → (⟨S32x169x6, .i32⟩ : BufTy).Contents (Elt F)),
    StableHlo.ternary main_while0b_v315 main_while0b_v317 main_while0b_v313 main_while0b_v318 (select : (⟨S32x169x6, .i1⟩ : BufTy).Contents (Elt F) → (⟨S32x169x6, .i32⟩ : BufTy).Contents (Elt F) → (⟨S32x169x6, .i32⟩ : BufTy).Contents (Elt F) → (⟨S32x169x6, .i32⟩ : BufTy).Contents (Elt F)),
    StableHlo.nullary main_while0b_c_68 (constantI S_ 32 0#32),
    StableHlo.unary main_while0b_c_68 main_while0b_v319 (broadcastInDim S32x169x6 ![] bcast_S_S32x169x6 : (⟨S_, .i32⟩ : BufTy).Contents (Elt F) → (⟨S32x169x6, .i32⟩ : BufTy).Contents (Elt F)),
    StableHlo.binary main_v89_3 main_while0b_v319 main_while0b_v320 (cmpi .slt : (⟨S32x169x6, .i32⟩ : BufTy).Contents (Elt F) → (⟨S32x169x6, .i32⟩ : BufTy).Contents (Elt F) → (⟨S32x169x6, .i1⟩ : BufTy).Contents (Elt F)),
    StableHlo.nullary main_while0b_c_69 (constantI S_ 32 256#32),
    StableHlo.unary main_while0b_c_69 main_while0b_v321 (broadcastInDim S32x169x6 ![] bcast_S_S32x169x6 : (⟨S_, .i32⟩ : BufTy).Contents (Elt F) → (⟨S32x169x6, .i32⟩ : BufTy).Contents (Elt F)),
    StableHlo.binary main_v89_3 main_while0b_v321 main_while0b_v322 (addi : (⟨S32x169x6, .i32⟩ : BufTy).Contents (Elt F) → (⟨S32x169x6, .i32⟩ : BufTy).Contents (Elt F) → (⟨S32x169x6, .i32⟩ : BufTy).Contents (Elt F)),
    StableHlo.ternary main_while0b_v320 main_while0b_v322 main_v89_3 main_while0b_v323 (select : (⟨S32x169x6, .i1⟩ : BufTy).Contents (Elt F) → (⟨S32x169x6, .i32⟩ : BufTy).Contents (Elt F) → (⟨S32x169x6, .i32⟩ : BufTy).Contents (Elt F) → (⟨S32x169x6, .i32⟩ : BufTy).Contents (Elt F)),
    StableHlo.unary main_while0b_v318 main_while0b_v324 (broadcastInDim S32x169x6x1 ![0, 1, 2] bcast_S32x169x6_S32x169x6x1_0_1_2 : (⟨S32x169x6, .i32⟩ : BufTy).Contents (Elt F) → (⟨S32x169x6x1, .i32⟩ : BufTy).Contents (Elt F)),
    StableHlo.unary main_while0b_v323 main_while0b_v325 (broadcastInDim S32x169x6x1 ![0, 1, 2] bcast_S32x169x6_S32x169x6x1_0_1_2 : (⟨S32x169x6, .i32⟩ : BufTy).Contents (Elt F) → (⟨S32x169x6x1, .i32⟩ : BufTy).Contents (Elt F)),
    StableHlo.binary main_while0b_v324 main_while0b_v325 main_while0b_v326 ((fun a b => concatenate S32x169x6x2 3 [⟨S32x169x6x1, a⟩, ⟨S32x169x6x1, b⟩] concatenates_S32x169x6x1_S32x169x6x1_S32x169x6x2_d3) : (⟨S32x169x6x1, .i32⟩ : BufTy).Contents (Elt F) → (⟨S32x169x6x1, .i32⟩ : BufTy).Contents (Elt F) → (⟨S32x169x6x2, .i32⟩ : BufTy).Contents (Elt F)),
    StableHlo.binary main_v89_1 main_while0b_v326 main_while0b_v327 ((fun x i => Host.gather gather_S256x256_S32x169x6x2_S32x169x6_n_01_n_n_01_3_11 x i) : (⟨S256x256, .i32⟩ : BufTy).Contents (Elt F) → (⟨S32x169x6x2, .i32⟩ : BufTy).Contents (Elt F) → (⟨S32x169x6, .i32⟩ : BufTy).Contents (Elt F)),
    StableHlo.nullary main_while0b_c_70 (constantI S_ 32 1#32),
    StableHlo.binary main_v89_2 main_while0b_c_70 main_while0b_v328 (addi : (⟨S_, .i32⟩ : BufTy).Contents (Elt F) → (⟨S_, .i32⟩ : BufTy).Contents (Elt F) → (⟨S_, .i32⟩ : BufTy).Contents (Elt F)),
    StableHlo.unary main_while0b_v328 main_v89_2 id,
    StableHlo.unary main_while0b_v327 main_v89_3 id ]

/-- The buffers these operations touch are all the TensorCore's. -/
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub ..⟩

/-- The body of host loop 0 is its two pieces in order. -/
theorem while0_body_chain : main_while0_body (F := F) = (Pipeline.chain
  [ StableHlo.seq while0Ops0,
    StableHlo.seq while0Ops0_1 ] : Prog (TpuEff nD τ sig (Elt F) (HostLoop.Sig (Pipeline.Sig Λ₀ (Fin 0) fun p => (pcfgs (F := F) p).Adm) 4) .tc) PUnit) := by
  rewrite [Pipeline.chain_cons, StableHlo.chain_seq_cons]
  chain_rfl

/-- The slice of the loop's stacked operand taken by trip number (host loop 1). -/
abbrev while1Ops0 : List (HloOp τ sig (Elt F)) :=
  [ StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.nullary (.of main_while1b_call4_c_1 : StableHlo.TRef sig ⟨S_, .i32⟩) (constantI S_ 32 0#32),
    StableHlo.TRef.unaryIndexed (.of main_v167_0 : StableHlo.TRef sig ⟨S149x32x25x16, .i32⟩) ![(.of main_v167_2 : StableHlo.TRef sig ⟨S_, .i32⟩), (.of main_while1b_call4_c : StableHlo.TRef sig ⟨S_, .i32⟩), (.of main_while1b_call4_c_0 : StableHlo.TRef sig ⟨S_, .i32⟩), (.of main_while1b_call4_c_1 : StableHlo.TRef sig ⟨S_, .i32⟩)] (.of main_while1b_call4_v0 : StableHlo.TRef sig ⟨S1x32x25x16, .i32⟩) (fun x i => Host.dynamicSlice S1x32x25x16 x (fun k => (i k (Shape.Idx.first h_S_)).toInt) sliceFits_S149x32x25x16_S1x32x25x16),
    StableHlo.TRef.reshape (.of main_while1b_call4_v0 : StableHlo.TRef sig ⟨S1x32x25x16, .i32⟩) (.of main_while1b_v313 : StableHlo.TRef sig ⟨S32x25x16, .i32⟩) (rfl : (.i32 : EltTy) = .i32) shapeCasts_S1x32x25x16_S32x25x16 ]

/-- The buffers these operations touch are all the TensorCore's. -/
theorem while1Ops0_sub : (while1Ops0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩

/-- The rest of host loop 1's body: one table step and the counter's increment. -/
abbrev while1Ops0_1 : List (HloOp τ sig (Elt F)) :=
  [ StableHlo.nullary main_while1b_c_66 (constantI S_ 32 0#32),
    StableHlo.unary main_while1b_c_66 main_while1b_v314 (broadcastInDim S32x25x16 ![] bcast_S_S32x25x16 : (⟨S_, .i32⟩ : BufTy).Contents (Elt F) → (⟨S32x25x16, .i32⟩ : BufTy).Contents (Elt F)),
    StableHlo.binary main_while1b_v313 main_while1b_v314 main_while1b_v315 (cmpi .slt : (⟨S32x25x16, .i32⟩ : BufTy).Contents (Elt F) → (⟨S32x25x16, .i32⟩ : BufTy).Contents (Elt F) → (⟨S32x25x16, .i1⟩ : BufTy).Contents (Elt F)),
    StableHlo.nullary main_while1b_c_67 (constantI S_ 32 256#32),
    StableHlo.unary main_while1b_c_67 main_while1b_v316 (broadcastInDim S32x25x16 ![] bcast_S_S32x25x16 : (⟨S_, .i32⟩ : BufTy).Contents (Elt F) → (⟨S32x25x16, .i32⟩ : BufTy).Contents (Elt F)),
    StableHlo.binary main_while1b_v313 main_while1b_v316 main_while1b_v317 (addi : (⟨S32x25x16, .i32⟩ : BufTy).Contents (Elt F) → (⟨S32x25x16, .i32⟩ : BufTy).Contents (Elt F) → (⟨S32x25x16, .i32⟩ : BufTy).Contents (Elt F)),
    StableHlo.ternary main_while1b_v315 main_while1b_v317 main_while1b_v313 main_while1b_v318 (select : (⟨S32x25x16, .i1⟩ : BufTy).Contents (Elt F) → (⟨S32x25x16, .i32⟩ : BufTy).Contents (Elt F) → (⟨S32x25x16, .i32⟩ : BufTy).Contents (Elt F) → (⟨S32x25x16, .i32⟩ : BufTy).Contents (Elt F)),
    StableHlo.nullary main_while1b_c_68 (constantI S_ 32 0#32),
    StableHlo.unary main_while1b_c_68 main_while1b_v319 (broadcastInDim S32x25x16 ![] bcast_S_S32x25x16 : (⟨S_, .i32⟩ : BufTy).Contents (Elt F) → (⟨S32x25x16, .i32⟩ : BufTy).Contents (Elt F)),
    StableHlo.binary main_v167_3 main_while1b_v319 main_while1b_v320 (cmpi .slt : (⟨S32x25x16, .i32⟩ : BufTy).Contents (Elt F) → (⟨S32x25x16, .i32⟩ : BufTy).Contents (Elt F) → (⟨S32x25x16, .i1⟩ : BufTy).Contents (Elt F)),
    StableHlo.nullary main_while1b_c_69 (constantI S_ 32 256#32),
    StableHlo.unary main_while1b_c_69 main_while1b_v321 (broadcastInDim S32x25x16 ![] bcast_S_S32x25x16 : (⟨S_, .i32⟩ : BufTy).Contents (Elt F) → (⟨S32x25x16, .i32⟩ : BufTy).Contents (Elt F)),
    StableHlo.binary main_v167_3 main_while1b_v321 main_while1b_v322 (addi : (⟨S32x25x16, .i32⟩ : BufTy).Contents (Elt F) → (⟨S32x25x16, .i32⟩ : BufTy).Contents (Elt F) → (⟨S32x25x16, .i32⟩ : BufTy).Contents (Elt F)),
    StableHlo.ternary main_while1b_v320 main_while1b_v322 main_v167_3 main_while1b_v323 (select : (⟨S32x25x16, .i1⟩ : BufTy).Contents (Elt F) → (⟨S32x25x16, .i32⟩ : BufTy).Contents (Elt F) → (⟨S32x25x16, .i32⟩ : BufTy).Contents (Elt F) → (⟨S32x25x16, .i32⟩ : BufTy).Contents (Elt F)),
    StableHlo.unary main_while1b_v318 main_while1b_v324 (broadcastInDim S32x25x16x1 ![0, 1, 2] bcast_S32x25x16_S32x25x16x1_0_1_2 : (⟨S32x25x16, .i32⟩ : BufTy).Contents (Elt F) → (⟨S32x25x16x1, .i32⟩ : BufTy).Contents (Elt F)),
    StableHlo.unary main_while1b_v323 main_while1b_v325 (broadcastInDim S32x25x16x1 ![0, 1, 2] bcast_S32x25x16_S32x25x16x1_0_1_2 : (⟨S32x25x16, .i32⟩ : BufTy).Contents (Elt F) → (⟨S32x25x16x1, .i32⟩ : BufTy).Contents (Elt F)),
    StableHlo.binary main_while1b_v324 main_while1b_v325 main_while1b_v326 ((fun a b => concatenate S32x25x16x2 3 [⟨S32x25x16x1, a⟩, ⟨S32x25x16x1, b⟩] concatenates_S32x25x16x1_S32x25x16x1_S32x25x16x2_d3) : (⟨S32x25x16x1, .i32⟩ : BufTy).Contents (Elt F) → (⟨S32x25x16x1, .i32⟩ : BufTy).Contents (Elt F) → (⟨S32x25x16x2, .i32⟩ : BufTy).Contents (Elt F)),
    StableHlo.binary main_v167_1 main_while1b_v326 main_while1b_v327 ((fun x i => Host.gather gather_S256x256_S32x25x16x2_S32x25x16_n_01_n_n_01_3_11 x i) : (⟨S256x256, .i32⟩ : BufTy).Contents (Elt F) → (⟨S32x25x16x2, .i32⟩ : BufTy).Contents (Elt F) → (⟨S32x25x16, .i32⟩ : BufTy).Contents (Elt F)),
    StableHlo.nullary main_while1b_c_70 (constantI S_ 32 1#32),
    StableHlo.binary main_v167_2 main_while1b_c_70 main_while1b_v328 (addi : (⟨S_, .i32⟩ : BufTy).Contents (Elt F) → (⟨S_, .i32⟩ : BufTy).Contents (Elt F) → (⟨S_, .i32⟩ : BufTy).Contents (Elt F)),
    StableHlo.unary main_while1b_v328 main_v167_2 id,
    StableHlo.unary main_while1b_v327 main_v167_3 id ]

/-- The buffers these operations touch are all the TensorCore's. -/
theorem while1Ops0_1_sub : (while1Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub ..⟩

/-- The body of host loop 1 is its two pieces in order. -/
theorem while1_body_chain : main_while1_body (F := F) = (Pipeline.chain
  [ StableHlo.seq while1Ops0,
    StableHlo.seq while1Ops0_1 ] : Prog (TpuEff nD τ sig (Elt F) (HostLoop.Sig (Pipeline.Sig Λ₀ (Fin 0) fun p => (pcfgs (F := F) p).Adm) 4) .tc) PUnit) := by
  rewrite [Pipeline.chain_cons, StableHlo.chain_seq_cons]
  chain_rfl

/-- The slice of the loop's stacked operand taken by trip number (host loop 2). -/
abbrev while2Ops0 : List (HloOp τ sig (Elt F)) :=
  [ StableHlo.TRef.nullary (.of main_while2b_call6_c : StableHlo.TRef sig ⟨S_, .i32⟩) (constantI S_ 32 0#32),
    StableHlo.TRef.nullary (.of main_while2b_call6_c_0 : StableHlo.TRef sig ⟨S_, .i32⟩) (constantI S_ 32 0#32),
    StableHlo.TRef.unaryIndexed (.of main_v219_0 : StableHlo.TRef sig ⟨S399x32x120, .i32⟩) ![(.of main_v219_2 : StableHlo.TRef sig ⟨S_, .i32⟩), (.of main_while2b_call6_c : StableHlo.TRef sig ⟨S_, .i32⟩), (.of main_while2b_call6_c_0 : StableHlo.TRef sig ⟨S_, .i32⟩)] (.of main_while2b_call6_v0 : StableHlo.TRef sig ⟨S1x32x120, .i32⟩) (fun x i => Host.dynamicSlice S1x32x120 x (fun k => (i k (Shape.Idx.first h_S_)).toInt) sliceFits_S399x32x120_S1x32x120),
    StableHlo.TRef.reshape (.of main_while2b_call6_v0 : StableHlo.TRef sig ⟨S1x32x120, .i32⟩) (.of main_while2b_v313 : StableHlo.TRef sig ⟨S32x120, .i32⟩) (rfl : (.i32 : EltTy) = .i32) shapeCasts_S1x32x120_S32x120 ]

/-- The buffers these operations touch are all the TensorCore's. -/
theorem while2Ops0_sub : (while2Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The rest of host loop 2's body: one table step and the counter's increment. -/
abbrev while2Ops0_1 : List (HloOp τ sig (Elt F)) :=
  [ StableHlo.nullary main_while2b_c_66 (constantI S_ 32 0#32),
    StableHlo.unary main_while2b_c_66 main_while2b_v314 (broadcastInDim S32x120 ![] bcast_S_S32x120 : (⟨S_, .i32⟩ : BufTy).Contents (Elt F) → (⟨S32x120, .i32⟩ : BufTy).Contents (Elt F)),
    StableHlo.binary main_while2b_v313 main_while2b_v314 main_while2b_v315 (cmpi .slt : (⟨S32x120, .i32⟩ : BufTy).Contents (Elt F) → (⟨S32x120, .i32⟩ : BufTy).Contents (Elt F) → (⟨S32x120, .i1⟩ : BufTy).Contents (Elt F)),
    StableHlo.nullary main_while2b_c_67 (constantI S_ 32 256#32),
    StableHlo.unary main_while2b_c_67 main_while2b_v316 (broadcastInDim S32x120 ![] bcast_S_S32x120 : (⟨S_, .i32⟩ : BufTy).Contents (Elt F) → (⟨S32x120, .i32⟩ : BufTy).Contents (Elt F)),
    StableHlo.binary main_while2b_v313 main_while2b_v316 main_while2b_v317 (addi : (⟨S32x120, .i32⟩ : BufTy).Contents (Elt F) → (⟨S32x120, .i32⟩ : BufTy).Contents (Elt F) → (⟨S32x120, .i32⟩ : BufTy).Contents (Elt F)),
    StableHlo.ternary main_while2b_v315 main_while2b_v317 main_while2b_v313 main_while2b_v318 (select : (⟨S32x120, .i1⟩ : BufTy).Contents (Elt F) → (⟨S32x120, .i32⟩ : BufTy).Contents (Elt F) → (⟨S32x120, .i32⟩ : BufTy).Contents (Elt F) → (⟨S32x120, .i32⟩ : BufTy).Contents (Elt F)),
    StableHlo.nullary main_while2b_c_68 (constantI S_ 32 0#32),
    StableHlo.unary main_while2b_c_68 main_while2b_v319 (broadcastInDim S32x120 ![] bcast_S_S32x120 : (⟨S_, .i32⟩ : BufTy).Contents (Elt F) → (⟨S32x120, .i32⟩ : BufTy).Contents (Elt F)),
    StableHlo.binary main_v219_3 main_while2b_v319 main_while2b_v320 (cmpi .slt : (⟨S32x120, .i32⟩ : BufTy).Contents (Elt F) → (⟨S32x120, .i32⟩ : BufTy).Contents (Elt F) → (⟨S32x120, .i1⟩ : BufTy).Contents (Elt F)),
    StableHlo.nullary main_while2b_c_69 (constantI S_ 32 256#32),
    StableHlo.unary main_while2b_c_69 main_while2b_v321 (broadcastInDim S32x120 ![] bcast_S_S32x120 : (⟨S_, .i32⟩ : BufTy).Contents (Elt F) → (⟨S32x120, .i32⟩ : BufTy).Contents (Elt F)),
    StableHlo.binary main_v219_3 main_while2b_v321 main_while2b_v322 (addi : (⟨S32x120, .i32⟩ : BufTy).Contents (Elt F) → (⟨S32x120, .i32⟩ : BufTy).Contents (Elt F) → (⟨S32x120, .i32⟩ : BufTy).Contents (Elt F)),
    StableHlo.ternary main_while2b_v320 main_while2b_v322 main_v219_3 main_while2b_v323 (select : (⟨S32x120, .i1⟩ : BufTy).Contents (Elt F) → (⟨S32x120, .i32⟩ : BufTy).Contents (Elt F) → (⟨S32x120, .i32⟩ : BufTy).Contents (Elt F) → (⟨S32x120, .i32⟩ : BufTy).Contents (Elt F)),
    StableHlo.unary main_while2b_v318 main_while2b_v324 (broadcastInDim S32x120x1 ![0, 1] bcast_S32x120_S32x120x1_0_1 : (⟨S32x120, .i32⟩ : BufTy).Contents (Elt F) → (⟨S32x120x1, .i32⟩ : BufTy).Contents (Elt F)),
    StableHlo.unary main_while2b_v323 main_while2b_v325 (broadcastInDim S32x120x1 ![0, 1] bcast_S32x120_S32x120x1_0_1 : (⟨S32x120, .i32⟩ : BufTy).Contents (Elt F) → (⟨S32x120x1, .i32⟩ : BufTy).Contents (Elt F)),
    StableHlo.binary main_while2b_v324 main_while2b_v325 main_while2b_v326 ((fun a b => concatenate S32x120x2 2 [⟨S32x120x1, a⟩, ⟨S32x120x1, b⟩] concatenates_S32x120x1_S32x120x1_S32x120x2_d2) : (⟨S32x120x1, .i32⟩ : BufTy).Contents (Elt F) → (⟨S32x120x1, .i32⟩ : BufTy).Contents (Elt F) → (⟨S32x120x2, .i32⟩ : BufTy).Contents (Elt F)),
    StableHlo.binary main_v219_1 main_while2b_v326 main_while2b_v327 ((fun x i => Host.gather gather_S256x256_S32x120x2_S32x120_n_01_n_n_01_2_11 x i) : (⟨S256x256, .i32⟩ : BufTy).Contents (Elt F) → (⟨S32x120x2, .i32⟩ : BufTy).Contents (Elt F) → (⟨S32x120, .i32⟩ : BufTy).Contents (Elt F)),
    StableHlo.nullary main_while2b_c_70 (constantI S_ 32 1#32),
    StableHlo.binary main_v219_2 main_while2b_c_70 main_while2b_v328 (addi : (⟨S_, .i32⟩ : BufTy).Contents (Elt F) → (⟨S_, .i32⟩ : BufTy).Contents (Elt F) → (⟨S_, .i32⟩ : BufTy).Contents (Elt F)),
    StableHlo.unary main_while2b_v328 main_v219_2 id,
    StableHlo.unary main_while2b_v327 main_v219_3 id ]

/-- The buffers these operations touch are all the TensorCore's. -/
theorem while2Ops0_1_sub : (while2Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub ..⟩

/-- The body of host loop 2 is its two pieces in order. -/
theorem while2_body_chain : main_while2_body (F := F) = (Pipeline.chain
  [ StableHlo.seq while2Ops0,
    StableHlo.seq while2Ops0_1 ] : Prog (TpuEff nD τ sig (Elt F) (HostLoop.Sig (Pipeline.Sig Λ₀ (Fin 0) fun p => (pcfgs (F := F) p).Adm) 4) .tc) PUnit) := by
  rewrite [Pipeline.chain_cons, StableHlo.chain_seq_cons]
  chain_rfl

/-- The slice of the loop's stacked operand taken by trip number (host loop 3). -/
abbrev while3Ops0 : List (HloOp τ sig (Elt F)) :=
  [ StableHlo.TRef.nullary (.of main_while3b_call8_c : StableHlo.TRef sig ⟨S_, .i32⟩) (constantI S_ 32 0#32),
    StableHlo.TRef.nullary (.of main_while3b_call8_c_0 : StableHlo.TRef sig ⟨S_, .i32⟩) (constantI S_ 32 0#32),
    StableHlo.TRef.unaryIndexed (.of main_v266_0 : StableHlo.TRef sig ⟨S119x32x84, .i32⟩) ![(.of main_v266_2 : StableHlo.TRef sig ⟨S_, .i32⟩), (.of main_while3b_call8_c : StableHlo.TRef sig ⟨S_, .i32⟩), (.of main_while3b_call8_c_0 : StableHlo.TRef sig ⟨S_, .i32⟩)] (.of main_while3b_call8_v0 : StableHlo.TRef sig ⟨S1x32x84, .i32⟩) (fun x i => Host.dynamicSlice S1x32x84 x (fun k => (i k (Shape.Idx.first h_S_)).toInt) sliceFits_S119x32x84_S1x32x84),
    StableHlo.TRef.reshape (.of main_while3b_call8_v0 : StableHlo.TRef sig ⟨S1x32x84, .i32⟩) (.of main_while3b_v313 : StableHlo.TRef sig ⟨S32x84, .i32⟩) (rfl : (.i32 : EltTy) = .i32) shapeCasts_S1x32x84_S32x84 ]

/-- The buffers these operations touch are all the TensorCore's. -/
theorem while3Ops0_sub : (while3Ops0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- The rest of host loop 3's body: one table step and the counter's increment. -/
abbrev while3Ops0_1 : List (HloOp τ sig (Elt F)) :=
  [ StableHlo.nullary main_while3b_c_66 (constantI S_ 32 0#32),
    StableHlo.unary main_while3b_c_66 main_while3b_v314 (broadcastInDim S32x84 ![] bcast_S_S32x84 : (⟨S_, .i32⟩ : BufTy).Contents (Elt F) → (⟨S32x84, .i32⟩ : BufTy).Contents (Elt F)),
    StableHlo.binary main_while3b_v313 main_while3b_v314 main_while3b_v315 (cmpi .slt : (⟨S32x84, .i32⟩ : BufTy).Contents (Elt F) → (⟨S32x84, .i32⟩ : BufTy).Contents (Elt F) → (⟨S32x84, .i1⟩ : BufTy).Contents (Elt F)),
    StableHlo.nullary main_while3b_c_67 (constantI S_ 32 256#32),
    StableHlo.unary main_while3b_c_67 main_while3b_v316 (broadcastInDim S32x84 ![] bcast_S_S32x84 : (⟨S_, .i32⟩ : BufTy).Contents (Elt F) → (⟨S32x84, .i32⟩ : BufTy).Contents (Elt F)),
    StableHlo.binary main_while3b_v313 main_while3b_v316 main_while3b_v317 (addi : (⟨S32x84, .i32⟩ : BufTy).Contents (Elt F) → (⟨S32x84, .i32⟩ : BufTy).Contents (Elt F) → (⟨S32x84, .i32⟩ : BufTy).Contents (Elt F)),
    StableHlo.ternary main_while3b_v315 main_while3b_v317 main_while3b_v313 main_while3b_v318 (select : (⟨S32x84, .i1⟩ : BufTy).Contents (Elt F) → (⟨S32x84, .i32⟩ : BufTy).Contents (Elt F) → (⟨S32x84, .i32⟩ : BufTy).Contents (Elt F) → (⟨S32x84, .i32⟩ : BufTy).Contents (Elt F)),
    StableHlo.nullary main_while3b_c_68 (constantI S_ 32 0#32),
    StableHlo.unary main_while3b_c_68 main_while3b_v319 (broadcastInDim S32x84 ![] bcast_S_S32x84 : (⟨S_, .i32⟩ : BufTy).Contents (Elt F) → (⟨S32x84, .i32⟩ : BufTy).Contents (Elt F)),
    StableHlo.binary main_v266_3 main_while3b_v319 main_while3b_v320 (cmpi .slt : (⟨S32x84, .i32⟩ : BufTy).Contents (Elt F) → (⟨S32x84, .i32⟩ : BufTy).Contents (Elt F) → (⟨S32x84, .i1⟩ : BufTy).Contents (Elt F)),
    StableHlo.nullary main_while3b_c_69 (constantI S_ 32 256#32),
    StableHlo.unary main_while3b_c_69 main_while3b_v321 (broadcastInDim S32x84 ![] bcast_S_S32x84 : (⟨S_, .i32⟩ : BufTy).Contents (Elt F) → (⟨S32x84, .i32⟩ : BufTy).Contents (Elt F)),
    StableHlo.binary main_v266_3 main_while3b_v321 main_while3b_v322 (addi : (⟨S32x84, .i32⟩ : BufTy).Contents (Elt F) → (⟨S32x84, .i32⟩ : BufTy).Contents (Elt F) → (⟨S32x84, .i32⟩ : BufTy).Contents (Elt F)),
    StableHlo.ternary main_while3b_v320 main_while3b_v322 main_v266_3 main_while3b_v323 (select : (⟨S32x84, .i1⟩ : BufTy).Contents (Elt F) → (⟨S32x84, .i32⟩ : BufTy).Contents (Elt F) → (⟨S32x84, .i32⟩ : BufTy).Contents (Elt F) → (⟨S32x84, .i32⟩ : BufTy).Contents (Elt F)),
    StableHlo.unary main_while3b_v318 main_while3b_v324 (broadcastInDim S32x84x1 ![0, 1] bcast_S32x84_S32x84x1_0_1 : (⟨S32x84, .i32⟩ : BufTy).Contents (Elt F) → (⟨S32x84x1, .i32⟩ : BufTy).Contents (Elt F)),
    StableHlo.unary main_while3b_v323 main_while3b_v325 (broadcastInDim S32x84x1 ![0, 1] bcast_S32x84_S32x84x1_0_1 : (⟨S32x84, .i32⟩ : BufTy).Contents (Elt F) → (⟨S32x84x1, .i32⟩ : BufTy).Contents (Elt F)),
    StableHlo.binary main_while3b_v324 main_while3b_v325 main_while3b_v326 ((fun a b => concatenate S32x84x2 2 [⟨S32x84x1, a⟩, ⟨S32x84x1, b⟩] concatenates_S32x84x1_S32x84x1_S32x84x2_d2) : (⟨S32x84x1, .i32⟩ : BufTy).Contents (Elt F) → (⟨S32x84x1, .i32⟩ : BufTy).Contents (Elt F) → (⟨S32x84x2, .i32⟩ : BufTy).Contents (Elt F)),
    StableHlo.binary main_v266_1 main_while3b_v326 main_while3b_v327 ((fun x i => Host.gather gather_S256x256_S32x84x2_S32x84_n_01_n_n_01_2_11 x i) : (⟨S256x256, .i32⟩ : BufTy).Contents (Elt F) → (⟨S32x84x2, .i32⟩ : BufTy).Contents (Elt F) → (⟨S32x84, .i32⟩ : BufTy).Contents (Elt F)),
    StableHlo.nullary main_while3b_c_70 (constantI S_ 32 1#32),
    StableHlo.binary main_v266_2 main_while3b_c_70 main_while3b_v328 (addi : (⟨S_, .i32⟩ : BufTy).Contents (Elt F) → (⟨S_, .i32⟩ : BufTy).Contents (Elt F) → (⟨S_, .i32⟩ : BufTy).Contents (Elt F)),
    StableHlo.unary main_while3b_v328 main_v266_2 id,
    StableHlo.unary main_while3b_v327 main_v266_3 id ]

/-- The buffers these operations touch are all the TensorCore's. -/
theorem while3Ops0_1_sub : (while3Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub ..⟩

/-- The body of host loop 3 is its two pieces in order. -/
theorem while3_body_chain : main_while3_body (F := F) = (Pipeline.chain
  [ StableHlo.seq while3Ops0,
    StableHlo.seq while3Ops0_1 ] : Prog (TpuEff nD τ sig (Elt F) (HostLoop.Sig (Pipeline.Sig Λ₀ (Fin 0) fun p => (pcfgs (F := F) p).Adm) 4) .tc) PUnit) := by
  rewrite [Pipeline.chain_cons, StableHlo.chain_seq_cons]
  chain_rfl

end Cert.ReferenceIdeal.Line

end
-- ==== Proof.ReferenceFacts.lean ====
/-
  The host part of the reference program, up to the point where it returns: its
  operation stretches and its four counted loops as segments, what every buffer holds along the way (`E0`, `X0`, `E1`,
  … : contents on entering and on leaving each loop), the loops' counters and exit tests, and the fact that no argument
  is ever written.
-/
module

public import proofs.«01_k».proof.Proof.Lines
public import Idealize.ShloMosaic.Lib.StableHlo.RunRead
public import proofs.«01_k».proof.Proof.RefLine

@[expose] public section

set_option maxRecDepth 8000

noncomputable section

namespace Cert.Proof.ReferenceHost

open Cert.ReferenceIdeal Cert.ReferenceIdeal.Line Cert.ReferenceIdeal.Gen
open Cert.Proof.Lines
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket)

variable {F : FTy → Type} [FloatOps F]

/-- The program's arguments. -/
abbrev args : List (Ref sig .tc) := [main_arg0, main_arg1, main_arg2, main_arg3, main_arg4, main_arg5, main_arg6, main_arg7, main_arg8, main_arg9, main_arg10, main_arg11, main_arg12, main_arg13, main_arg14, main_arg15, main_arg16]

/-- Loop 0's exit test: the bound `24` and the comparison of the counter with it. -/
abbrev cond0 : List (HloOp τ sig (Elt F)) :=
  [ nullary main_while0c_c_66 (constantI S_ 32 24#32),
    binary main_v89_2 main_while0c_c_66 main_while0c_v313 (cmpi .slt) ]

/-- Loop 0's body. -/
abbrev body0 : List (List (HloOp τ sig (Elt F))) := [while0Ops0, while0Ops0_1]

/-- Loop 1's exit test: the bound `149` and the comparison of the counter with it. -/
abbrev cond1 : List (HloOp τ sig (Elt F)) :=
  [ nullary main_while1c_c_66 (constantI S_ 32 149#32),
    binary main_v167_2 main_while1c_c_66 main_while1c_v313 (cmpi .slt) ]

/-- Loop 1's body. -/
abbrev body1 : List (List (HloOp τ sig (Elt F))) := [while1Ops0, while1Ops0_1]

/-- Loop 2's exit test: the bound `399` and the comparison of the counter with it. -/
abbrev cond2 : List (HloOp τ sig (Elt F)) :=
  [ nullary main_while2c_c_66 (constantI S_ 32 399#32),
    binary main_v219_2 main_while2c_c_66 main_while2c_v313 (cmpi .slt) ]

/-- Loop 2's body. -/
abbrev body2 : List (List (HloOp τ sig (Elt F))) := [while2Ops0, while2Ops0_1]

/-- Loop 3's exit test: the bound `119` and the comparison of the counter with it. -/
abbrev cond3 : List (HloOp τ sig (Elt F)) :=
  [ nullary main_while3c_c_66 (constantI S_ 32 119#32),
    binary main_v266_2 main_while3c_c_66 main_while3c_v313 (cmpi .slt) ]

/-- Loop 3's body. -/
abbrev body3 : List (List (HloOp τ sig (Elt F))) := [while3Ops0, while3Ops0_1]

/-- The stretches before loop 0. -/
abbrev line0 : List (List (HloOp τ sig (Elt F))) := [main_part0_ops0, main_part0_ops1, main_part0_ops2, main_part1_ops0, main_part1_ops1, main_part1_ops2]

/-- The stretches between loops 0 and 1. -/
abbrev line1 : List (List (HloOp τ sig (Elt F))) := [main_part1_ops3, main_part2_ops0, main_part3_ops0, main_part3_ops1, main_part3_ops2]

/-- The stretches between loops 1 and 2. -/
abbrev line2 : List (List (HloOp τ sig (Elt F))) := [main_part3_ops3, main_part4_ops0, main_part4_ops1, main_part4_ops2]

/-- The stretches between loops 2 and 3. -/
abbrev line3 : List (List (HloOp τ sig (Elt F))) := [main_part4_ops3, main_part5_ops0, main_part5_ops1, main_part5_ops2]

/-- The stretches after loop 3. -/
abbrev line4 : List (List (HloOp τ sig (Elt F))) := [main_part5_ops3, main_part6_ops0]

/-! ## The stretches allocate nothing, stay within the core's own buffers, and write no argument -/

theorem keeps_main_part0_ops0 : Keeps args (main_part0_ops0 (F := F)) :=
  .of [main_v0, main_v1, main_v2, main_c, main_v3, main_v4, main_v5, main_v6, main_v7, main_v8, main_v9, main_v10, main_c_0, main_v11, main_v12, main_c_1, main_v13, main_v14, main_v15, main_v16, main_v17, main_c_2, main_v18, main_v19, main_c_3, main_v20, main_v21, main_v22, main_v23, main_v24, main_v25, main_v26, main_v27, main_v28, main_v29, main_v30, main_v31, main_v32, main_v33, main_cst, main_v34] rfl (by decide +kernel)

theorem keeps_main_part0_ops1 : Keeps args (main_part0_ops1 (F := F)) :=
  .of [main_call0_v0, main_call0_cst, main_call0_c, main_call0_v1_0, main_v35] rfl (by decide +kernel)

theorem keeps_main_part0_ops2 : Keeps args (main_part0_ops2 (F := F)) :=
  .of [main_v36, main_v37, main_v38, main_c_4, main_v39, main_v40, main_v41, main_v42, main_v43, main_v44, main_v45, main_v46, main_c_5, main_v47, main_v48, main_c_6, main_v49, main_v50] rfl (by decide +kernel)

theorem keeps_main_part1_ops0 : Keeps args (main_part1_ops0 (F := F)) :=
  .of [main_v51, main_v52, main_v53, main_c_7, main_v54, main_v55, main_c_8, main_v56, main_v57, main_v58, main_v59, main_v60, main_v61, main_v62, main_v63, main_v64, main_v65, main_c_9, main_v66, main_v67, main_c_10, main_v68, main_v69, main_v70, main_c_11, main_v71, main_v72, main_c_12, main_v73, main_v74, main_v75, main_v76, main_v77, main_v78, main_v79, main_v80, main_v81, main_v82] rfl (by decide +kernel)

theorem keeps_main_part1_ops1 : Keeps args (main_part1_ops1 (F := F)) :=
  .of [main_v83] rfl (by decide +kernel)

theorem keeps_main_part1_ops2 : Keeps args (main_part1_ops2 (F := F)) :=
  .of [main_v84, main_v85, main_v86, main_v87, main_v88, main_c_13, main_v89_0, main_v89_1, main_v89_2, main_v89_3] rfl (by decide +kernel)

theorem keeps_main_part1_ops3 : Keeps args (main_part1_ops3 (F := F)) :=
  .of [main_v90, main_v91, main_c_14, main_v92, main_v93, main_c_15, main_v94, main_v95, main_v96, main_c_16] rfl (by decide +kernel)

theorem keeps_main_part2_ops0 : Keeps args (main_part2_ops0 (F := F)) :=
  .of [main_v97, main_v98, main_c_17, main_v99, main_v100, main_v101, main_v102, main_v103, main_v104, main_v105, main_v106, main_v107, main_v108, main_c_18, main_v109, main_v110, main_c_19, main_v111, main_v112, main_v113, main_v114, main_v115, main_v116, main_c_20, main_v117, main_v118, main_v119, main_v120, main_v121, main_v122, main_v123, main_v124, main_c_21, main_v125, main_v126, main_c_22, main_v127, main_v128, main_v129, main_v130, main_v131, main_c_23, main_v132, main_v133, main_c_24, main_v134, main_v135, main_v136, main_v137, main_v138, main_v139, main_v140, main_v141, main_v142, main_v143, main_c_25, main_v144, main_v145, main_c_26, main_v146] rfl (by decide +kernel)

theorem keeps_main_part3_ops0 : Keeps args (main_part3_ops0 (F := F)) :=
  .of [main_v147, main_v148, main_c_27, main_v149, main_v150, main_c_28, main_v151, main_v152, main_v153, main_v154, main_v155, main_v156, main_v157, main_v158, main_v159, main_v160] rfl (by decide +kernel)

theorem keeps_main_part3_ops1 : Keeps args (main_part3_ops1 (F := F)) :=
  .of [main_v161] rfl (by decide +kernel)

theorem keeps_main_part3_ops2 : Keeps args (main_part3_ops2 (F := F)) :=
  .of [main_v162, main_v163, main_v164, main_v165, main_v166, main_c_29, main_v167_0, main_v167_1, main_v167_2, main_v167_3] rfl (by decide +kernel)

theorem keeps_main_part3_ops3 : Keeps args (main_part3_ops3 (F := F)) :=
  .of [main_v168, main_v169, main_c_30, main_v170, main_v171, main_c_31, main_v172, main_v173, main_v174, main_c_32, main_v175, main_v176, main_c_33, main_v177, main_v178, main_v179, main_v180, main_v181, main_v182, main_v183, main_v184, main_v185, main_v186, main_c_34, main_v187, main_v188, main_c_35, main_v189, main_v190, main_v191, main_v192, main_v193] rfl (by decide +kernel)

theorem keeps_main_part4_ops0 : Keeps args (main_part4_ops0 (F := F)) :=
  .of [main_v194, main_v195, main_v196, main_c_36, main_v197, main_v198, main_c_37, main_v199, main_v200, main_v201, main_c_38, main_v202, main_v203, main_c_39, main_v204, main_v205, main_v206, main_v207, main_v208, main_v209, main_v210, main_v211, main_v212] rfl (by decide +kernel)

theorem keeps_main_part4_ops1 : Keeps args (main_part4_ops1 (F := F)) :=
  .of [main_v213] rfl (by decide +kernel)

theorem keeps_main_part4_ops2 : Keeps args (main_part4_ops2 (F := F)) :=
  .of [main_v214, main_v215, main_v216, main_v217, main_v218, main_c_40, main_v219_0, main_v219_1, main_v219_2, main_v219_3] rfl (by decide +kernel)

theorem keeps_main_part4_ops3 : Keeps args (main_part4_ops3 (F := F)) :=
  .of [main_v220, main_c_41, main_v221, main_v222, main_c_42, main_v223, main_v224, main_v225, main_c_43, main_v226, main_v227, main_c_44, main_v228, main_v229, main_v230, main_v231, main_v232, main_v233, main_v234, main_v235, main_c_45, main_v236, main_v237, main_c_46, main_v238] rfl (by decide +kernel)

theorem keeps_main_part5_ops0 : Keeps args (main_part5_ops0 (F := F)) :=
  .of [main_v239, main_v240, main_v241, main_v242, main_v243, main_c_47, main_v244, main_v245, main_c_48, main_v246, main_v247, main_v248, main_c_49, main_v249, main_v250, main_c_50, main_v251, main_v252, main_v253, main_v254, main_v255, main_v256, main_v257, main_v258, main_v259] rfl (by decide +kernel)

theorem keeps_main_part5_ops1 : Keeps args (main_part5_ops1 (F := F)) :=
  .of [main_v260] rfl (by decide +kernel)

theorem keeps_main_part5_ops2 : Keeps args (main_part5_ops2 (F := F)) :=
  .of [main_v261, main_v262, main_v263, main_v264, main_v265, main_c_51, main_v266_0, main_v266_1, main_v266_2, main_v266_3] rfl (by decide +kernel)

theorem keeps_main_part5_ops3 : Keeps args (main_part5_ops3 (F := F)) :=
  .of [main_v267, main_c_52, main_v268, main_v269, main_c_53, main_v270, main_v271, main_v272, main_c_54, main_v273, main_v274, main_c_55, main_v275, main_v276, main_v277, main_v278, main_v279, main_v280, main_v281, main_v282, main_c_56, main_v283, main_v284] rfl (by decide +kernel)

theorem keeps_main_part6_ops0 : Keeps args (main_part6_ops0 (F := F)) :=
  .of [main_c_57, main_v285, main_v286, main_v287, main_v288, main_v289, main_c_58, main_v290, main_v291, main_c_59, main_v292, main_v293, main_v294, main_v295, main_v296, main_v297, main_v298, main_v299, main_v300, main_v301, main_cst_60, main_v302, main_cst_61, main_v303, main_v304, main_v305, main_v306, main_v307, main_v308, main_cst_62, main_v309, main_v310, main_v311, main_v312] rfl (by decide +kernel)

theorem keeps_while0Ops0 : Keeps args (while0Ops0 (F := F)) :=
  .of [main_while0b_call2_c, main_while0b_call2_c_0, main_while0b_call2_c_1, main_while0b_call2_v0, main_while0b_v313] rfl (by decide +kernel)

theorem keeps_while0Ops0_1 : Keeps args (while0Ops0_1 (F := F)) :=
  .of [main_while0b_c_66, main_while0b_v314, main_while0b_v315, main_while0b_c_67, main_while0b_v316, main_while0b_v317, main_while0b_v318, main_while0b_c_68, main_while0b_v319, main_while0b_v320, main_while0b_c_69, main_while0b_v321, main_while0b_v322, main_while0b_v323, main_while0b_v324, main_while0b_v325, main_while0b_v326, main_while0b_v327, main_while0b_c_70, main_while0b_v328, main_v89_2, main_v89_3] rfl (by decide +kernel)

theorem keeps_while1Ops0 : Keeps args (while1Ops0 (F := F)) :=
  .of [main_while1b_call4_c, main_while1b_call4_c_0, main_while1b_call4_c_1, main_while1b_call4_v0, main_while1b_v313] rfl (by decide +kernel)

theorem keeps_while1Ops0_1 : Keeps args (while1Ops0_1 (F := F)) :=
  .of [main_while1b_c_66, main_while1b_v314, main_while1b_v315, main_while1b_c_67, main_while1b_v316, main_while1b_v317, main_while1b_v318, main_while1b_c_68, main_while1b_v319, main_while1b_v320, main_while1b_c_69, main_while1b_v321, main_while1b_v322, main_while1b_v323, main_while1b_v324, main_while1b_v325, main_while1b_v326, main_while1b_v327, main_while1b_c_70, main_while1b_v328, main_v167_2, main_v167_3] rfl (by decide +kernel)

theorem keeps_while2Ops0 : Keeps args (while2Ops0 (F := F)) :=
  .of [main_while2b_call6_c, main_while2b_call6_c_0, main_while2b_call6_v0, main_while2b_v313] rfl (by decide +kernel)

theorem keeps_while2Ops0_1 : Keeps args (while2Ops0_1 (F := F)) :=
  .of [main_while2b_c_66, main_while2b_v314, main_while2b_v315, main_while2b_c_67, main_while2b_v316, main_while2b_v317, main_while2b_v318, main_while2b_c_68, main_while2b_v319, main_while2b_v320, main_while2b_c_69, main_while2b_v321, main_while2b_v322, main_while2b_v323, main_while2b_v324, main_while2b_v325, main_while2b_v326, main_while2b_v327, main_while2b_c_70, main_while2b_v328, main_v219_2, main_v219_3] rfl (by decide +kernel)

theorem keeps_while3Ops0 : Keeps args (while3Ops0 (F := F)) :=
  .of [main_while3b_call8_c, main_while3b_call8_c_0, main_while3b_call8_v0, main_while3b_v313] rfl (by decide +kernel)

theorem keeps_while3Ops0_1 : Keeps args (while3Ops0_1 (F := F)) :=
  .of [main_while3b_c_66, main_while3b_v314, main_while3b_v315, main_while3b_c_67, main_while3b_v316, main_while3b_v317, main_while3b_v318, main_while3b_c_68, main_while3b_v319, main_while3b_v320, main_while3b_c_69, main_while3b_v321, main_while3b_v322, main_while3b_v323, main_while3b_v324, main_while3b_v325, main_while3b_v326, main_while3b_v327, main_while3b_c_70, main_while3b_v328, main_v266_2, main_v266_3] rfl (by decide +kernel)

theorem keeps_cond0 : Keeps args (cond0 (F := F)) :=
  .of [main_while0c_c_66, main_while0c_v313] rfl (by decide +kernel)

theorem keeps_cond1 : Keeps args (cond1 (F := F)) :=
  .of [main_while1c_c_66, main_while1c_v313] rfl (by decide +kernel)

theorem keeps_cond2 : Keeps args (cond2 (F := F)) :=
  .of [main_while2c_c_66, main_while2c_v313] rfl (by decide +kernel)

theorem keeps_cond3 : Keeps args (cond3 (F := F)) :=
  .of [main_while3c_c_66, main_while3c_v313] rfl (by decide +kernel)

theorem plain_line0 : Plain (line0 (F := F)) :=
  .cons main_part0_ops0_sub (.cons main_part0_ops1_sub (.cons main_part0_ops2_sub (.cons main_part1_ops0_sub (.cons main_part1_ops1_sub (.cons main_part1_ops2_sub .nil (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))

theorem keeps_line0 : KeepsL args (line0 (F := F)) :=
  .cons keeps_main_part0_ops0 (.cons keeps_main_part0_ops1 (.cons keeps_main_part0_ops2 (.cons keeps_main_part1_ops0 (.cons keeps_main_part1_ops1 (.cons keeps_main_part1_ops2 .nil)))))

theorem plain_line1 : Plain (line1 (F := F)) :=
  .cons main_part1_ops3_sub (.cons main_part2_ops0_sub (.cons main_part3_ops0_sub (.cons main_part3_ops1_sub (.cons main_part3_ops2_sub .nil (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))

theorem keeps_line1 : KeepsL args (line1 (F := F)) :=
  .cons keeps_main_part1_ops3 (.cons keeps_main_part2_ops0 (.cons keeps_main_part3_ops0 (.cons keeps_main_part3_ops1 (.cons keeps_main_part3_ops2 .nil))))

theorem plain_line2 : Plain (line2 (F := F)) :=
  .cons main_part3_ops3_sub (.cons main_part4_ops0_sub (.cons main_part4_ops1_sub (.cons main_part4_ops2_sub .nil (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))

theorem keeps_line2 : KeepsL args (line2 (F := F)) :=
  .cons keeps_main_part3_ops3 (.cons keeps_main_part4_ops0 (.cons keeps_main_part4_ops1 (.cons keeps_main_part4_ops2 .nil)))

theorem plain_line3 : Plain (line3 (F := F)) :=
  .cons main_part4_ops3_sub (.cons main_part5_ops0_sub (.cons main_part5_ops1_sub (.cons main_part5_ops2_sub .nil (List.forall_iff_forall_mem.mp (forall_fresh_of_map rfl))) (List.forall_iff_forall_mem.mp (forall_fresh_of_map rfl))) (List.forall_iff_forall_mem.mp (forall_fresh_of_map rfl))) (List.forall_iff_forall_mem.mp (forall_fresh_of_map rfl))

theorem keeps_line3 : KeepsL args (line3 (F := F)) :=
  .cons keeps_main_part4_ops3 (.cons keeps_main_part5_ops0 (.cons keeps_main_part5_ops1 (.cons keeps_main_part5_ops2 .nil)))

theorem plain_line4 : Plain (line4 (F := F)) :=
  .cons main_part5_ops3_sub (.cons main_part6_ops0_sub .nil (List.forall_iff_forall_mem.mp (forall_fresh_of_map rfl))) (List.forall_iff_forall_mem.mp (forall_fresh_of_map rfl))

theorem keeps_line4 : KeepsL args (line4 (F := F)) :=
  .cons keeps_main_part5_ops3 (.cons keeps_main_part6_ops0 .nil)

theorem plain_body0 : Plain (body0 (F := F)) :=
  .cons while0Ops0_sub (.cons while0Ops0_1_sub .nil (List.forall_iff_forall_mem.mp (forall_fresh_of_map rfl))) (List.forall_iff_forall_mem.mp (forall_fresh_of_map rfl))

theorem keeps_body0 : KeepsL args (body0 (F := F)) :=
  .cons keeps_while0Ops0 (.cons keeps_while0Ops0_1 .nil)

theorem plain_body1 : Plain (body1 (F := F)) :=
  .cons while1Ops0_sub (.cons while1Ops0_1_sub .nil (List.forall_iff_forall_mem.mp (forall_fresh_of_map rfl))) (List.forall_iff_forall_mem.mp (forall_fresh_of_map rfl))

theorem keeps_body1 : KeepsL args (body1 (F := F)) :=
  .cons keeps_while1Ops0 (.cons keeps_while1Ops0_1 .nil)

theorem plain_body2 : Plain (body2 (F := F)) :=
  .cons while2Ops0_sub (.cons while2Ops0_1_sub .nil (List.forall_iff_forall_mem.mp (forall_fresh_of_map rfl))) (List.forall_iff_forall_mem.mp (forall_fresh_of_map rfl))

theorem keeps_body2 : KeepsL args (body2 (F := F)) :=
  .cons keeps_while2Ops0 (.cons keeps_while2Ops0_1 .nil)

theorem plain_body3 : Plain (body3 (F := F)) :=
  .cons while3Ops0_sub (.cons while3Ops0_1_sub .nil (List.forall_iff_forall_mem.mp (forall_fresh_of_map rfl))) (List.forall_iff_forall_mem.mp (forall_fresh_of_map rfl))

theorem keeps_body3 : KeepsL args (body3 (F := F)) :=
  .cons keeps_while3Ops0 (.cons keeps_while3Ops0_1 .nil)

end Cert.Proof.ReferenceHost

end
-- ==== Proof.ReferenceHost.lean ====
/-
  The host part of the reference program, up to the point where it returns: its
  operation stretches and its four counted loops as segments, what every buffer holds along the way (`E0`, `X0`, `E1`,
  … : contents on entering and on leaving each loop), the loops' counters and exit tests, and the fact that no argument
  is ever written.
-/
module

public import proofs.«01_k».proof.Proof.ReferenceFacts
public import Idealize.ShloMosaic.Lib.StableHlo.RunRead
public import proofs.«01_k».proof.Proof.RefLine

@[expose] public section

set_option maxRecDepth 8000

noncomputable section

namespace Cert.Proof.ReferenceHost

open Cert.ReferenceIdeal Cert.ReferenceIdeal.Line Cert.ReferenceIdeal.Gen
open Cert.Proof.Lines
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket)

variable {F : FTy → Type} [FloatOps F]

/-! ## The counters and the exit tests -/

/-- Loop 0's counter is zero where the stretch before the loop ends, -/
theorem start0 (X : Valuation τ sig (Elt F)) : after main_part1_ops2 X main_v89_2 = fun _ => (0#32 : BitVec 32) := by
  after_reads_simp
  rfl

/-- one trip adds one to it, -/
theorem step0 (X : Valuation τ sig (Elt F)) :
    afterL body0 (after cond0 X) main_v89_2 = addi (X main_v89_2) (constantI S_ 32 1#32) := by
  show after while0Ops0_1 (after while0Ops0 (after cond0 X)) main_v89_2 = _
  after_reads_simp
  rfl

/-- so it counts the trips, -/
theorem count0 (W₀ : Dev nD → Valuation τ sig (Elt F)) (h0 : ∀ c, W₀ c main_v89_2 = fun _ => (0#32 : BitVec 32)) (c : Dev nD) (k : ℕ) :
    atTrip cond0 body0 W₀ k c main_v89_2 = fun _ => (BitVec.ofNat 32 k : BitVec 32) :=
  (atTrip_iterate (W₀ := W₀) (b := Proc.devRef .tc main_v89_2) (fun x => addi x (constantI S_ 32 1#32)) step0 c k).trans
    ((congrArg _ (h0 c)).trans (count_iterate k))

-- the rule for one operation is stated for any thread; using it at the TensorCore's needs plain definitions unfolded
set_option backward.isDefEq.respectTransparency.types false in
/-- and the exit test lets exactly 24 trips through. -/
theorem test0 {U : Type} [URA U] (W₀ : Dev nD → Valuation τ sig (Elt F)) (h0 : ∀ c, W₀ c main_v89_2 = fun _ => (0#32 : BitVec 32)) :
    LoopCond (Ix := Unit) (Name := ℕ) (U := U) (Lvl := ℕ) (pcfgs (F := F)) defs₀ Variants.none loops Rw main_while0_cond cond0 body0 W₀ 24 := by
  intro k hk c bd
  have hctr := count0 W₀ h0 c k
  unfold main_while0_cond
  rw [wp_bind]
  iintro ⟨Hb, Hh, HR⟩
  iapply (StableHlo.wp_hlo_within (Variants.lift Variants.none) (c : Thread nD τ) bd Set.univ (Pipeline.sub_ucRefs _ (nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (Pipeline.sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip cond0 body0 W₀ k c) main_v89_2 HostLoop.idx0)
        (HloOp.result _ (atTrip cond0 body0 W₀ k c) main_while0c_c_66 HostLoop.idx0) = 1#1) (k < 24)
    rw [nullary_result_ne _ _ _ _ (by decide), nullary_result, hctr]
    exact pred_iff k 24 hk (by decide)
  isplitl [Hb]; · iexact Hb
  isplitl [Hh]; · rw [after_cons, after_cons, after_nil]; iexact Hh
  iexact HR

/-- Loop 1's counter is zero where the stretch before the loop ends, -/
theorem start1 (X : Valuation τ sig (Elt F)) : after main_part3_ops2 X main_v167_2 = fun _ => (0#32 : BitVec 32) := by
  after_reads_simp
  rfl

/-- one trip adds one to it, -/
theorem step1 (X : Valuation τ sig (Elt F)) :
    afterL body1 (after cond1 X) main_v167_2 = addi (X main_v167_2) (constantI S_ 32 1#32) := by
  show after while1Ops0_1 (after while1Ops0 (after cond1 X)) main_v167_2 = _
  after_reads_simp
  rfl

/-- so it counts the trips, -/
theorem count1 (W₀ : Dev nD → Valuation τ sig (Elt F)) (h0 : ∀ c, W₀ c main_v167_2 = fun _ => (0#32 : BitVec 32)) (c : Dev nD) (k : ℕ) :
    atTrip cond1 body1 W₀ k c main_v167_2 = fun _ => (BitVec.ofNat 32 k : BitVec 32) :=
  (atTrip_iterate (W₀ := W₀) (b := Proc.devRef .tc main_v167_2) (fun x => addi x (constantI S_ 32 1#32)) step1 c k).trans
    ((congrArg _ (h0 c)).trans (count_iterate k))

-- the rule for one operation is stated for any thread; using it at the TensorCore's needs plain definitions unfolded
set_option backward.isDefEq.respectTransparency.types false in
/-- and the exit test lets exactly 149 trips through. -/
theorem test1 {U : Type} [URA U] (W₀ : Dev nD → Valuation τ sig (Elt F)) (h0 : ∀ c, W₀ c main_v167_2 = fun _ => (0#32 : BitVec 32)) :
    LoopCond (Ix := Unit) (Name := ℕ) (U := U) (Lvl := ℕ) (pcfgs (F := F)) defs₀ Variants.none loops Rw main_while1_cond cond1 body1 W₀ 149 := by
  intro k hk c bd
  have hctr := count1 W₀ h0 c k
  unfold main_while1_cond
  rw [wp_bind]
  iintro ⟨Hb, Hh, HR⟩
  iapply (StableHlo.wp_hlo_within (Variants.lift Variants.none) (c : Thread nD τ) bd Set.univ (Pipeline.sub_ucRefs _ (nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (Pipeline.sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip cond1 body1 W₀ k c) main_v167_2 HostLoop.idx0)
        (HloOp.result _ (atTrip cond1 body1 W₀ k c) main_while1c_c_66 HostLoop.idx0) = 1#1) (k < 149)
    rw [nullary_result_ne _ _ _ _ (by decide), nullary_result, hctr]
    exact pred_iff k 149 hk (by decide)
  isplitl [Hb]; · iexact Hb
  isplitl [Hh]; · rw [after_cons, after_cons, after_nil]; iexact Hh
  iexact HR

/-- Loop 2's counter is zero where the stretch before the loop ends, -/
theorem start2 (X : Valuation τ sig (Elt F)) : after main_part4_ops2 X main_v219_2 = fun _ => (0#32 : BitVec 32) := by
  after_reads_simp
  rfl

/-- one trip adds one to it, -/
theorem step2 (X : Valuation τ sig (Elt F)) :
    afterL body2 (after cond2 X) main_v219_2 = addi (X main_v219_2) (constantI S_ 32 1#32) := by
  show after while2Ops0_1 (after while2Ops0 (after cond2 X)) main_v219_2 = _
  after_reads_simp
  rfl

/-- so it counts the trips, -/
theorem count2 (W₀ : Dev nD → Valuation τ sig (Elt F)) (h0 : ∀ c, W₀ c main_v219_2 = fun _ => (0#32 : BitVec 32)) (c : Dev nD) (k : ℕ) :
    atTrip cond2 body2 W₀ k c main_v219_2 = fun _ => (BitVec.ofNat 32 k : BitVec 32) :=
  (atTrip_iterate (W₀ := W₀) (b := Proc.devRef .tc main_v219_2) (fun x => addi x (constantI S_ 32 1#32)) step2 c k).trans
    ((congrArg _ (h0 c)).trans (count_iterate k))

-- the rule for one operation is stated for any thread; using it at the TensorCore's needs plain definitions unfolded
set_option backward.isDefEq.respectTransparency.types false in
/-- and the exit test lets exactly 399 trips through. -/
theorem test2 {U : Type} [URA U] (W₀ : Dev nD → Valuation τ sig (Elt F)) (h0 : ∀ c, W₀ c main_v219_2 = fun _ => (0#32 : BitVec 32)) :
    LoopCond (Ix := Unit) (Name := ℕ) (U := U) (Lvl := ℕ) (pcfgs (F := F)) defs₀ Variants.none loops Rw main_while2_cond cond2 body2 W₀ 399 := by
  intro k hk c bd
  have hctr := count2 W₀ h0 c k
  unfold main_while2_cond
  rw [wp_bind]
  iintro ⟨Hb, Hh, HR⟩
  iapply (StableHlo.wp_hlo_within (Variants.lift Variants.none) (c : Thread nD τ) bd Set.univ (Pipeline.sub_ucRefs _ (nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (Pipeline.sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip cond2 body2 W₀ k c) main_v219_2 HostLoop.idx0)
        (HloOp.result _ (atTrip cond2 body2 W₀ k c) main_while2c_c_66 HostLoop.idx0) = 1#1) (k < 399)
    rw [nullary_result_ne _ _ _ _ (by decide), nullary_result, hctr]
    exact pred_iff k 399 hk (by decide)
  isplitl [Hb]; · iexact Hb
  isplitl [Hh]; · rw [after_cons, after_cons, after_nil]; iexact Hh
  iexact HR

/-- Loop 3's counter is zero where the stretch before the loop ends, -/
theorem start3 (X : Valuation τ sig (Elt F)) : after main_part5_ops2 X main_v266_2 = fun _ => (0#32 : BitVec 32) := by
  after_reads_simp
  rfl

/-- one trip adds one to it, -/
theorem step3 (X : Valuation τ sig (Elt F)) :
    afterL body3 (after cond3 X) main_v266_2 = addi (X main_v266_2) (constantI S_ 32 1#32) := by
  show after while3Ops0_1 (after while3Ops0 (after cond3 X)) main_v266_2 = _
  after_reads_simp
  rfl

/-- so it counts the trips, -/
theorem count3 (W₀ : Dev nD → Valuation τ sig (Elt F)) (h0 : ∀ c, W₀ c main_v266_2 = fun _ => (0#32 : BitVec 32)) (c : Dev nD) (k : ℕ) :
    atTrip cond3 body3 W₀ k c main_v266_2 = fun _ => (BitVec.ofNat 32 k : BitVec 32) :=
  (atTrip_iterate (W₀ := W₀) (b := Proc.devRef .tc main_v266_2) (fun x => addi x (constantI S_ 32 1#32)) step3 c k).trans
    ((congrArg _ (h0 c)).trans (count_iterate k))

-- the rule for one operation is stated for any thread; using it at the TensorCore's needs plain definitions unfolded
set_option backward.isDefEq.respectTransparency.types false in
/-- and the exit test lets exactly 119 trips through. -/
theorem test3 {U : Type} [URA U] (W₀ : Dev nD → Valuation τ sig (Elt F)) (h0 : ∀ c, W₀ c main_v266_2 = fun _ => (0#32 : BitVec 32)) :
    LoopCond (Ix := Unit) (Name := ℕ) (U := U) (Lvl := ℕ) (pcfgs (F := F)) defs₀ Variants.none loops Rw main_while3_cond cond3 body3 W₀ 119 := by
  intro k hk c bd
  have hctr := count3 W₀ h0 c k
  unfold main_while3_cond
  rw [wp_bind]
  iintro ⟨Hb, Hh, HR⟩
  iapply (StableHlo.wp_hlo_within (Variants.lift Variants.none) (c : Thread nD τ) bd Set.univ (Pipeline.sub_ucRefs _ (nullary_bufs_sub ..))) $$ [Hb Hh]
  · isplitl [Hb] <;> iassumption
  iintro ⟨Hb, Hh⟩
  rw [wp_ret]; imodintro
  iapply (StableHlo.wp_hlo_within (Variants.lift Variants.none) (c : Thread nD τ) bd Set.univ (Pipeline.sub_ucRefs _ (binary_bufs_sub ..))) $$ [Hb Hh]
  · isplitl [Hb] <;> iassumption
  iintro ⟨Hb, Hh⟩
  rw [HostLoop.elt_apply, wp_ret]; imodintro
  isplitr
  · ipureintro
    show Iff (IntOp.cmpi .slt (HloOp.result _ (atTrip cond3 body3 W₀ k c) main_v266_2 HostLoop.idx0)
        (HloOp.result _ (atTrip cond3 body3 W₀ k c) main_while3c_c_66 HostLoop.idx0) = 1#1) (k < 119)
    rw [nullary_result_ne _ _ _ _ (by decide), nullary_result, hctr]
    exact pred_iff k 119 hk (by decide)
  isplitl [Hb]; · iexact Hb
  isplitl [Hh]; · rw [after_cons, after_cons, after_nil]; iexact Hh
  iexact HR

/-! ## What the buffers hold along the program -/

variable (m : (ℓ : Loc nD τ sig) → Buf (Elt F) ℓ)

/-- On entering loop 0, -/
def E0 (c : Dev nD) : Valuation τ sig (Elt F) := afterL line0 (launchContents m c)
/-- and on leaving it, 24 trips later. -/
def X0 (c : Dev nD) : Valuation τ sig (Elt F) := after cond0 (atTrip cond0 body0 (E0 m) 24 c)

/-- On entering loop 1, -/
def E1 (c : Dev nD) : Valuation τ sig (Elt F) := afterL line1 (X0 m c)
/-- and on leaving it, 149 trips later. -/
def X1 (c : Dev nD) : Valuation τ sig (Elt F) := after cond1 (atTrip cond1 body1 (E1 m) 149 c)

/-- On entering loop 2, -/
def E2 (c : Dev nD) : Valuation τ sig (Elt F) := afterL line2 (X1 m c)
/-- and on leaving it, 399 trips later. -/
def X2 (c : Dev nD) : Valuation τ sig (Elt F) := after cond2 (atTrip cond2 body2 (E2 m) 399 c)

/-- On entering loop 3, -/
def E3 (c : Dev nD) : Valuation τ sig (Elt F) := afterL line3 (X2 m c)
/-- and on leaving it, 119 trips later. -/
def X3 (c : Dev nD) : Valuation τ sig (Elt F) := after cond3 (atTrip cond3 body3 (E3 m) 119 c)

/-- At the end of the host part. -/
def Efin (c : Dev nD) : Valuation τ sig (Elt F) := afterL line4 (X3 m c)

theorem E0_start (c : Dev nD) : E0 m c main_v89_2 = fun _ => (0#32 : BitVec 32) := by
  unfold E0; exact start0 (F := F) _

theorem E1_start (c : Dev nD) : E1 m c main_v167_2 = fun _ => (0#32 : BitVec 32) := by
  unfold E1; exact start1 (F := F) _

theorem E2_start (c : Dev nD) : E2 m c main_v219_2 = fun _ => (0#32 : BitVec 32) := by
  unfold E2; exact start2 (F := F) _

theorem E3_start (c : Dev nD) : E3 m c main_v266_2 = fun _ => (0#32 : BitVec 32) := by
  unfold E3; exact start3 (F := F) _

/-- Every argument is still as launched at the end of the host part. -/
theorem Efin_arg (c : Dev nD) (b : Ref sig .tc) (hb : b ∈ args) : Efin m c b = m ((c : Thread nD τ).loc b) := by
  unfold Efin
  rw [keeps_line4.afterL b hb]
  unfold X3; rw [KeepsL.loop keeps_cond3 keeps_body3 _ c b hb]; unfold E3; rw [keeps_line3.afterL b hb]
  unfold X2; rw [KeepsL.loop keeps_cond2 keeps_body2 _ c b hb]; unfold E2; rw [keeps_line2.afterL b hb]
  unfold X1; rw [KeepsL.loop keeps_cond1 keeps_body1 _ c b hb]; unfold E1; rw [keeps_line1.afterL b hb]
  unfold X0; rw [KeepsL.loop keeps_cond0 keeps_body0 _ c b hb]; unfold E0; rw [keeps_line0.afterL b hb]

/-! ## The segments -/

variable {U : Type} [URA U] (a : (p : Fin 0) → (pcfgs (F := F) p).Adm) {J : Type} [DecidableEq J]
  (tk : J → Ticket (Ix := Unit) (Name := ℕ) (U := U) (Lvl := ℕ) (nD := nD) (τ := τ) (pcfgs (F := F)) a)

/-- The host part, segment by segment. -/
def segs : List (CSeg (pcfgs (F := F)) a defs₀ Variants.none L lv loops tk) :=
  segsOf _ _ _ _ _ _ _ _ Rw line0 plain_line0 (launchContents m)
    ++ loopSeg _ _ _ _ _ _ _ _ 0 main_while0_cond main_while0_body rfl cond0 body0 plain_body0 while0_body_chain 24 (E0 m) Rw (test0 (E0 m) (E0_start m))
    :: (segsOf _ _ _ _ _ _ _ _ Rw line1 plain_line1 (X0 m)
    ++ loopSeg _ _ _ _ _ _ _ _ 1 main_while1_cond main_while1_body rfl cond1 body1 plain_body1 while1_body_chain 149 (E1 m) Rw (test1 (E1 m) (E1_start m))
    :: (segsOf _ _ _ _ _ _ _ _ Rw line2 plain_line2 (X1 m)
    ++ loopSeg _ _ _ _ _ _ _ _ 2 main_while2_cond main_while2_body rfl cond2 body2 plain_body2 while2_body_chain 399 (E2 m) Rw (test2 (E2 m) (E2_start m))
    :: (segsOf _ _ _ _ _ _ _ _ Rw line3 plain_line3 (X2 m)
    ++ loopSeg _ _ _ _ _ _ _ _ 3 main_while3_cond main_while3_body rfl cond3 body3 plain_body3 while3_body_chain 119 (E3 m) Rw (test3 (E3 m) (E3_start m))
    :: (segsOf _ _ _ _ _ _ _ _ Rw line4 plain_line4 (X3 m)))))

/-- They lead from the buffers at launch to the buffers at the end of the host part. -/
theorem segs_chains : CSeg.Chains (At (launchContents m)) (segs m a tk) (At (Efin m)) := by
  unfold segs
  exact CSeg.Chains.append (segsOf_chains _ _ _ _ _ _ _ _ Rw line0 plain_line0 _) ⟨fun _ => .rfl, CSeg.Chains.append (segsOf_chains _ _ _ _ _ _ _ _ Rw line1 plain_line1 _) ⟨fun _ => .rfl, CSeg.Chains.append (segsOf_chains _ _ _ _ _ _ _ _ Rw line2 plain_line2 _) ⟨fun _ => .rfl, CSeg.Chains.append (segsOf_chains _ _ _ _ _ _ _ _ Rw line3 plain_line3 _) ⟨fun _ => .rfl, segsOf_chains _ _ _ _ _ _ _ _ Rw line4 plain_line4 _⟩⟩⟩⟩

/-- Their programs are the printed program's pieces, in order. -/
theorem segs_prog : (segs m a tk).map CSeg.prog = [ seq main_part0_ops0, seq main_part0_ops1, seq main_part0_ops2, seq main_part1_ops0, seq main_part1_ops1, seq main_part1_ops2, HostLoop.enter 0, seq main_part1_ops3, seq main_part2_ops0, seq main_part3_ops0, seq main_part3_ops1, seq main_part3_ops2, HostLoop.enter 1, seq main_part3_ops3, seq main_part4_ops0, seq main_part4_ops1, seq main_part4_ops2, HostLoop.enter 2, seq main_part4_ops3, seq main_part5_ops0, seq main_part5_ops1, seq main_part5_ops2, HostLoop.enter 3, seq main_part5_ops3, seq main_part6_ops0 ] := by
  unfold segs
  simp only [List.map_append, List.map_cons, segsOf_prog]
  rfl

/-- None of them consumes a region's ticket. -/
theorem segs_T : ∀ s ∈ segs m a tk, s.T = ∅ := by
  unfold segs
  intro s hs
  simp only [List.mem_append, List.mem_cons] at hs
  rcases hs with hs | rfl | hs | rfl | hs | rfl | hs | rfl | hs
  all_goals first
    | exact (segsOf_M_T _ _ _ _ _ _ _ _ _ _ _ _ s hs).2
    | exact loopSeg_T _ _ _ _ _ _ _ _ _

end Cert.Proof.ReferenceHost

end
-- ==== Proof.ReferenceRun.lean ====
/-
  The run of the complete reference program: it ends, every argument is as launched, every counter is zero, and each
  buffer holds what the host part leaves.
-/
module

public import proofs.«01_k».proof.Proof.ReferenceHost

@[expose] public section

noncomputable section

namespace Cert.Proof.ReferenceHost

open Cert.ReferenceIdeal Cert.ReferenceIdeal.Line
open Cert.Proof.Lines
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket)

variable {F : FTy → Type} [FloatOps F]

variable (m : (ℓ : Loc nD τ sig) → Buf (Elt F) ℓ) (ρ : Dev nD → PrngReg)

/-- No region, so nothing to admit, -/
def adm : (p : Fin 0) → (pcfgs (F := F) p).Adm := fun p => p.elim0
/-- and no ticket. -/
def tk : Fin 0 → Ticket (Ix := Unit) (Name := ℕ) (U := Option PUnit) (Lvl := ℕ) (nD := nD) (τ := τ) (pcfgs (F := F)) adm :=
  fun j => j.elim0

/-- The program ends, every buffer that outlives it holds what the host part leaves, and every counter is zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = Efin m c (Proc.devRef .tc b)) ∧ r.2.sem = fun _ => 0) :=
  run_to (pcfgs (F := F)) adm (fun k => k.1.elim0) defs₀ loops tk m ρ main (segs m adm tk)
    (fun c => by rw [main_chain_windows, segs_prog])
    (List.Pairwise.imp_of_mem (fun {s} {_} hs _ _ => by rw [segs_T m adm tk s hs]; exact Finset.disjoint_empty_left _)
        (List.pairwise_of_forall (R := fun _ _ => True) fun _ _ => trivial))
    1
    (by
      rw [Finset.univ_eq_empty, BI.bigSep_empty]
      iintro -
      iempintro)
    (Efin m)
    (segs_chains m adm tk)
    (fun g => .inr (by revert g; decide))

end Cert.Proof.ReferenceHost

end
-- ==== Proof.AgreeSteps.lean ====
/-
  The two programs read the same operations before the head: stretch by stretch, if the buffers a stretch reads hold the
  same in both programs before it, the buffers read after it hold the same after it.
-/
module

public import proofs.«01_k».proof.Proof.KernelIdealHost
public import proofs.«01_k».proof.Proof.ReferenceHost
public import Idealize.ShloMosaic.Lib.StableHlo.RunRead

@[expose] public section

set_option maxRecDepth 20000
set_option maxHeartbeats 4000000

noncomputable section

namespace Cert.Proof.Agree

open Cert.Proof.Lines
open Idealize.ShloMosaic Idealize.ShloMosaic.TcCoe
open Idealize.ShloMosaic.StableHlo

variable {F : FTy → Type} [FloatOps F]

/-- Contents of the two programs' buffers on one core. -/
abbrev KV (F : FTy → Type) [FloatOps F] : Type := Valuation Cert.KernelIdeal.τ Cert.KernelIdeal.sig (Elt F)
abbrev RV (F : FTy → Type) [FloatOps F] : Type := Valuation Cert.ReferenceIdeal.τ Cert.ReferenceIdeal.sig (Elt F)

/-- The arguments the host operations read hold the same. -/
structure ArgsEq (X : KV F) (Y : RV F) : Prop where
  arg0 : X Cert.KernelIdeal.main_arg0 = Y Cert.ReferenceIdeal.main_arg0
  arg1 : X Cert.KernelIdeal.main_arg1 = Y Cert.ReferenceIdeal.main_arg1
  arg2 : X Cert.KernelIdeal.main_arg2 = Y Cert.ReferenceIdeal.main_arg2
  arg3 : X Cert.KernelIdeal.main_arg3 = Y Cert.ReferenceIdeal.main_arg3
  arg4 : X Cert.KernelIdeal.main_arg4 = Y Cert.ReferenceIdeal.main_arg4
  arg5 : X Cert.KernelIdeal.main_arg5 = Y Cert.ReferenceIdeal.main_arg5
  arg6 : X Cert.KernelIdeal.main_arg6 = Y Cert.ReferenceIdeal.main_arg6
  arg7 : X Cert.KernelIdeal.main_arg7 = Y Cert.ReferenceIdeal.main_arg7
  arg8 : X Cert.KernelIdeal.main_arg8 = Y Cert.ReferenceIdeal.main_arg8
  arg9 : X Cert.KernelIdeal.main_arg9 = Y Cert.ReferenceIdeal.main_arg9
  arg10 : X Cert.KernelIdeal.main_arg10 = Y Cert.ReferenceIdeal.main_arg10
  arg11 : X Cert.KernelIdeal.main_arg11 = Y Cert.ReferenceIdeal.main_arg11
  arg12 : X Cert.KernelIdeal.main_arg12 = Y Cert.ReferenceIdeal.main_arg12
  arg13 : X Cert.KernelIdeal.main_arg13 = Y Cert.ReferenceIdeal.main_arg13
  arg14 : X Cert.KernelIdeal.main_arg14 = Y Cert.ReferenceIdeal.main_arg14
  arg15 : X Cert.KernelIdeal.main_arg15 = Y Cert.ReferenceIdeal.main_arg15
  arg16 : X Cert.KernelIdeal.main_arg16 = Y Cert.ReferenceIdeal.main_arg16

/-- What `main_part0_ops0` leaves in `main_v34`. -/
theorem at_main_part0_ops0_v34 (X : KV F) (Y : RV F) (ha : ArgsEq X Y) :
    after Cert.KernelIdeal.Gen.main_part0_ops0 X Cert.KernelIdeal.main_v34 = after Cert.ReferenceIdeal.Line.main_part0_ops0 Y Cert.ReferenceIdeal.main_v34 := by
  after_reads_simp
  rw [ha.arg0, ha.arg1] <;> rfl

/-- What `main_part0_ops1` leaves in `main_v35`. -/
theorem at_main_part0_ops1_v35 (X : KV F) (Y : RV F) (h_v34 : X Cert.KernelIdeal.main_v34 = Y Cert.ReferenceIdeal.main_v34) :
    after Cert.KernelIdeal.Gen.main_part0_ops1 X Cert.KernelIdeal.main_v35 = after Cert.ReferenceIdeal.Line.main_part0_ops1 Y Cert.ReferenceIdeal.main_v35 := by
  after_reads_simp
  rw [h_v34] <;> rfl

/-- What `main_part0_ops2` leaves in `main_v37`. -/
theorem at_main_part0_ops2_v37 (X : KV F) (Y : RV F) (h_v35 : X Cert.KernelIdeal.main_v35 = Y Cert.ReferenceIdeal.main_v35) :
    after Cert.KernelIdeal.Gen.main_part0_ops2 X Cert.KernelIdeal.main_v37 = after Cert.ReferenceIdeal.Line.main_part0_ops2 Y Cert.ReferenceIdeal.main_v37 := by
  after_reads_simp
  rw [h_v35] <;> rfl

/-- What `main_part0_ops2` leaves in `main_v46`. -/
theorem at_main_part0_ops2_v46 (X : KV F) (Y : RV F) :
    after Cert.KernelIdeal.Gen.main_part0_ops2 X Cert.KernelIdeal.main_v46 = after Cert.ReferenceIdeal.Line.main_part0_ops2 Y Cert.ReferenceIdeal.main_v46 := by
  after_reads_simp <;> rfl

/-- What `main_part0_ops2` leaves in `main_v48`. -/
theorem at_main_part0_ops2_v48 (X : KV F) (Y : RV F) :
    after Cert.KernelIdeal.Gen.main_part0_ops2 X Cert.KernelIdeal.main_v48 = after Cert.ReferenceIdeal.Line.main_part0_ops2 Y Cert.ReferenceIdeal.main_v48 := by
  after_reads_simp <;> rfl

/-- What `main_part0_ops2` leaves in `main_v50`. -/
theorem at_main_part0_ops2_v50 (X : KV F) (Y : RV F) :
    after Cert.KernelIdeal.Gen.main_part0_ops2 X Cert.KernelIdeal.main_v50 = after Cert.ReferenceIdeal.Line.main_part0_ops2 Y Cert.ReferenceIdeal.main_v50 := by
  after_reads_simp <;> rfl

/-- What `main_part1_ops0` leaves in `main_v82`. -/
theorem at_main_part1_ops0_v82 (X : KV F) (Y : RV F) (ha : ArgsEq X Y) (h_v37 : X Cert.KernelIdeal.main_v37 = Y Cert.ReferenceIdeal.main_v37) (h_v46 : X Cert.KernelIdeal.main_v46 = Y Cert.ReferenceIdeal.main_v46) (h_v48 : X Cert.KernelIdeal.main_v48 = Y Cert.ReferenceIdeal.main_v48) (h_v50 : X Cert.KernelIdeal.main_v50 = Y Cert.ReferenceIdeal.main_v50) :
    after Cert.KernelIdeal.Gen.main_part1_ops0 X Cert.KernelIdeal.main_v82 = after Cert.ReferenceIdeal.Line.main_part1_ops0 Y Cert.ReferenceIdeal.main_v82 := by
  have c36_v78 : upto Cert.KernelIdeal.Gen.main_part1_ops0 X 36 Cert.KernelIdeal.main_v78 = upto Cert.ReferenceIdeal.Line.main_part1_ops0 Y 36 Cert.ReferenceIdeal.main_v78 := by
    after_reads_simp
    rw [h_v37, h_v46, h_v48, h_v50] <;> rfl
  have c36_v80 : upto Cert.KernelIdeal.Gen.main_part1_ops0 X 36 Cert.KernelIdeal.main_v80 = upto Cert.ReferenceIdeal.Line.main_part1_ops0 Y 36 Cert.ReferenceIdeal.main_v80 := by
    after_reads_simp
    rw [ha.arg9] <;> rfl
  after_reads_simp
  rw [ha.arg5, c36_v78, c36_v80] <;> rfl

/-- What `main_part1_ops1` leaves in `main_v83`. -/
theorem at_main_part1_ops1_v83 (X : KV F) (Y : RV F) (h_v82 : X Cert.KernelIdeal.main_v82 = Y Cert.ReferenceIdeal.main_v82) :
    after Cert.KernelIdeal.Gen.main_part1_ops1 X Cert.KernelIdeal.main_v83 = after Cert.ReferenceIdeal.Line.main_part1_ops1 Y Cert.ReferenceIdeal.main_v83 := by
  after_reads_simp
  rw [h_v82] <;> rfl

/-- What `main_part1_ops2` leaves in `main_v89_0`. -/
theorem at_main_part1_ops2_v89_0 (X : KV F) (Y : RV F) (h_v83 : X Cert.KernelIdeal.main_v83 = Y Cert.ReferenceIdeal.main_v83) :
    after Cert.KernelIdeal.Gen.main_part1_ops2 X Cert.KernelIdeal.main_v89_0 = after Cert.ReferenceIdeal.Line.main_part1_ops2 Y Cert.ReferenceIdeal.main_v89_0 := by
  after_reads_simp
  rw [h_v83] <;> rfl

/-- What `main_part1_ops2` leaves in `main_v89_1`. -/
theorem at_main_part1_ops2_v89_1 (X : KV F) (Y : RV F) (ha : ArgsEq X Y) :
    after Cert.KernelIdeal.Gen.main_part1_ops2 X Cert.KernelIdeal.main_v89_1 = after Cert.ReferenceIdeal.Line.main_part1_ops2 Y Cert.ReferenceIdeal.main_v89_1 := by
  after_reads_simp
  rw [ha.arg6] <;> rfl

/-- What `main_part1_ops2` leaves in `main_v89_2`. -/
theorem at_main_part1_ops2_v89_2 (X : KV F) (Y : RV F) :
    after Cert.KernelIdeal.Gen.main_part1_ops2 X Cert.KernelIdeal.main_v89_2 = after Cert.ReferenceIdeal.Line.main_part1_ops2 Y Cert.ReferenceIdeal.main_v89_2 := by
  after_reads_simp <;> rfl

/-- What `main_part1_ops2` leaves in `main_v89_3`. -/
theorem at_main_part1_ops2_v89_3 (X : KV F) (Y : RV F) (h_v83 : X Cert.KernelIdeal.main_v83 = Y Cert.ReferenceIdeal.main_v83) :
    after Cert.KernelIdeal.Gen.main_part1_ops2 X Cert.KernelIdeal.main_v89_3 = after Cert.ReferenceIdeal.Line.main_part1_ops2 Y Cert.ReferenceIdeal.main_v89_3 := by
  after_reads_simp
  rw [h_v83] <;> rfl

/-- What `main_part1_ops3` leaves in `main_c_16`. -/
theorem at_main_part1_ops3_c_16 (X : KV F) (Y : RV F) :
    after Cert.KernelIdeal.Gen.main_part1_ops3 X Cert.KernelIdeal.main_c_16 = after Cert.ReferenceIdeal.Line.main_part1_ops3 Y Cert.ReferenceIdeal.main_c_16 := by
  after_reads_simp <;> rfl

/-- What `main_part1_ops3` leaves in `main_v91`. -/
theorem at_main_part1_ops3_v91 (X : KV F) (Y : RV F) :
    after Cert.KernelIdeal.Gen.main_part1_ops3 X Cert.KernelIdeal.main_v91 = after Cert.ReferenceIdeal.Line.main_part1_ops3 Y Cert.ReferenceIdeal.main_v91 := by
  after_reads_simp <;> rfl

/-- What `main_part1_ops3` leaves in `main_v96`. -/
theorem at_main_part1_ops3_v96 (X : KV F) (Y : RV F) (h_v89_3 : X Cert.KernelIdeal.main_v89_3 = Y Cert.ReferenceIdeal.main_v89_3) :
    after Cert.KernelIdeal.Gen.main_part1_ops3 X Cert.KernelIdeal.main_v96 = after Cert.ReferenceIdeal.Line.main_part1_ops3 Y Cert.ReferenceIdeal.main_v96 := by
  after_reads_simp
  rw [h_v89_3] <;> rfl

/-- What `main_part2_ops0` leaves in `main_v141`. -/
theorem at_main_part2_ops0_v141 (X : KV F) (Y : RV F) (ha : ArgsEq X Y) (h_c_16 : X Cert.KernelIdeal.main_c_16 = Y Cert.ReferenceIdeal.main_c_16) (h_v91 : X Cert.KernelIdeal.main_v91 = Y Cert.ReferenceIdeal.main_v91) (h_v96 : X Cert.KernelIdeal.main_v96 = Y Cert.ReferenceIdeal.main_v96) :
    after Cert.KernelIdeal.Gen.main_part2_ops0 X Cert.KernelIdeal.main_v141 = after Cert.ReferenceIdeal.Line.main_part2_ops0 Y Cert.ReferenceIdeal.main_v141 := by
  have c10_v103 : upto Cert.KernelIdeal.Gen.main_part2_ops0 X 10 Cert.KernelIdeal.main_v103 = upto Cert.ReferenceIdeal.Line.main_part2_ops0 Y 10 Cert.ReferenceIdeal.main_v103 := by
    after_reads_simp
    rw [h_v96] <;> rfl
  have c10_v105 : upto Cert.KernelIdeal.Gen.main_part2_ops0 X 10 Cert.KernelIdeal.main_v105 = upto Cert.ReferenceIdeal.Line.main_part2_ops0 Y 10 Cert.ReferenceIdeal.main_v105 := by
    after_reads_simp
    rw [h_c_16, h_v91] <;> rfl
  after_reads_simp
  rw [ha.arg8, ha.arg13, c10_v103, c10_v105] <;> rfl

/-- What `main_part2_ops0` leaves in `main_v143`. -/
theorem at_main_part2_ops0_v143 (X : KV F) (Y : RV F) (ha : ArgsEq X Y) :
    after Cert.KernelIdeal.Gen.main_part2_ops0 X Cert.KernelIdeal.main_v143 = after Cert.ReferenceIdeal.Line.main_part2_ops0 Y Cert.ReferenceIdeal.main_v143 := by
  after_reads_simp
  rw [ha.arg10] <;> rfl

/-- What `main_part2_ops0` leaves in `main_v145`. -/
theorem at_main_part2_ops0_v145 (X : KV F) (Y : RV F) (ha : ArgsEq X Y) (h_c_16 : X Cert.KernelIdeal.main_c_16 = Y Cert.ReferenceIdeal.main_c_16) (h_v91 : X Cert.KernelIdeal.main_v91 = Y Cert.ReferenceIdeal.main_v91) (h_v96 : X Cert.KernelIdeal.main_v96 = Y Cert.ReferenceIdeal.main_v96) :
    after Cert.KernelIdeal.Gen.main_part2_ops0 X Cert.KernelIdeal.main_v145 = after Cert.ReferenceIdeal.Line.main_part2_ops0 Y Cert.ReferenceIdeal.main_v145 := by
  have c10_v103 : upto Cert.KernelIdeal.Gen.main_part2_ops0 X 10 Cert.KernelIdeal.main_v103 = upto Cert.ReferenceIdeal.Line.main_part2_ops0 Y 10 Cert.ReferenceIdeal.main_v103 := by
    after_reads_simp
    rw [h_v96] <;> rfl
  have c10_v105 : upto Cert.KernelIdeal.Gen.main_part2_ops0 X 10 Cert.KernelIdeal.main_v105 = upto Cert.ReferenceIdeal.Line.main_part2_ops0 Y 10 Cert.ReferenceIdeal.main_v105 := by
    after_reads_simp
    rw [h_c_16, h_v91] <;> rfl
  after_reads_simp
  rw [ha.arg8, ha.arg13, c10_v103, c10_v105] <;> rfl

/-- What `main_part2_ops0` leaves in `main_v146`. -/
theorem at_main_part2_ops0_v146 (X : KV F) (Y : RV F) :
    after Cert.KernelIdeal.Gen.main_part2_ops0 X Cert.KernelIdeal.main_v146 = after Cert.ReferenceIdeal.Line.main_part2_ops0 Y Cert.ReferenceIdeal.main_v146 := by
  after_reads_simp <;> rfl

/-- What `main_part3_ops0` leaves in `main_v160`. -/
theorem at_main_part3_ops0_v160 (X : KV F) (Y : RV F) (ha : ArgsEq X Y) (h_v141 : X Cert.KernelIdeal.main_v141 = Y Cert.ReferenceIdeal.main_v141) (h_v143 : X Cert.KernelIdeal.main_v143 = Y Cert.ReferenceIdeal.main_v143) (h_v145 : X Cert.KernelIdeal.main_v145 = Y Cert.ReferenceIdeal.main_v145) (h_v146 : X Cert.KernelIdeal.main_v146 = Y Cert.ReferenceIdeal.main_v146) :
    after Cert.KernelIdeal.Gen.main_part3_ops0 X Cert.KernelIdeal.main_v160 = after Cert.ReferenceIdeal.Line.main_part3_ops0 Y Cert.ReferenceIdeal.main_v160 := by
  have c14_v156 : upto Cert.KernelIdeal.Gen.main_part3_ops0 X 14 Cert.KernelIdeal.main_v156 = upto Cert.ReferenceIdeal.Line.main_part3_ops0 Y 14 Cert.ReferenceIdeal.main_v156 := by
    after_reads_simp
    rw [h_v141, h_v145, h_v146] <;> rfl
  have c14_v158 : upto Cert.KernelIdeal.Gen.main_part3_ops0 X 14 Cert.KernelIdeal.main_v158 = upto Cert.ReferenceIdeal.Line.main_part3_ops0 Y 14 Cert.ReferenceIdeal.main_v158 := by
    after_reads_simp
    rw [h_v143] <;> rfl
  after_reads_simp
  rw [ha.arg5, c14_v156, c14_v158] <;> rfl

/-- What `main_part3_ops1` leaves in `main_v161`. -/
theorem at_main_part3_ops1_v161 (X : KV F) (Y : RV F) (h_v160 : X Cert.KernelIdeal.main_v160 = Y Cert.ReferenceIdeal.main_v160) :
    after Cert.KernelIdeal.Gen.main_part3_ops1 X Cert.KernelIdeal.main_v161 = after Cert.ReferenceIdeal.Line.main_part3_ops1 Y Cert.ReferenceIdeal.main_v161 := by
  after_reads_simp
  rw [h_v160] <;> rfl

/-- What `main_part3_ops2` leaves in `main_v167_0`. -/
theorem at_main_part3_ops2_v167_0 (X : KV F) (Y : RV F) (h_v161 : X Cert.KernelIdeal.main_v161 = Y Cert.ReferenceIdeal.main_v161) :
    after Cert.KernelIdeal.Gen.main_part3_ops2 X Cert.KernelIdeal.main_v167_0 = after Cert.ReferenceIdeal.Line.main_part3_ops2 Y Cert.ReferenceIdeal.main_v167_0 := by
  after_reads_simp
  rw [h_v161] <;> rfl

/-- What `main_part3_ops2` leaves in `main_v167_1`. -/
theorem at_main_part3_ops2_v167_1 (X : KV F) (Y : RV F) (ha : ArgsEq X Y) :
    after Cert.KernelIdeal.Gen.main_part3_ops2 X Cert.KernelIdeal.main_v167_1 = after Cert.ReferenceIdeal.Line.main_part3_ops2 Y Cert.ReferenceIdeal.main_v167_1 := by
  after_reads_simp
  rw [ha.arg6] <;> rfl

/-- What `main_part3_ops2` leaves in `main_v167_2`. -/
theorem at_main_part3_ops2_v167_2 (X : KV F) (Y : RV F) :
    after Cert.KernelIdeal.Gen.main_part3_ops2 X Cert.KernelIdeal.main_v167_2 = after Cert.ReferenceIdeal.Line.main_part3_ops2 Y Cert.ReferenceIdeal.main_v167_2 := by
  after_reads_simp <;> rfl

/-- What `main_part3_ops2` leaves in `main_v167_3`. -/
theorem at_main_part3_ops2_v167_3 (X : KV F) (Y : RV F) (h_v161 : X Cert.KernelIdeal.main_v161 = Y Cert.ReferenceIdeal.main_v161) :
    after Cert.KernelIdeal.Gen.main_part3_ops2 X Cert.KernelIdeal.main_v167_3 = after Cert.ReferenceIdeal.Line.main_part3_ops2 Y Cert.ReferenceIdeal.main_v167_3 := by
  after_reads_simp
  rw [h_v161] <;> rfl

/-- What `main_part3_ops3` leaves in `main_v193`. -/
theorem at_main_part3_ops3_v193 (X : KV F) (Y : RV F) (ha : ArgsEq X Y) (h_v167_3 : X Cert.KernelIdeal.main_v167_3 = Y Cert.ReferenceIdeal.main_v167_3) :
    after Cert.KernelIdeal.Gen.main_part3_ops3 X Cert.KernelIdeal.main_v193 = after Cert.ReferenceIdeal.Line.main_part3_ops3 Y Cert.ReferenceIdeal.main_v193 := by
  have c20_v181 : upto Cert.KernelIdeal.Gen.main_part3_ops3 X 20 Cert.KernelIdeal.main_v181 = upto Cert.ReferenceIdeal.Line.main_part3_ops3 Y 20 Cert.ReferenceIdeal.main_v181 := by
    after_reads_simp
    rw [h_v167_3] <;> rfl
  have c20_v183 : upto Cert.KernelIdeal.Gen.main_part3_ops3 X 20 Cert.KernelIdeal.main_v183 = upto Cert.ReferenceIdeal.Line.main_part3_ops3 Y 20 Cert.ReferenceIdeal.main_v183 := by
    after_reads_simp <;> rfl
  after_reads_simp
  rw [ha.arg8, ha.arg14, c20_v181, c20_v183] <;> rfl

/-- What `main_part4_ops0` leaves in `main_v212`. -/
theorem at_main_part4_ops0_v212 (X : KV F) (Y : RV F) (ha : ArgsEq X Y) (h_v193 : X Cert.KernelIdeal.main_v193 = Y Cert.ReferenceIdeal.main_v193) :
    after Cert.KernelIdeal.Gen.main_part4_ops0 X Cert.KernelIdeal.main_v212 = after Cert.ReferenceIdeal.Line.main_part4_ops0 Y Cert.ReferenceIdeal.main_v212 := by
  have c21_v208 : upto Cert.KernelIdeal.Gen.main_part4_ops0 X 21 Cert.KernelIdeal.main_v208 = upto Cert.ReferenceIdeal.Line.main_part4_ops0 Y 21 Cert.ReferenceIdeal.main_v208 := by
    after_reads_simp
    rw [h_v193] <;> rfl
  have c21_v210 : upto Cert.KernelIdeal.Gen.main_part4_ops0 X 21 Cert.KernelIdeal.main_v210 = upto Cert.ReferenceIdeal.Line.main_part4_ops0 Y 21 Cert.ReferenceIdeal.main_v210 := by
    after_reads_simp
    rw [ha.arg11] <;> rfl
  after_reads_simp
  rw [ha.arg7, c21_v208, c21_v210] <;> rfl

/-- What `main_part4_ops1` leaves in `main_v213`. -/
theorem at_main_part4_ops1_v213 (X : KV F) (Y : RV F) (h_v212 : X Cert.KernelIdeal.main_v212 = Y Cert.ReferenceIdeal.main_v212) :
    after Cert.KernelIdeal.Gen.main_part4_ops1 X Cert.KernelIdeal.main_v213 = after Cert.ReferenceIdeal.Line.main_part4_ops1 Y Cert.ReferenceIdeal.main_v213 := by
  after_reads_simp
  rw [h_v212] <;> rfl

/-- What `main_part4_ops2` leaves in `main_v219_0`. -/
theorem at_main_part4_ops2_v219_0 (X : KV F) (Y : RV F) (h_v213 : X Cert.KernelIdeal.main_v213 = Y Cert.ReferenceIdeal.main_v213) :
    after Cert.KernelIdeal.Gen.main_part4_ops2 X Cert.KernelIdeal.main_v219_0 = after Cert.ReferenceIdeal.Line.main_part4_ops2 Y Cert.ReferenceIdeal.main_v219_0 := by
  after_reads_simp
  rw [h_v213] <;> rfl

/-- What `main_part4_ops2` leaves in `main_v219_1`. -/
theorem at_main_part4_ops2_v219_1 (X : KV F) (Y : RV F) (ha : ArgsEq X Y) :
    after Cert.KernelIdeal.Gen.main_part4_ops2 X Cert.KernelIdeal.main_v219_1 = after Cert.ReferenceIdeal.Line.main_part4_ops2 Y Cert.ReferenceIdeal.main_v219_1 := by
  after_reads_simp
  rw [ha.arg6] <;> rfl

/-- What `main_part4_ops2` leaves in `main_v219_2`. -/
theorem at_main_part4_ops2_v219_2 (X : KV F) (Y : RV F) :
    after Cert.KernelIdeal.Gen.main_part4_ops2 X Cert.KernelIdeal.main_v219_2 = after Cert.ReferenceIdeal.Line.main_part4_ops2 Y Cert.ReferenceIdeal.main_v219_2 := by
  after_reads_simp <;> rfl

/-- What `main_part4_ops2` leaves in `main_v219_3`. -/
theorem at_main_part4_ops2_v219_3 (X : KV F) (Y : RV F) (h_v213 : X Cert.KernelIdeal.main_v213 = Y Cert.ReferenceIdeal.main_v213) :
    after Cert.KernelIdeal.Gen.main_part4_ops2 X Cert.KernelIdeal.main_v219_3 = after Cert.ReferenceIdeal.Line.main_part4_ops2 Y Cert.ReferenceIdeal.main_v219_3 := by
  after_reads_simp
  rw [h_v213] <;> rfl

/-- What `main_part4_ops3` leaves in `main_v235`. -/
theorem at_main_part4_ops3_v235 (X : KV F) (Y : RV F) (ha : ArgsEq X Y) (h_v219_3 : X Cert.KernelIdeal.main_v219_3 = Y Cert.ReferenceIdeal.main_v219_3) :
    after Cert.KernelIdeal.Gen.main_part4_ops3 X Cert.KernelIdeal.main_v235 = after Cert.ReferenceIdeal.Line.main_part4_ops3 Y Cert.ReferenceIdeal.main_v235 := by
  have c18_v231 : upto Cert.KernelIdeal.Gen.main_part4_ops3 X 18 Cert.KernelIdeal.main_v231 = upto Cert.ReferenceIdeal.Line.main_part4_ops3 Y 18 Cert.ReferenceIdeal.main_v231 := by
    after_reads_simp
    rw [h_v219_3] <;> rfl
  have c18_v233 : upto Cert.KernelIdeal.Gen.main_part4_ops3 X 18 Cert.KernelIdeal.main_v233 = upto Cert.ReferenceIdeal.Line.main_part4_ops3 Y 18 Cert.ReferenceIdeal.main_v233 := by
    after_reads_simp <;> rfl
  after_reads_simp
  rw [ha.arg15, c18_v231, c18_v233] <;> rfl

/-- What `main_part4_ops3` leaves in `main_v237`. -/
theorem at_main_part4_ops3_v237 (X : KV F) (Y : RV F) (ha : ArgsEq X Y) (h_v219_3 : X Cert.KernelIdeal.main_v219_3 = Y Cert.ReferenceIdeal.main_v219_3) :
    after Cert.KernelIdeal.Gen.main_part4_ops3 X Cert.KernelIdeal.main_v237 = after Cert.ReferenceIdeal.Line.main_part4_ops3 Y Cert.ReferenceIdeal.main_v237 := by
  have c18_v231 : upto Cert.KernelIdeal.Gen.main_part4_ops3 X 18 Cert.KernelIdeal.main_v231 = upto Cert.ReferenceIdeal.Line.main_part4_ops3 Y 18 Cert.ReferenceIdeal.main_v231 := by
    after_reads_simp
    rw [h_v219_3] <;> rfl
  have c18_v233 : upto Cert.KernelIdeal.Gen.main_part4_ops3 X 18 Cert.KernelIdeal.main_v233 = upto Cert.ReferenceIdeal.Line.main_part4_ops3 Y 18 Cert.ReferenceIdeal.main_v233 := by
    after_reads_simp <;> rfl
  after_reads_simp
  rw [ha.arg15, c18_v231, c18_v233] <;> rfl

/-- What `main_part4_ops3` leaves in `main_v238`. -/
theorem at_main_part4_ops3_v238 (X : KV F) (Y : RV F) :
    after Cert.KernelIdeal.Gen.main_part4_ops3 X Cert.KernelIdeal.main_v238 = after Cert.ReferenceIdeal.Line.main_part4_ops3 Y Cert.ReferenceIdeal.main_v238 := by
  after_reads_simp <;> rfl

/-- What `main_part5_ops0` leaves in `main_v259`. -/
theorem at_main_part5_ops0_v259 (X : KV F) (Y : RV F) (ha : ArgsEq X Y) (h_v235 : X Cert.KernelIdeal.main_v235 = Y Cert.ReferenceIdeal.main_v235) (h_v237 : X Cert.KernelIdeal.main_v237 = Y Cert.ReferenceIdeal.main_v237) (h_v238 : X Cert.KernelIdeal.main_v238 = Y Cert.ReferenceIdeal.main_v238) :
    after Cert.KernelIdeal.Gen.main_part5_ops0 X Cert.KernelIdeal.main_v259 = after Cert.ReferenceIdeal.Line.main_part5_ops0 Y Cert.ReferenceIdeal.main_v259 := by
  have c23_v255 : upto Cert.KernelIdeal.Gen.main_part5_ops0 X 23 Cert.KernelIdeal.main_v255 = upto Cert.ReferenceIdeal.Line.main_part5_ops0 Y 23 Cert.ReferenceIdeal.main_v255 := by
    after_reads_simp
    rw [ha.arg8, h_v235, h_v237, h_v238] <;> rfl
  have c23_v257 : upto Cert.KernelIdeal.Gen.main_part5_ops0 X 23 Cert.KernelIdeal.main_v257 = upto Cert.ReferenceIdeal.Line.main_part5_ops0 Y 23 Cert.ReferenceIdeal.main_v257 := by
    after_reads_simp
    rw [ha.arg12] <;> rfl
  after_reads_simp
  rw [ha.arg7, c23_v255, c23_v257] <;> rfl

/-- What `main_part5_ops1` leaves in `main_v260`. -/
theorem at_main_part5_ops1_v260 (X : KV F) (Y : RV F) (h_v259 : X Cert.KernelIdeal.main_v259 = Y Cert.ReferenceIdeal.main_v259) :
    after Cert.KernelIdeal.Gen.main_part5_ops1 X Cert.KernelIdeal.main_v260 = after Cert.ReferenceIdeal.Line.main_part5_ops1 Y Cert.ReferenceIdeal.main_v260 := by
  after_reads_simp
  rw [h_v259] <;> rfl

/-- What `main_part5_ops2` leaves in `main_v266_0`. -/
theorem at_main_part5_ops2_v266_0 (X : KV F) (Y : RV F) (h_v260 : X Cert.KernelIdeal.main_v260 = Y Cert.ReferenceIdeal.main_v260) :
    after Cert.KernelIdeal.Gen.main_part5_ops2 X Cert.KernelIdeal.main_v266_0 = after Cert.ReferenceIdeal.Line.main_part5_ops2 Y Cert.ReferenceIdeal.main_v266_0 := by
  after_reads_simp
  rw [h_v260] <;> rfl

/-- What `main_part5_ops2` leaves in `main_v266_1`. -/
theorem at_main_part5_ops2_v266_1 (X : KV F) (Y : RV F) (ha : ArgsEq X Y) :
    after Cert.KernelIdeal.Gen.main_part5_ops2 X Cert.KernelIdeal.main_v266_1 = after Cert.ReferenceIdeal.Line.main_part5_ops2 Y Cert.ReferenceIdeal.main_v266_1 := by
  after_reads_simp
  rw [ha.arg6] <;> rfl

/-- What `main_part5_ops2` leaves in `main_v266_2`. -/
theorem at_main_part5_ops2_v266_2 (X : KV F) (Y : RV F) :
    after Cert.KernelIdeal.Gen.main_part5_ops2 X Cert.KernelIdeal.main_v266_2 = after Cert.ReferenceIdeal.Line.main_part5_ops2 Y Cert.ReferenceIdeal.main_v266_2 := by
  after_reads_simp <;> rfl

/-- What `main_part5_ops2` leaves in `main_v266_3`. -/
theorem at_main_part5_ops2_v266_3 (X : KV F) (Y : RV F) (h_v260 : X Cert.KernelIdeal.main_v260 = Y Cert.ReferenceIdeal.main_v260) :
    after Cert.KernelIdeal.Gen.main_part5_ops2 X Cert.KernelIdeal.main_v266_3 = after Cert.ReferenceIdeal.Line.main_part5_ops2 Y Cert.ReferenceIdeal.main_v266_3 := by
  after_reads_simp
  rw [h_v260] <;> rfl

/-- What `main_part5_ops3` leaves in `main_v282`. -/
theorem at_main_part5_ops3_v282 (X : KV F) (Y : RV F) (ha : ArgsEq X Y) (h_v266_3 : X Cert.KernelIdeal.main_v266_3 = Y Cert.ReferenceIdeal.main_v266_3) :
    after Cert.KernelIdeal.Gen.main_part5_ops3 X Cert.KernelIdeal.main_v282 = after Cert.ReferenceIdeal.Line.main_part5_ops3 Y Cert.ReferenceIdeal.main_v282 := by
  have c18_v278 : upto Cert.KernelIdeal.Gen.main_part5_ops3 X 18 Cert.KernelIdeal.main_v278 = upto Cert.ReferenceIdeal.Line.main_part5_ops3 Y 18 Cert.ReferenceIdeal.main_v278 := by
    after_reads_simp
    rw [h_v266_3] <;> rfl
  have c18_v280 : upto Cert.KernelIdeal.Gen.main_part5_ops3 X 18 Cert.KernelIdeal.main_v280 = upto Cert.ReferenceIdeal.Line.main_part5_ops3 Y 18 Cert.ReferenceIdeal.main_v280 := by
    after_reads_simp <;> rfl
  after_reads_simp
  rw [ha.arg16, c18_v278, c18_v280] <;> rfl

/-- What `main_part5_ops3` leaves in `main_v284`. -/
theorem at_main_part5_ops3_v284 (X : KV F) (Y : RV F) (ha : ArgsEq X Y) (h_v266_3 : X Cert.KernelIdeal.main_v266_3 = Y Cert.ReferenceIdeal.main_v266_3) :
    after Cert.KernelIdeal.Gen.main_part5_ops3 X Cert.KernelIdeal.main_v284 = after Cert.ReferenceIdeal.Line.main_part5_ops3 Y Cert.ReferenceIdeal.main_v284 := by
  have c18_v278 : upto Cert.KernelIdeal.Gen.main_part5_ops3 X 18 Cert.KernelIdeal.main_v278 = upto Cert.ReferenceIdeal.Line.main_part5_ops3 Y 18 Cert.ReferenceIdeal.main_v278 := by
    after_reads_simp
    rw [h_v266_3] <;> rfl
  have c18_v280 : upto Cert.KernelIdeal.Gen.main_part5_ops3 X 18 Cert.KernelIdeal.main_v280 = upto Cert.ReferenceIdeal.Line.main_part5_ops3 Y 18 Cert.ReferenceIdeal.main_v280 := by
    after_reads_simp <;> rfl
  after_reads_simp
  rw [ha.arg16, c18_v278, c18_v280] <;> rfl

/-- What `while0Ops0` leaves in `main_v89_0`. -/
theorem at_while0Ops0_v89_0 (X : KV F) (Y : RV F) (h_v89_0 : X Cert.KernelIdeal.main_v89_0 = Y Cert.ReferenceIdeal.main_v89_0) :
    after Cert.KernelIdeal.Gen.while0Ops0 X Cert.KernelIdeal.main_v89_0 = after Cert.ReferenceIdeal.Line.while0Ops0 Y Cert.ReferenceIdeal.main_v89_0 := by
  after_reads_simp [unaryIndexed_result_read, indexContents_tref_cons, indexContents_tref_empty]
  rw [h_v89_0] <;> rfl

/-- What `while0Ops0` leaves in `main_v89_1`. -/
theorem at_while0Ops0_v89_1 (X : KV F) (Y : RV F) (h_v89_1 : X Cert.KernelIdeal.main_v89_1 = Y Cert.ReferenceIdeal.main_v89_1) :
    after Cert.KernelIdeal.Gen.while0Ops0 X Cert.KernelIdeal.main_v89_1 = after Cert.ReferenceIdeal.Line.while0Ops0 Y Cert.ReferenceIdeal.main_v89_1 := by
  after_reads_simp [unaryIndexed_result_read, indexContents_tref_cons, indexContents_tref_empty]
  rw [h_v89_1] <;> rfl

/-- What `while0Ops0` leaves in `main_v89_2`. -/
theorem at_while0Ops0_v89_2 (X : KV F) (Y : RV F) (h_v89_2 : X Cert.KernelIdeal.main_v89_2 = Y Cert.ReferenceIdeal.main_v89_2) :
    after Cert.KernelIdeal.Gen.while0Ops0 X Cert.KernelIdeal.main_v89_2 = after Cert.ReferenceIdeal.Line.while0Ops0 Y Cert.ReferenceIdeal.main_v89_2 := by
  after_reads_simp [unaryIndexed_result_read, indexContents_tref_cons, indexContents_tref_empty]
  rw [h_v89_2] <;> rfl

/-- What `while0Ops0` leaves in `main_v89_3`. -/
theorem at_while0Ops0_v89_3 (X : KV F) (Y : RV F) (h_v89_3 : X Cert.KernelIdeal.main_v89_3 = Y Cert.ReferenceIdeal.main_v89_3) :
    after Cert.KernelIdeal.Gen.while0Ops0 X Cert.KernelIdeal.main_v89_3 = after Cert.ReferenceIdeal.Line.while0Ops0 Y Cert.ReferenceIdeal.main_v89_3 := by
  after_reads_simp [unaryIndexed_result_read, indexContents_tref_cons, indexContents_tref_empty]
  rw [h_v89_3] <;> rfl

/-- What `while0Ops0` leaves in `main_while0b_v299`. -/
theorem at_while0Ops0_while0b_v299 (X : KV F) (Y : RV F) (h_v89_0 : X Cert.KernelIdeal.main_v89_0 = Y Cert.ReferenceIdeal.main_v89_0) (h_v89_2 : X Cert.KernelIdeal.main_v89_2 = Y Cert.ReferenceIdeal.main_v89_2) :
    after Cert.KernelIdeal.Gen.while0Ops0 X Cert.KernelIdeal.main_while0b_v299 = after Cert.ReferenceIdeal.Line.while0Ops0 Y Cert.ReferenceIdeal.main_while0b_v313 := by
  after_reads_simp [unaryIndexed_result_read, indexContents_tref_cons, indexContents_tref_empty]
  rw [h_v89_0, h_v89_2] <;> rfl

/-- What `while0Ops0_1` leaves in `main_v89_0`. -/
theorem at_while0Ops0_1_v89_0 (X : KV F) (Y : RV F) (h_v89_0 : X Cert.KernelIdeal.main_v89_0 = Y Cert.ReferenceIdeal.main_v89_0) :
    after Cert.KernelIdeal.Gen.while0Ops0_1 X Cert.KernelIdeal.main_v89_0 = after Cert.ReferenceIdeal.Line.while0Ops0_1 Y Cert.ReferenceIdeal.main_v89_0 := by
  after_reads_simp
  rw [h_v89_0] <;> rfl

/-- What `while0Ops0_1` leaves in `main_v89_1`. -/
theorem at_while0Ops0_1_v89_1 (X : KV F) (Y : RV F) (h_v89_1 : X Cert.KernelIdeal.main_v89_1 = Y Cert.ReferenceIdeal.main_v89_1) :
    after Cert.KernelIdeal.Gen.while0Ops0_1 X Cert.KernelIdeal.main_v89_1 = after Cert.ReferenceIdeal.Line.while0Ops0_1 Y Cert.ReferenceIdeal.main_v89_1 := by
  after_reads_simp
  rw [h_v89_1] <;> rfl

/-- What `while0Ops0_1` leaves in `main_v89_2`. -/
theorem at_while0Ops0_1_v89_2 (X : KV F) (Y : RV F) (h_v89_2 : X Cert.KernelIdeal.main_v89_2 = Y Cert.ReferenceIdeal.main_v89_2) :
    after Cert.KernelIdeal.Gen.while0Ops0_1 X Cert.KernelIdeal.main_v89_2 = after Cert.ReferenceIdeal.Line.while0Ops0_1 Y Cert.ReferenceIdeal.main_v89_2 := by
  after_reads_simp
  rw [h_v89_2] <;> rfl

/-- What `while0Ops0_1` leaves in `main_v89_3`. -/
theorem at_while0Ops0_1_v89_3 (X : KV F) (Y : RV F) (h_v89_1 : X Cert.KernelIdeal.main_v89_1 = Y Cert.ReferenceIdeal.main_v89_1) (h_v89_3 : X Cert.KernelIdeal.main_v89_3 = Y Cert.ReferenceIdeal.main_v89_3) (h_while0b_v299 : X Cert.KernelIdeal.main_while0b_v299 = Y Cert.ReferenceIdeal.main_while0b_v313) :
    after Cert.KernelIdeal.Gen.while0Ops0_1 X Cert.KernelIdeal.main_v89_3 = after Cert.ReferenceIdeal.Line.while0Ops0_1 Y Cert.ReferenceIdeal.main_v89_3 := by
  have c16_v310 : upto Cert.KernelIdeal.Gen.while0Ops0_1 X 16 Cert.KernelIdeal.main_while0b_v310 = upto Cert.ReferenceIdeal.Line.while0Ops0_1 Y 16 Cert.ReferenceIdeal.main_while0b_v324 := by
    after_reads_simp
    rw [h_while0b_v299] <;> rfl
  have c16_v311 : upto Cert.KernelIdeal.Gen.while0Ops0_1 X 16 Cert.KernelIdeal.main_while0b_v311 = upto Cert.ReferenceIdeal.Line.while0Ops0_1 Y 16 Cert.ReferenceIdeal.main_while0b_v325 := by
    after_reads_simp
    rw [h_v89_3] <;> rfl
  after_reads_simp
  rw [h_v89_1, c16_v310, c16_v311] <;> rfl

/-- What `while1Ops0` leaves in `main_v167_0`. -/
theorem at_while1Ops0_v167_0 (X : KV F) (Y : RV F) (h_v167_0 : X Cert.KernelIdeal.main_v167_0 = Y Cert.ReferenceIdeal.main_v167_0) :
    after Cert.KernelIdeal.Gen.while1Ops0 X Cert.KernelIdeal.main_v167_0 = after Cert.ReferenceIdeal.Line.while1Ops0 Y Cert.ReferenceIdeal.main_v167_0 := by
  after_reads_simp [unaryIndexed_result_read, indexContents_tref_cons, indexContents_tref_empty]
  rw [h_v167_0] <;> rfl

/-- What `while1Ops0` leaves in `main_v167_1`. -/
theorem at_while1Ops0_v167_1 (X : KV F) (Y : RV F) (h_v167_1 : X Cert.KernelIdeal.main_v167_1 = Y Cert.ReferenceIdeal.main_v167_1) :
    after Cert.KernelIdeal.Gen.while1Ops0 X Cert.KernelIdeal.main_v167_1 = after Cert.ReferenceIdeal.Line.while1Ops0 Y Cert.ReferenceIdeal.main_v167_1 := by
  after_reads_simp [unaryIndexed_result_read, indexContents_tref_cons, indexContents_tref_empty]
  rw [h_v167_1] <;> rfl

/-- What `while1Ops0` leaves in `main_v167_2`. -/
theorem at_while1Ops0_v167_2 (X : KV F) (Y : RV F) (h_v167_2 : X Cert.KernelIdeal.main_v167_2 = Y Cert.ReferenceIdeal.main_v167_2) :
    after Cert.KernelIdeal.Gen.while1Ops0 X Cert.KernelIdeal.main_v167_2 = after Cert.ReferenceIdeal.Line.while1Ops0 Y Cert.ReferenceIdeal.main_v167_2 := by
  after_reads_simp [unaryIndexed_result_read, indexContents_tref_cons, indexContents_tref_empty]
  rw [h_v167_2] <;> rfl

/-- What `while1Ops0` leaves in `main_v167_3`. -/
theorem at_while1Ops0_v167_3 (X : KV F) (Y : RV F) (h_v167_3 : X Cert.KernelIdeal.main_v167_3 = Y Cert.ReferenceIdeal.main_v167_3) :
    after Cert.KernelIdeal.Gen.while1Ops0 X Cert.KernelIdeal.main_v167_3 = after Cert.ReferenceIdeal.Line.while1Ops0 Y Cert.ReferenceIdeal.main_v167_3 := by
  after_reads_simp [unaryIndexed_result_read, indexContents_tref_cons, indexContents_tref_empty]
  rw [h_v167_3] <;> rfl

/-- What `while1Ops0` leaves in `main_while1b_v299`. -/
theorem at_while1Ops0_while1b_v299 (X : KV F) (Y : RV F) (h_v167_0 : X Cert.KernelIdeal.main_v167_0 = Y Cert.ReferenceIdeal.main_v167_0) (h_v167_2 : X Cert.KernelIdeal.main_v167_2 = Y Cert.ReferenceIdeal.main_v167_2) :
    after Cert.KernelIdeal.Gen.while1Ops0 X Cert.KernelIdeal.main_while1b_v299 = after Cert.ReferenceIdeal.Line.while1Ops0 Y Cert.ReferenceIdeal.main_while1b_v313 := by
  after_reads_simp [unaryIndexed_result_read, indexContents_tref_cons, indexContents_tref_empty]
  rw [h_v167_0, h_v167_2] <;> rfl

/-- What `while1Ops0_1` leaves in `main_v167_0`. -/
theorem at_while1Ops0_1_v167_0 (X : KV F) (Y : RV F) (h_v167_0 : X Cert.KernelIdeal.main_v167_0 = Y Cert.ReferenceIdeal.main_v167_0) :
    after Cert.KernelIdeal.Gen.while1Ops0_1 X Cert.KernelIdeal.main_v167_0 = after Cert.ReferenceIdeal.Line.while1Ops0_1 Y Cert.ReferenceIdeal.main_v167_0 := by
  after_reads_simp
  rw [h_v167_0] <;> rfl

/-- What `while1Ops0_1` leaves in `main_v167_1`. -/
theorem at_while1Ops0_1_v167_1 (X : KV F) (Y : RV F) (h_v167_1 : X Cert.KernelIdeal.main_v167_1 = Y Cert.ReferenceIdeal.main_v167_1) :
    after Cert.KernelIdeal.Gen.while1Ops0_1 X Cert.KernelIdeal.main_v167_1 = after Cert.ReferenceIdeal.Line.while1Ops0_1 Y Cert.ReferenceIdeal.main_v167_1 := by
  after_reads_simp
  rw [h_v167_1] <;> rfl

/-- What `while1Ops0_1` leaves in `main_v167_2`. -/
theorem at_while1Ops0_1_v167_2 (X : KV F) (Y : RV F) (h_v167_2 : X Cert.KernelIdeal.main_v167_2 = Y Cert.ReferenceIdeal.main_v167_2) :
    after Cert.KernelIdeal.Gen.while1Ops0_1 X Cert.KernelIdeal.main_v167_2 = after Cert.ReferenceIdeal.Line.while1Ops0_1 Y Cert.ReferenceIdeal.main_v167_2 := by
  after_reads_simp
  rw [h_v167_2] <;> rfl

/-- What `while1Ops0_1` leaves in `main_v167_3`. -/
theorem at_while1Ops0_1_v167_3 (X : KV F) (Y : RV F) (h_v167_1 : X Cert.KernelIdeal.main_v167_1 = Y Cert.ReferenceIdeal.main_v167_1) (h_v167_3 : X Cert.KernelIdeal.main_v167_3 = Y Cert.ReferenceIdeal.main_v167_3) (h_while1b_v299 : X Cert.KernelIdeal.main_while1b_v299 = Y Cert.ReferenceIdeal.main_while1b_v313) :
    after Cert.KernelIdeal.Gen.while1Ops0_1 X Cert.KernelIdeal.main_v167_3 = after Cert.ReferenceIdeal.Line.while1Ops0_1 Y Cert.ReferenceIdeal.main_v167_3 := by
  have c16_v310 : upto Cert.KernelIdeal.Gen.while1Ops0_1 X 16 Cert.KernelIdeal.main_while1b_v310 = upto Cert.ReferenceIdeal.Line.while1Ops0_1 Y 16 Cert.ReferenceIdeal.main_while1b_v324 := by
    after_reads_simp
    rw [h_while1b_v299] <;> rfl
  have c16_v311 : upto Cert.KernelIdeal.Gen.while1Ops0_1 X 16 Cert.KernelIdeal.main_while1b_v311 = upto Cert.ReferenceIdeal.Line.while1Ops0_1 Y 16 Cert.ReferenceIdeal.main_while1b_v325 := by
    after_reads_simp
    rw [h_v167_3] <;> rfl
  after_reads_simp
  rw [h_v167_1, c16_v310, c16_v311] <;> rfl

/-- What `while2Ops0` leaves in `main_v219_0`. -/
theorem at_while2Ops0_v219_0 (X : KV F) (Y : RV F) (h_v219_0 : X Cert.KernelIdeal.main_v219_0 = Y Cert.ReferenceIdeal.main_v219_0) :
    after Cert.KernelIdeal.Gen.while2Ops0 X Cert.KernelIdeal.main_v219_0 = after Cert.ReferenceIdeal.Line.while2Ops0 Y Cert.ReferenceIdeal.main_v219_0 := by
  after_reads_simp [unaryIndexed_result_read, indexContents_tref_cons, indexContents_tref_empty]
  rw [h_v219_0] <;> rfl

/-- What `while2Ops0` leaves in `main_v219_1`. -/
theorem at_while2Ops0_v219_1 (X : KV F) (Y : RV F) (h_v219_1 : X Cert.KernelIdeal.main_v219_1 = Y Cert.ReferenceIdeal.main_v219_1) :
    after Cert.KernelIdeal.Gen.while2Ops0 X Cert.KernelIdeal.main_v219_1 = after Cert.ReferenceIdeal.Line.while2Ops0 Y Cert.ReferenceIdeal.main_v219_1 := by
  after_reads_simp [unaryIndexed_result_read, indexContents_tref_cons, indexContents_tref_empty]
  rw [h_v219_1] <;> rfl

/-- What `while2Ops0` leaves in `main_v219_2`. -/
theorem at_while2Ops0_v219_2 (X : KV F) (Y : RV F) (h_v219_2 : X Cert.KernelIdeal.main_v219_2 = Y Cert.ReferenceIdeal.main_v219_2) :
    after Cert.KernelIdeal.Gen.while2Ops0 X Cert.KernelIdeal.main_v219_2 = after Cert.ReferenceIdeal.Line.while2Ops0 Y Cert.ReferenceIdeal.main_v219_2 := by
  after_reads_simp [unaryIndexed_result_read, indexContents_tref_cons, indexContents_tref_empty]
  rw [h_v219_2] <;> rfl

/-- What `while2Ops0` leaves in `main_v219_3`. -/
theorem at_while2Ops0_v219_3 (X : KV F) (Y : RV F) (h_v219_3 : X Cert.KernelIdeal.main_v219_3 = Y Cert.ReferenceIdeal.main_v219_3) :
    after Cert.KernelIdeal.Gen.while2Ops0 X Cert.KernelIdeal.main_v219_3 = after Cert.ReferenceIdeal.Line.while2Ops0 Y Cert.ReferenceIdeal.main_v219_3 := by
  after_reads_simp [unaryIndexed_result_read, indexContents_tref_cons, indexContents_tref_empty]
  rw [h_v219_3] <;> rfl

/-- What `while2Ops0` leaves in `main_while2b_v299`. -/
theorem at_while2Ops0_while2b_v299 (X : KV F) (Y : RV F) (h_v219_0 : X Cert.KernelIdeal.main_v219_0 = Y Cert.ReferenceIdeal.main_v219_0) (h_v219_2 : X Cert.KernelIdeal.main_v219_2 = Y Cert.ReferenceIdeal.main_v219_2) :
    after Cert.KernelIdeal.Gen.while2Ops0 X Cert.KernelIdeal.main_while2b_v299 = after Cert.ReferenceIdeal.Line.while2Ops0 Y Cert.ReferenceIdeal.main_while2b_v313 := by
  after_reads_simp [unaryIndexed_result_read, indexContents_tref_cons, indexContents_tref_empty]
  rw [h_v219_0, h_v219_2] <;> rfl

/-- What `while2Ops0_1` leaves in `main_v219_0`. -/
theorem at_while2Ops0_1_v219_0 (X : KV F) (Y : RV F) (h_v219_0 : X Cert.KernelIdeal.main_v219_0 = Y Cert.ReferenceIdeal.main_v219_0) :
    after Cert.KernelIdeal.Gen.while2Ops0_1 X Cert.KernelIdeal.main_v219_0 = after Cert.ReferenceIdeal.Line.while2Ops0_1 Y Cert.ReferenceIdeal.main_v219_0 := by
  after_reads_simp
  rw [h_v219_0] <;> rfl

/-- What `while2Ops0_1` leaves in `main_v219_1`. -/
theorem at_while2Ops0_1_v219_1 (X : KV F) (Y : RV F) (h_v219_1 : X Cert.KernelIdeal.main_v219_1 = Y Cert.ReferenceIdeal.main_v219_1) :
    after Cert.KernelIdeal.Gen.while2Ops0_1 X Cert.KernelIdeal.main_v219_1 = after Cert.ReferenceIdeal.Line.while2Ops0_1 Y Cert.ReferenceIdeal.main_v219_1 := by
  after_reads_simp
  rw [h_v219_1] <;> rfl

/-- What `while2Ops0_1` leaves in `main_v219_2`. -/
theorem at_while2Ops0_1_v219_2 (X : KV F) (Y : RV F) (h_v219_2 : X Cert.KernelIdeal.main_v219_2 = Y Cert.ReferenceIdeal.main_v219_2) :
    after Cert.KernelIdeal.Gen.while2Ops0_1 X Cert.KernelIdeal.main_v219_2 = after Cert.ReferenceIdeal.Line.while2Ops0_1 Y Cert.ReferenceIdeal.main_v219_2 := by
  after_reads_simp
  rw [h_v219_2] <;> rfl

/-- What `while2Ops0_1` leaves in `main_v219_3`. -/
theorem at_while2Ops0_1_v219_3 (X : KV F) (Y : RV F) (h_v219_1 : X Cert.KernelIdeal.main_v219_1 = Y Cert.ReferenceIdeal.main_v219_1) (h_v219_3 : X Cert.KernelIdeal.main_v219_3 = Y Cert.ReferenceIdeal.main_v219_3) (h_while2b_v299 : X Cert.KernelIdeal.main_while2b_v299 = Y Cert.ReferenceIdeal.main_while2b_v313) :
    after Cert.KernelIdeal.Gen.while2Ops0_1 X Cert.KernelIdeal.main_v219_3 = after Cert.ReferenceIdeal.Line.while2Ops0_1 Y Cert.ReferenceIdeal.main_v219_3 := by
  have c16_v310 : upto Cert.KernelIdeal.Gen.while2Ops0_1 X 16 Cert.KernelIdeal.main_while2b_v310 = upto Cert.ReferenceIdeal.Line.while2Ops0_1 Y 16 Cert.ReferenceIdeal.main_while2b_v324 := by
    after_reads_simp
    rw [h_while2b_v299] <;> rfl
  have c16_v311 : upto Cert.KernelIdeal.Gen.while2Ops0_1 X 16 Cert.KernelIdeal.main_while2b_v311 = upto Cert.ReferenceIdeal.Line.while2Ops0_1 Y 16 Cert.ReferenceIdeal.main_while2b_v325 := by
    after_reads_simp
    rw [h_v219_3] <;> rfl
  after_reads_simp
  rw [h_v219_1, c16_v310, c16_v311] <;> rfl

/-- What `while3Ops0` leaves in `main_v266_0`. -/
theorem at_while3Ops0_v266_0 (X : KV F) (Y : RV F) (h_v266_0 : X Cert.KernelIdeal.main_v266_0 = Y Cert.ReferenceIdeal.main_v266_0) :
    after Cert.KernelIdeal.Gen.while3Ops0 X Cert.KernelIdeal.main_v266_0 = after Cert.ReferenceIdeal.Line.while3Ops0 Y Cert.ReferenceIdeal.main_v266_0 := by
  after_reads_simp [unaryIndexed_result_read, indexContents_tref_cons, indexContents_tref_empty]
  rw [h_v266_0] <;> rfl

/-- What `while3Ops0` leaves in `main_v266_1`. -/
theorem at_while3Ops0_v266_1 (X : KV F) (Y : RV F) (h_v266_1 : X Cert.KernelIdeal.main_v266_1 = Y Cert.ReferenceIdeal.main_v266_1) :
    after Cert.KernelIdeal.Gen.while3Ops0 X Cert.KernelIdeal.main_v266_1 = after Cert.ReferenceIdeal.Line.while3Ops0 Y Cert.ReferenceIdeal.main_v266_1 := by
  after_reads_simp [unaryIndexed_result_read, indexContents_tref_cons, indexContents_tref_empty]
  rw [h_v266_1] <;> rfl

/-- What `while3Ops0` leaves in `main_v266_2`. -/
theorem at_while3Ops0_v266_2 (X : KV F) (Y : RV F) (h_v266_2 : X Cert.KernelIdeal.main_v266_2 = Y Cert.ReferenceIdeal.main_v266_2) :
    after Cert.KernelIdeal.Gen.while3Ops0 X Cert.KernelIdeal.main_v266_2 = after Cert.ReferenceIdeal.Line.while3Ops0 Y Cert.ReferenceIdeal.main_v266_2 := by
  after_reads_simp [unaryIndexed_result_read, indexContents_tref_cons, indexContents_tref_empty]
  rw [h_v266_2] <;> rfl

/-- What `while3Ops0` leaves in `main_v266_3`. -/
theorem at_while3Ops0_v266_3 (X : KV F) (Y : RV F) (h_v266_3 : X Cert.KernelIdeal.main_v266_3 = Y Cert.ReferenceIdeal.main_v266_3) :
    after Cert.KernelIdeal.Gen.while3Ops0 X Cert.KernelIdeal.main_v266_3 = after Cert.ReferenceIdeal.Line.while3Ops0 Y Cert.ReferenceIdeal.main_v266_3 := by
  after_reads_simp [unaryIndexed_result_read, indexContents_tref_cons, indexContents_tref_empty]
  rw [h_v266_3] <;> rfl

/-- What `while3Ops0` leaves in `main_while3b_v299`. -/
theorem at_while3Ops0_while3b_v299 (X : KV F) (Y : RV F) (h_v266_0 : X Cert.KernelIdeal.main_v266_0 = Y Cert.ReferenceIdeal.main_v266_0) (h_v266_2 : X Cert.KernelIdeal.main_v266_2 = Y Cert.ReferenceIdeal.main_v266_2) :
    after Cert.KernelIdeal.Gen.while3Ops0 X Cert.KernelIdeal.main_while3b_v299 = after Cert.ReferenceIdeal.Line.while3Ops0 Y Cert.ReferenceIdeal.main_while3b_v313 := by
  after_reads_simp [unaryIndexed_result_read, indexContents_tref_cons, indexContents_tref_empty]
  rw [h_v266_0, h_v266_2] <;> rfl

/-- What `while3Ops0_1` leaves in `main_v266_0`. -/
theorem at_while3Ops0_1_v266_0 (X : KV F) (Y : RV F) (h_v266_0 : X Cert.KernelIdeal.main_v266_0 = Y Cert.ReferenceIdeal.main_v266_0) :
    after Cert.KernelIdeal.Gen.while3Ops0_1 X Cert.KernelIdeal.main_v266_0 = after Cert.ReferenceIdeal.Line.while3Ops0_1 Y Cert.ReferenceIdeal.main_v266_0 := by
  after_reads_simp
  rw [h_v266_0] <;> rfl

/-- What `while3Ops0_1` leaves in `main_v266_1`. -/
theorem at_while3Ops0_1_v266_1 (X : KV F) (Y : RV F) (h_v266_1 : X Cert.KernelIdeal.main_v266_1 = Y Cert.ReferenceIdeal.main_v266_1) :
    after Cert.KernelIdeal.Gen.while3Ops0_1 X Cert.KernelIdeal.main_v266_1 = after Cert.ReferenceIdeal.Line.while3Ops0_1 Y Cert.ReferenceIdeal.main_v266_1 := by
  after_reads_simp
  rw [h_v266_1] <;> rfl

/-- What `while3Ops0_1` leaves in `main_v266_2`. -/
theorem at_while3Ops0_1_v266_2 (X : KV F) (Y : RV F) (h_v266_2 : X Cert.KernelIdeal.main_v266_2 = Y Cert.ReferenceIdeal.main_v266_2) :
    after Cert.KernelIdeal.Gen.while3Ops0_1 X Cert.KernelIdeal.main_v266_2 = after Cert.ReferenceIdeal.Line.while3Ops0_1 Y Cert.ReferenceIdeal.main_v266_2 := by
  after_reads_simp
  rw [h_v266_2] <;> rfl

/-- What `while3Ops0_1` leaves in `main_v266_3`. -/
theorem at_while3Ops0_1_v266_3 (X : KV F) (Y : RV F) (h_v266_1 : X Cert.KernelIdeal.main_v266_1 = Y Cert.ReferenceIdeal.main_v266_1) (h_v266_3 : X Cert.KernelIdeal.main_v266_3 = Y Cert.ReferenceIdeal.main_v266_3) (h_while3b_v299 : X Cert.KernelIdeal.main_while3b_v299 = Y Cert.ReferenceIdeal.main_while3b_v313) :
    after Cert.KernelIdeal.Gen.while3Ops0_1 X Cert.KernelIdeal.main_v266_3 = after Cert.ReferenceIdeal.Line.while3Ops0_1 Y Cert.ReferenceIdeal.main_v266_3 := by
  have c16_v310 : upto Cert.KernelIdeal.Gen.while3Ops0_1 X 16 Cert.KernelIdeal.main_while3b_v310 = upto Cert.ReferenceIdeal.Line.while3Ops0_1 Y 16 Cert.ReferenceIdeal.main_while3b_v324 := by
    after_reads_simp
    rw [h_while3b_v299] <;> rfl
  have c16_v311 : upto Cert.KernelIdeal.Gen.while3Ops0_1 X 16 Cert.KernelIdeal.main_while3b_v311 = upto Cert.ReferenceIdeal.Line.while3Ops0_1 Y 16 Cert.ReferenceIdeal.main_while3b_v325 := by
    after_reads_simp
    rw [h_v266_3] <;> rfl
  after_reads_simp
  rw [h_v266_1, c16_v310, c16_v311] <;> rfl

end Cert.Proof.Agree

end
-- ==== Proof.Agree.lean ====
/-
  The two programs agree up to the head: launched on equal arguments, they hand the head the same features.
-/
module

public import proofs.«01_k».proof.Proof.KernelIdealHost
public import proofs.«01_k».proof.Proof.ReferenceHost
public import proofs.«01_k».proof.Proof.AgreeSteps
public import Idealize.ShloMosaic.Lib.StableHlo.RunRead

@[expose] public section

set_option maxRecDepth 20000
set_option maxHeartbeats 4000000

noncomputable section

namespace Cert.Proof.Agree

open Cert.Proof.Lines
open Idealize.ShloMosaic Idealize.ShloMosaic.TcCoe
open Idealize.ShloMosaic.StableHlo

variable {F : FTy → Type} [FloatOps F]

/-- A stretch that writes no argument, in either program, keeps the arguments equal. -/
theorem ArgsEq.keep {X X' : KV F} {Y Y' : RV F} (ha : ArgsEq X Y)
    (hX : ∀ b ∈ Cert.Proof.KernelIdealHost.args, X' (Proc.devRef .tc b) = X (Proc.devRef .tc b))
    (hY : ∀ b ∈ Cert.Proof.ReferenceHost.args, Y' (Proc.devRef .tc b) = Y (Proc.devRef .tc b)) : ArgsEq X' Y' where
  arg0 := (hX Cert.KernelIdeal.main_arg0 (by decide)).trans (ha.arg0.trans (hY Cert.ReferenceIdeal.main_arg0 (by decide)).symm)
  arg1 := (hX Cert.KernelIdeal.main_arg1 (by decide)).trans (ha.arg1.trans (hY Cert.ReferenceIdeal.main_arg1 (by decide)).symm)
  arg2 := (hX Cert.KernelIdeal.main_arg2 (by decide)).trans (ha.arg2.trans (hY Cert.ReferenceIdeal.main_arg2 (by decide)).symm)
  arg3 := (hX Cert.KernelIdeal.main_arg3 (by decide)).trans (ha.arg3.trans (hY Cert.ReferenceIdeal.main_arg3 (by decide)).symm)
  arg4 := (hX Cert.KernelIdeal.main_arg4 (by decide)).trans (ha.arg4.trans (hY Cert.ReferenceIdeal.main_arg4 (by decide)).symm)
  arg5 := (hX Cert.KernelIdeal.main_arg5 (by decide)).trans (ha.arg5.trans (hY Cert.ReferenceIdeal.main_arg5 (by decide)).symm)
  arg6 := (hX Cert.KernelIdeal.main_arg6 (by decide)).trans (ha.arg6.trans (hY Cert.ReferenceIdeal.main_arg6 (by decide)).symm)
  arg7 := (hX Cert.KernelIdeal.main_arg7 (by decide)).trans (ha.arg7.trans (hY Cert.ReferenceIdeal.main_arg7 (by decide)).symm)
  arg8 := (hX Cert.KernelIdeal.main_arg8 (by decide)).trans (ha.arg8.trans (hY Cert.ReferenceIdeal.main_arg8 (by decide)).symm)
  arg9 := (hX Cert.KernelIdeal.main_arg9 (by decide)).trans (ha.arg9.trans (hY Cert.ReferenceIdeal.main_arg9 (by decide)).symm)
  arg10 := (hX Cert.KernelIdeal.main_arg10 (by decide)).trans (ha.arg10.trans (hY Cert.ReferenceIdeal.main_arg10 (by decide)).symm)
  arg11 := (hX Cert.KernelIdeal.main_arg11 (by decide)).trans (ha.arg11.trans (hY Cert.ReferenceIdeal.main_arg11 (by decide)).symm)
  arg12 := (hX Cert.KernelIdeal.main_arg12 (by decide)).trans (ha.arg12.trans (hY Cert.ReferenceIdeal.main_arg12 (by decide)).symm)
  arg13 := (hX Cert.KernelIdeal.main_arg13 (by decide)).trans (ha.arg13.trans (hY Cert.ReferenceIdeal.main_arg13 (by decide)).symm)
  arg14 := (hX Cert.KernelIdeal.main_arg14 (by decide)).trans (ha.arg14.trans (hY Cert.ReferenceIdeal.main_arg14 (by decide)).symm)
  arg15 := (hX Cert.KernelIdeal.main_arg15 (by decide)).trans (ha.arg15.trans (hY Cert.ReferenceIdeal.main_arg15 (by decide)).symm)
  arg16 := (hX Cert.KernelIdeal.main_arg16 (by decide)).trans (ha.arg16.trans (hY Cert.ReferenceIdeal.main_arg16 (by decide)).symm)

theorem ArgsEq.step {opsK : List (HloOp Cert.KernelIdeal.τ Cert.KernelIdeal.sig (Elt F))} {opsR : List (HloOp Cert.ReferenceIdeal.τ Cert.ReferenceIdeal.sig (Elt F))}
    (hK : Keeps Cert.Proof.KernelIdealHost.args opsK) (hR : Keeps Cert.Proof.ReferenceHost.args opsR) {X : KV F} {Y : RV F} (ha : ArgsEq X Y) : ArgsEq (after opsK X) (after opsR Y) :=
  ha.keep (fun b hb => hK b hb X) (fun b hb => hR b hb Y)

/-- Equal arguments and equal carried buffers of loop 0. -/
structure Carry0 (X : KV F) (Y : RV F) : Prop where
  ha : ArgsEq X Y
  h0 : X Cert.KernelIdeal.main_v89_0 = Y Cert.ReferenceIdeal.main_v89_0
  h1 : X Cert.KernelIdeal.main_v89_1 = Y Cert.ReferenceIdeal.main_v89_1
  h2 : X Cert.KernelIdeal.main_v89_2 = Y Cert.ReferenceIdeal.main_v89_2
  h3 : X Cert.KernelIdeal.main_v89_3 = Y Cert.ReferenceIdeal.main_v89_3

/-- Equal arguments and equal carried buffers of loop 1. -/
structure Carry1 (X : KV F) (Y : RV F) : Prop where
  ha : ArgsEq X Y
  h0 : X Cert.KernelIdeal.main_v167_0 = Y Cert.ReferenceIdeal.main_v167_0
  h1 : X Cert.KernelIdeal.main_v167_1 = Y Cert.ReferenceIdeal.main_v167_1
  h2 : X Cert.KernelIdeal.main_v167_2 = Y Cert.ReferenceIdeal.main_v167_2
  h3 : X Cert.KernelIdeal.main_v167_3 = Y Cert.ReferenceIdeal.main_v167_3

/-- Equal arguments and equal carried buffers of loop 2. -/
structure Carry2 (X : KV F) (Y : RV F) : Prop where
  ha : ArgsEq X Y
  h0 : X Cert.KernelIdeal.main_v219_0 = Y Cert.ReferenceIdeal.main_v219_0
  h1 : X Cert.KernelIdeal.main_v219_1 = Y Cert.ReferenceIdeal.main_v219_1
  h2 : X Cert.KernelIdeal.main_v219_2 = Y Cert.ReferenceIdeal.main_v219_2
  h3 : X Cert.KernelIdeal.main_v219_3 = Y Cert.ReferenceIdeal.main_v219_3

/-- Equal arguments and equal carried buffers of loop 3. -/
structure Carry3 (X : KV F) (Y : RV F) : Prop where
  ha : ArgsEq X Y
  h0 : X Cert.KernelIdeal.main_v266_0 = Y Cert.ReferenceIdeal.main_v266_0
  h1 : X Cert.KernelIdeal.main_v266_1 = Y Cert.ReferenceIdeal.main_v266_1
  h2 : X Cert.KernelIdeal.main_v266_2 = Y Cert.ReferenceIdeal.main_v266_2
  h3 : X Cert.KernelIdeal.main_v266_3 = Y Cert.ReferenceIdeal.main_v266_3

/-- What `main_part6_ops0` leaves in `main_v296`. -/
theorem at_main_part6_ops0_v296 (X : KV F) (Y : RV F) (ha : ArgsEq X Y) (h_v282 : X Cert.KernelIdeal.main_v282 = Y Cert.ReferenceIdeal.main_v282) (h_v284 : X Cert.KernelIdeal.main_v284 = Y Cert.ReferenceIdeal.main_v284) :
    after Cert.KernelIdeal.Gen.main_part6_ops0 X Cert.KernelIdeal.main_v296 = after Cert.ReferenceIdeal.Line.main_part6_ops0 Y Cert.ReferenceIdeal.main_v296 := by
  after_reads_simp
  rw [ha.arg2, ha.arg8, h_v282, h_v284] <;> rfl

/-- Stretch 0 of the host part. -/
theorem line0_agree (X : KV F) (Y : RV F) (ha : ArgsEq X Y) :
    Carry0 (afterL Cert.Proof.KernelIdealHost.line0 X) (afterL Cert.Proof.ReferenceHost.line0 Y) := by
  have w1_34 := at_main_part0_ops0_v34 _ _ ha
  have a1 := ArgsEq.step Cert.Proof.KernelIdealHost.keeps_main_part0_ops0 Cert.Proof.ReferenceHost.keeps_main_part0_ops0 ha
  have w2_35 := at_main_part0_ops1_v35 _ _ w1_34
  have a2 := ArgsEq.step Cert.Proof.KernelIdealHost.keeps_main_part0_ops1 Cert.Proof.ReferenceHost.keeps_main_part0_ops1 a1
  have w3_37 := at_main_part0_ops2_v37 _ _ w2_35
  have w3_46 := at_main_part0_ops2_v46 (after Cert.KernelIdeal.Gen.main_part0_ops1 (after Cert.KernelIdeal.Gen.main_part0_ops0 X)) (after Cert.ReferenceIdeal.Line.main_part0_ops1 (after Cert.ReferenceIdeal.Line.main_part0_ops0 Y))
  have w3_48 := at_main_part0_ops2_v48 (after Cert.KernelIdeal.Gen.main_part0_ops1 (after Cert.KernelIdeal.Gen.main_part0_ops0 X)) (after Cert.ReferenceIdeal.Line.main_part0_ops1 (after Cert.ReferenceIdeal.Line.main_part0_ops0 Y))
  have w3_50 := at_main_part0_ops2_v50 (after Cert.KernelIdeal.Gen.main_part0_ops1 (after Cert.KernelIdeal.Gen.main_part0_ops0 X)) (after Cert.ReferenceIdeal.Line.main_part0_ops1 (after Cert.ReferenceIdeal.Line.main_part0_ops0 Y))
  have a3 := ArgsEq.step Cert.Proof.KernelIdealHost.keeps_main_part0_ops2 Cert.Proof.ReferenceHost.keeps_main_part0_ops2 a2
  have w4_82 := at_main_part1_ops0_v82 _ _ a3 w3_37 w3_46 w3_48 w3_50
  have a4 := ArgsEq.step Cert.Proof.KernelIdealHost.keeps_main_part1_ops0 Cert.Proof.ReferenceHost.keeps_main_part1_ops0 a3
  have w5_83 := at_main_part1_ops1_v83 _ _ w4_82
  have a5 := ArgsEq.step Cert.Proof.KernelIdealHost.keeps_main_part1_ops1 Cert.Proof.ReferenceHost.keeps_main_part1_ops1 a4
  have w6_89_0 := at_main_part1_ops2_v89_0 _ _ w5_83
  have w6_89_1 := at_main_part1_ops2_v89_1 _ _ a5
  have w6_89_2 := at_main_part1_ops2_v89_2 (after Cert.KernelIdeal.Gen.main_part1_ops1 (after Cert.KernelIdeal.Gen.main_part1_ops0 (after Cert.KernelIdeal.Gen.main_part0_ops2 (after Cert.KernelIdeal.Gen.main_part0_ops1 (after Cert.KernelIdeal.Gen.main_part0_ops0 X))))) (after Cert.ReferenceIdeal.Line.main_part1_ops1 (after Cert.ReferenceIdeal.Line.main_part1_ops0 (after Cert.ReferenceIdeal.Line.main_part0_ops2 (after Cert.ReferenceIdeal.Line.main_part0_ops1 (after Cert.ReferenceIdeal.Line.main_part0_ops0 Y)))))
  have w6_89_3 := at_main_part1_ops2_v89_3 _ _ w5_83
  have a6 := ArgsEq.step Cert.Proof.KernelIdealHost.keeps_main_part1_ops2 Cert.Proof.ReferenceHost.keeps_main_part1_ops2 a5
  exact ⟨a6, w6_89_0, w6_89_1, w6_89_2, w6_89_3⟩

/-- Stretch 1 of the host part. -/
theorem line1_agree (X : KV F) (Y : RV F) (ha : ArgsEq X Y) (h3 : X Cert.KernelIdeal.main_v89_3 = Y Cert.ReferenceIdeal.main_v89_3) :
    Carry1 (afterL Cert.Proof.KernelIdealHost.line1 X) (afterL Cert.Proof.ReferenceHost.line1 Y) := by
  have w1_c_16 := at_main_part1_ops3_c_16 X Y
  have w1_91 := at_main_part1_ops3_v91 X Y
  have w1_96 := at_main_part1_ops3_v96 _ _ h3
  have a1 := ArgsEq.step Cert.Proof.KernelIdealHost.keeps_main_part1_ops3 Cert.Proof.ReferenceHost.keeps_main_part1_ops3 ha
  have w2_141 := at_main_part2_ops0_v141 _ _ a1 w1_c_16 w1_91 w1_96
  have w2_143 := at_main_part2_ops0_v143 _ _ a1
  have w2_145 := at_main_part2_ops0_v145 _ _ a1 w1_c_16 w1_91 w1_96
  have w2_146 := at_main_part2_ops0_v146 (after Cert.KernelIdeal.Gen.main_part1_ops3 X) (after Cert.ReferenceIdeal.Line.main_part1_ops3 Y)
  have a2 := ArgsEq.step Cert.Proof.KernelIdealHost.keeps_main_part2_ops0 Cert.Proof.ReferenceHost.keeps_main_part2_ops0 a1
  have w3_160 := at_main_part3_ops0_v160 _ _ a2 w2_141 w2_143 w2_145 w2_146
  have a3 := ArgsEq.step Cert.Proof.KernelIdealHost.keeps_main_part3_ops0 Cert.Proof.ReferenceHost.keeps_main_part3_ops0 a2
  have w4_161 := at_main_part3_ops1_v161 _ _ w3_160
  have a4 := ArgsEq.step Cert.Proof.KernelIdealHost.keeps_main_part3_ops1 Cert.Proof.ReferenceHost.keeps_main_part3_ops1 a3
  have w5_167_0 := at_main_part3_ops2_v167_0 _ _ w4_161
  have w5_167_1 := at_main_part3_ops2_v167_1 _ _ a4
  have w5_167_2 := at_main_part3_ops2_v167_2 (after Cert.KernelIdeal.Gen.main_part3_ops1 (after Cert.KernelIdeal.Gen.main_part3_ops0 (after Cert.KernelIdeal.Gen.main_part2_ops0 (after Cert.KernelIdeal.Gen.main_part1_ops3 X)))) (after Cert.ReferenceIdeal.Line.main_part3_ops1 (after Cert.ReferenceIdeal.Line.main_part3_ops0 (after Cert.ReferenceIdeal.Line.main_part2_ops0 (after Cert.ReferenceIdeal.Line.main_part1_ops3 Y))))
  have w5_167_3 := at_main_part3_ops2_v167_3 _ _ w4_161
  have a5 := ArgsEq.step Cert.Proof.KernelIdealHost.keeps_main_part3_ops2 Cert.Proof.ReferenceHost.keeps_main_part3_ops2 a4
  exact ⟨a5, w5_167_0, w5_167_1, w5_167_2, w5_167_3⟩

/-- Stretch 2 of the host part. -/
theorem line2_agree (X : KV F) (Y : RV F) (ha : ArgsEq X Y) (h3 : X Cert.KernelIdeal.main_v167_3 = Y Cert.ReferenceIdeal.main_v167_3) :
    Carry2 (afterL Cert.Proof.KernelIdealHost.line2 X) (afterL Cert.Proof.ReferenceHost.line2 Y) := by
  have w1_193 := at_main_part3_ops3_v193 _ _ ha h3
  have a1 := ArgsEq.step Cert.Proof.KernelIdealHost.keeps_main_part3_ops3 Cert.Proof.ReferenceHost.keeps_main_part3_ops3 ha
  have w2_212 := at_main_part4_ops0_v212 _ _ a1 w1_193
  have a2 := ArgsEq.step Cert.Proof.KernelIdealHost.keeps_main_part4_ops0 Cert.Proof.ReferenceHost.keeps_main_part4_ops0 a1
  have w3_213 := at_main_part4_ops1_v213 _ _ w2_212
  have a3 := ArgsEq.step Cert.Proof.KernelIdealHost.keeps_main_part4_ops1 Cert.Proof.ReferenceHost.keeps_main_part4_ops1 a2
  have w4_219_0 := at_main_part4_ops2_v219_0 _ _ w3_213
  have w4_219_1 := at_main_part4_ops2_v219_1 _ _ a3
  have w4_219_2 := at_main_part4_ops2_v219_2 (after Cert.KernelIdeal.Gen.main_part4_ops1 (after Cert.KernelIdeal.Gen.main_part4_ops0 (after Cert.KernelIdeal.Gen.main_part3_ops3 X))) (after Cert.ReferenceIdeal.Line.main_part4_ops1 (after Cert.ReferenceIdeal.Line.main_part4_ops0 (after Cert.ReferenceIdeal.Line.main_part3_ops3 Y)))
  have w4_219_3 := at_main_part4_ops2_v219_3 _ _ w3_213
  have a4 := ArgsEq.step Cert.Proof.KernelIdealHost.keeps_main_part4_ops2 Cert.Proof.ReferenceHost.keeps_main_part4_ops2 a3
  exact ⟨a4, w4_219_0, w4_219_1, w4_219_2, w4_219_3⟩

/-- Stretch 3 of the host part. -/
theorem line3_agree (X : KV F) (Y : RV F) (ha : ArgsEq X Y) (h3 : X Cert.KernelIdeal.main_v219_3 = Y Cert.ReferenceIdeal.main_v219_3) :
    Carry3 (afterL Cert.Proof.KernelIdealHost.line3 X) (afterL Cert.Proof.ReferenceHost.line3 Y) := by
  have w1_235 := at_main_part4_ops3_v235 _ _ ha h3
  have w1_237 := at_main_part4_ops3_v237 _ _ ha h3
  have w1_238 := at_main_part4_ops3_v238 X Y
  have a1 := ArgsEq.step Cert.Proof.KernelIdealHost.keeps_main_part4_ops3 Cert.Proof.ReferenceHost.keeps_main_part4_ops3 ha
  have w2_259 := at_main_part5_ops0_v259 _ _ a1 w1_235 w1_237 w1_238
  have a2 := ArgsEq.step Cert.Proof.KernelIdealHost.keeps_main_part5_ops0 Cert.Proof.ReferenceHost.keeps_main_part5_ops0 a1
  have w3_260 := at_main_part5_ops1_v260 _ _ w2_259
  have a3 := ArgsEq.step Cert.Proof.KernelIdealHost.keeps_main_part5_ops1 Cert.Proof.ReferenceHost.keeps_main_part5_ops1 a2
  have w4_266_0 := at_main_part5_ops2_v266_0 _ _ w3_260
  have w4_266_1 := at_main_part5_ops2_v266_1 _ _ a3
  have w4_266_2 := at_main_part5_ops2_v266_2 (after Cert.KernelIdeal.Gen.main_part5_ops1 (after Cert.KernelIdeal.Gen.main_part5_ops0 (after Cert.KernelIdeal.Gen.main_part4_ops3 X))) (after Cert.ReferenceIdeal.Line.main_part5_ops1 (after Cert.ReferenceIdeal.Line.main_part5_ops0 (after Cert.ReferenceIdeal.Line.main_part4_ops3 Y)))
  have w4_266_3 := at_main_part5_ops2_v266_3 _ _ w3_260
  have a4 := ArgsEq.step Cert.Proof.KernelIdealHost.keeps_main_part5_ops2 Cert.Proof.ReferenceHost.keeps_main_part5_ops2 a3
  exact ⟨a4, w4_266_0, w4_266_1, w4_266_2, w4_266_3⟩

/-- Stretch 4 of the host part. -/
theorem line4_agree (X : KV F) (Y : RV F) (ha : ArgsEq X Y) (h3 : X Cert.KernelIdeal.main_v266_3 = Y Cert.ReferenceIdeal.main_v266_3) :
    afterL Cert.Proof.KernelIdealHost.line4 X Cert.KernelIdeal.main_v296 = afterL Cert.Proof.ReferenceHost.line4 Y Cert.ReferenceIdeal.main_v296 := by
  have w1_282 := at_main_part5_ops3_v282 _ _ ha h3
  have w1_284 := at_main_part5_ops3_v284 _ _ ha h3
  have a1 := ArgsEq.step Cert.Proof.KernelIdealHost.keeps_main_part5_ops3 Cert.Proof.ReferenceHost.keeps_main_part5_ops3 ha
  have w2_296 := at_main_part6_ops0_v296 _ _ a1 w1_282 w1_284
  exact w2_296

/-- Loop 0's exit test writes none of these, -/
theorem cond0_agree {X : KV F} {Y : RV F} (h : Carry0 X Y) : Carry0 (after Cert.Proof.KernelIdealHost.cond0 X) (after Cert.Proof.ReferenceHost.cond0 Y) where
  ha := h.ha.step Cert.Proof.KernelIdealHost.keeps_cond0 Cert.Proof.ReferenceHost.keeps_cond0
  h0 := by after_reads_simp; exact h.h0
  h1 := by after_reads_simp; exact h.h1
  h2 := by after_reads_simp; exact h.h2
  h3 := by after_reads_simp; exact h.h3

/-- a trip keeps them equal, -/
theorem trip0_agree {X : KV F} {Y : RV F} (h : Carry0 X Y) :
    Carry0 (afterL Cert.Proof.KernelIdealHost.body0 (after Cert.Proof.KernelIdealHost.cond0 X)) (afterL Cert.Proof.ReferenceHost.body0 (after Cert.Proof.ReferenceHost.cond0 Y)) := by
  have g := cond0_agree h
  have p0 := at_while0Ops0_v89_0 _ _ g.h0
  have p1 := at_while0Ops0_v89_1 _ _ g.h1
  have p2 := at_while0Ops0_v89_2 _ _ g.h2
  have p3 := at_while0Ops0_v89_3 _ _ g.h3
  have p4 := at_while0Ops0_while0b_v299 _ _ g.h0 g.h2
  have a1 := ArgsEq.step Cert.Proof.KernelIdealHost.keeps_while0Ops0 Cert.Proof.ReferenceHost.keeps_while0Ops0 g.ha
  have q0 := at_while0Ops0_1_v89_0 _ _ p0
  have q1 := at_while0Ops0_1_v89_1 _ _ p1
  have q2 := at_while0Ops0_1_v89_2 _ _ p2
  have q3 := at_while0Ops0_1_v89_3 _ _ p1 p3 p4
  exact ⟨ArgsEq.step Cert.Proof.KernelIdealHost.keeps_while0Ops0_1 Cert.Proof.ReferenceHost.keeps_while0Ops0_1 a1, q0, q1, q2, q3⟩

/-- and so does any number of trips. -/
theorem loop0_agree {W : Dev Cert.KernelIdeal.nD → KV F} {W' : Dev Cert.ReferenceIdeal.nD → RV F} {c : Dev Cert.KernelIdeal.nD} {c' : Dev Cert.ReferenceIdeal.nD}
    (h : Carry0 (W c) (W' c')) : ∀ k, Carry0 (atTrip Cert.Proof.KernelIdealHost.cond0 Cert.Proof.KernelIdealHost.body0 W k c) (atTrip Cert.Proof.ReferenceHost.cond0 Cert.Proof.ReferenceHost.body0 W' k c')
  | 0 => h
  | k + 1 => by rw [atTrip_succ, atTrip_succ]; exact trip0_agree (loop0_agree h k)

/-- Loop 1's exit test writes none of these, -/
theorem cond1_agree {X : KV F} {Y : RV F} (h : Carry1 X Y) : Carry1 (after Cert.Proof.KernelIdealHost.cond1 X) (after Cert.Proof.ReferenceHost.cond1 Y) where
  ha := h.ha.step Cert.Proof.KernelIdealHost.keeps_cond1 Cert.Proof.ReferenceHost.keeps_cond1
  h0 := by after_reads_simp; exact h.h0
  h1 := by after_reads_simp; exact h.h1
  h2 := by after_reads_simp; exact h.h2
  h3 := by after_reads_simp; exact h.h3

/-- a trip keeps them equal, -/
theorem trip1_agree {X : KV F} {Y : RV F} (h : Carry1 X Y) :
    Carry1 (afterL Cert.Proof.KernelIdealHost.body1 (after Cert.Proof.KernelIdealHost.cond1 X)) (afterL Cert.Proof.ReferenceHost.body1 (after Cert.Proof.ReferenceHost.cond1 Y)) := by
  have g := cond1_agree h
  have p0 := at_while1Ops0_v167_0 _ _ g.h0
  have p1 := at_while1Ops0_v167_1 _ _ g.h1
  have p2 := at_while1Ops0_v167_2 _ _ g.h2
  have p3 := at_while1Ops0_v167_3 _ _ g.h3
  have p4 := at_while1Ops0_while1b_v299 _ _ g.h0 g.h2
  have a1 := ArgsEq.step Cert.Proof.KernelIdealHost.keeps_while1Ops0 Cert.Proof.ReferenceHost.keeps_while1Ops0 g.ha
  have q0 := at_while1Ops0_1_v167_0 _ _ p0
  have q1 := at_while1Ops0_1_v167_1 _ _ p1
  have q2 := at_while1Ops0_1_v167_2 _ _ p2
  have q3 := at_while1Ops0_1_v167_3 _ _ p1 p3 p4
  exact ⟨ArgsEq.step Cert.Proof.KernelIdealHost.keeps_while1Ops0_1 Cert.Proof.ReferenceHost.keeps_while1Ops0_1 a1, q0, q1, q2, q3⟩

/-- and so does any number of trips. -/
theorem loop1_agree {W : Dev Cert.KernelIdeal.nD → KV F} {W' : Dev Cert.ReferenceIdeal.nD → RV F} {c : Dev Cert.KernelIdeal.nD} {c' : Dev Cert.ReferenceIdeal.nD}
    (h : Carry1 (W c) (W' c')) : ∀ k, Carry1 (atTrip Cert.Proof.KernelIdealHost.cond1 Cert.Proof.KernelIdealHost.body1 W k c) (atTrip Cert.Proof.ReferenceHost.cond1 Cert.Proof.ReferenceHost.body1 W' k c')
  | 0 => h
  | k + 1 => by rw [atTrip_succ, atTrip_succ]; exact trip1_agree (loop1_agree h k)

/-- Loop 2's exit test writes none of these, -/
theorem cond2_agree {X : KV F} {Y : RV F} (h : Carry2 X Y) : Carry2 (after Cert.Proof.KernelIdealHost.cond2 X) (after Cert.Proof.ReferenceHost.cond2 Y) where
  ha := h.ha.step Cert.Proof.KernelIdealHost.keeps_cond2 Cert.Proof.ReferenceHost.keeps_cond2
  h0 := by after_reads_simp; exact h.h0
  h1 := by after_reads_simp; exact h.h1
  h2 := by after_reads_simp; exact h.h2
  h3 := by after_reads_simp; exact h.h3

/-- a trip keeps them equal, -/
theorem trip2_agree {X : KV F} {Y : RV F} (h : Carry2 X Y) :
    Carry2 (afterL Cert.Proof.KernelIdealHost.body2 (after Cert.Proof.KernelIdealHost.cond2 X)) (afterL Cert.Proof.ReferenceHost.body2 (after Cert.Proof.ReferenceHost.cond2 Y)) := by
  have g := cond2_agree h
  have p0 := at_while2Ops0_v219_0 _ _ g.h0
  have p1 := at_while2Ops0_v219_1 _ _ g.h1
  have p2 := at_while2Ops0_v219_2 _ _ g.h2
  have p3 := at_while2Ops0_v219_3 _ _ g.h3
  have p4 := at_while2Ops0_while2b_v299 _ _ g.h0 g.h2
  have a1 := ArgsEq.step Cert.Proof.KernelIdealHost.keeps_while2Ops0 Cert.Proof.ReferenceHost.keeps_while2Ops0 g.ha
  have q0 := at_while2Ops0_1_v219_0 _ _ p0
  have q1 := at_while2Ops0_1_v219_1 _ _ p1
  have q2 := at_while2Ops0_1_v219_2 _ _ p2
  have q3 := at_while2Ops0_1_v219_3 _ _ p1 p3 p4
  exact ⟨ArgsEq.step Cert.Proof.KernelIdealHost.keeps_while2Ops0_1 Cert.Proof.ReferenceHost.keeps_while2Ops0_1 a1, q0, q1, q2, q3⟩

/-- and so does any number of trips. -/
theorem loop2_agree {W : Dev Cert.KernelIdeal.nD → KV F} {W' : Dev Cert.ReferenceIdeal.nD → RV F} {c : Dev Cert.KernelIdeal.nD} {c' : Dev Cert.ReferenceIdeal.nD}
    (h : Carry2 (W c) (W' c')) : ∀ k, Carry2 (atTrip Cert.Proof.KernelIdealHost.cond2 Cert.Proof.KernelIdealHost.body2 W k c) (atTrip Cert.Proof.ReferenceHost.cond2 Cert.Proof.ReferenceHost.body2 W' k c')
  | 0 => h
  | k + 1 => by rw [atTrip_succ, atTrip_succ]; exact trip2_agree (loop2_agree h k)

/-- Loop 3's exit test writes none of these, -/
theorem cond3_agree {X : KV F} {Y : RV F} (h : Carry3 X Y) : Carry3 (after Cert.Proof.KernelIdealHost.cond3 X) (after Cert.Proof.ReferenceHost.cond3 Y) where
  ha := h.ha.step Cert.Proof.KernelIdealHost.keeps_cond3 Cert.Proof.ReferenceHost.keeps_cond3
  h0 := by after_reads_simp; exact h.h0
  h1 := by after_reads_simp; exact h.h1
  h2 := by after_reads_simp; exact h.h2
  h3 := by after_reads_simp; exact h.h3

/-- a trip keeps them equal, -/
theorem trip3_agree {X : KV F} {Y : RV F} (h : Carry3 X Y) :
    Carry3 (afterL Cert.Proof.KernelIdealHost.body3 (after Cert.Proof.KernelIdealHost.cond3 X)) (afterL Cert.Proof.ReferenceHost.body3 (after Cert.Proof.ReferenceHost.cond3 Y)) := by
  have g := cond3_agree h
  have p0 := at_while3Ops0_v266_0 _ _ g.h0
  have p1 := at_while3Ops0_v266_1 _ _ g.h1
  have p2 := at_while3Ops0_v266_2 _ _ g.h2
  have p3 := at_while3Ops0_v266_3 _ _ g.h3
  have p4 := at_while3Ops0_while3b_v299 _ _ g.h0 g.h2
  have a1 := ArgsEq.step Cert.Proof.KernelIdealHost.keeps_while3Ops0 Cert.Proof.ReferenceHost.keeps_while3Ops0 g.ha
  have q0 := at_while3Ops0_1_v266_0 _ _ p0
  have q1 := at_while3Ops0_1_v266_1 _ _ p1
  have q2 := at_while3Ops0_1_v266_2 _ _ p2
  have q3 := at_while3Ops0_1_v266_3 _ _ p1 p3 p4
  exact ⟨ArgsEq.step Cert.Proof.KernelIdealHost.keeps_while3Ops0_1 Cert.Proof.ReferenceHost.keeps_while3Ops0_1 a1, q0, q1, q2, q3⟩

/-- and so does any number of trips. -/
theorem loop3_agree {W : Dev Cert.KernelIdeal.nD → KV F} {W' : Dev Cert.ReferenceIdeal.nD → RV F} {c : Dev Cert.KernelIdeal.nD} {c' : Dev Cert.ReferenceIdeal.nD}
    (h : Carry3 (W c) (W' c')) : ∀ k, Carry3 (atTrip Cert.Proof.KernelIdealHost.cond3 Cert.Proof.KernelIdealHost.body3 W k c) (atTrip Cert.Proof.ReferenceHost.cond3 Cert.Proof.ReferenceHost.body3 W' k c')
  | 0 => h
  | k + 1 => by rw [atTrip_succ, atTrip_succ]; exact trip3_agree (loop3_agree h k)

/-- The features handed to the head. -/
theorem features_agree (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD) (c' : Dev Cert.ReferenceIdeal.nD) (ha : ArgsEq (launchContents m c) (launchContents m' c')) :
    Cert.Proof.KernelIdealHost.Efin m c Cert.KernelIdeal.main_v296 = Cert.Proof.ReferenceHost.Efin m' c' Cert.ReferenceIdeal.main_v296 := by
  have e0 : Carry0 (Cert.Proof.KernelIdealHost.E0 m c) (Cert.Proof.ReferenceHost.E0 m' c') := line0_agree _ _ ha
  have x0 : Carry0 (Cert.Proof.KernelIdealHost.X0 m c) (Cert.Proof.ReferenceHost.X0 m' c') := cond0_agree (loop0_agree e0 24)
  have e1 : Carry1 (Cert.Proof.KernelIdealHost.E1 m c) (Cert.Proof.ReferenceHost.E1 m' c') := line1_agree _ _ x0.ha x0.h3
  have x1 : Carry1 (Cert.Proof.KernelIdealHost.X1 m c) (Cert.Proof.ReferenceHost.X1 m' c') := cond1_agree (loop1_agree e1 149)
  have e2 : Carry2 (Cert.Proof.KernelIdealHost.E2 m c) (Cert.Proof.ReferenceHost.E2 m' c') := line2_agree _ _ x1.ha x1.h3
  have x2 : Carry2 (Cert.Proof.KernelIdealHost.X2 m c) (Cert.Proof.ReferenceHost.X2 m' c') := cond2_agree (loop2_agree e2 399)
  have e3 : Carry3 (Cert.Proof.KernelIdealHost.E3 m c) (Cert.Proof.ReferenceHost.E3 m' c') := line3_agree _ _ x2.ha x2.h3
  have x3 : Carry3 (Cert.Proof.KernelIdealHost.X3 m c) (Cert.Proof.ReferenceHost.X3 m' c') := cond3_agree (loop3_agree e3 119)
  exact line4_agree _ _ x3.ha x3.h3

end Cert.Proof.Agree

end
-- ==== Proof.Head.lean ====
/-
  The head, over exact reals: the kernel body's value (product, bias, softmax over the ten classes, in the kernel's
  operations) is the reference's last stretch (the same in host operations).
-/
module

public import proofs.«01_k».proof.Proof.Agree
public import proofs.«01_k».proof.Proof.Gen.KernelIdeal.Skeleton
public import Idealize.ShloMosaic.Lib.KernelVsHost
public import Idealize.ShloMosaic.Lib.StableHlo.RunRead

@[expose] public section

set_option maxRecDepth 20000
set_option maxHeartbeats 4000000

noncomputable section

namespace Cert.Proof.Head

open Cert.Proof.Agree
open Idealize.ShloMosaic Idealize.ShloMosaic.TcCoe Idealize.ShloMosaic.ValueIdx
open Idealize.ShloMosaic.StableHlo

section Reference
open Cert.ReferenceIdeal Cert.ReferenceIdeal.Gen

variable {F : FTy → Type} [FloatOps F]

/-- The reference's class scores: features times the transposed weights, plus the bias. -/
def scores (x : FVec F S32x84 .f32) (w : FVec F S10x84 .f32) (b : FVec F S10 .f32) : FVec F S32x10 .f32 :=
  addf (Host.dotGeneral dot_S32x84_S84x10_S32x10_1_0_0_1_n_n none x (transpose S84x10 [1, 0] w transposes_S10x84_S84x10_1_0))
    (broadcastInDim S32x10 ![0, 1] bcast_S1x10_S32x10_0_1 (broadcastInDim S1x10 ![1] bcast_S10_S1x10_1 b))

/-- One number per row, laid along the row. -/
def along (r : FVec F S32 .f32) : FVec F S32x10 .f32 :=
  broadcastInDim S32x10 ![0, 1] bcast_S32x1_S32x10_0_1 (broadcastInDim S32x1 ![0] bcast_S32_S32x1_0 r)

/-- The exponentials of scores less their row's maximum. -/
def expo (s : FVec F S32x10 .f32) : FVec F S32x10 .f32 :=
  Host.exp (subf s (along (maximumf (broadcastInDim S32 ![] bcast_S_S32 (constant S_ .f32 0xFF800000#32))
    (Host.reduce FloatOps.maximumf s (constant S_ .f32 0xFF800000#32) reducesTo_S32x10_S32_d1 h_S_))))

/-- Each exponential over its row's sum. -/
def normed (e : FVec F S32x10 .f32) : FVec F S32x10 .f32 :=
  Host.divf e (along (Host.reduceAdd e (constant S_ .f32 0x00000000#32) reducesTo_S32x10_S32_d1 h_S_))

/-- The reference's result is the softmax of the scores of the features it has at that point. -/
theorem ref_tail (Y : RV F) :
    after Cert.ReferenceIdeal.Line.main_part6_ops0 Y Cert.ReferenceIdeal.main_v312
      = normed (expo (scores (after Cert.ReferenceIdeal.Line.main_part6_ops0 Y Cert.ReferenceIdeal.main_v296)
          (Y Cert.ReferenceIdeal.main_arg3) (Y Cert.ReferenceIdeal.main_arg4))) := by
  unfold normed expo along scores
  after_reads_simp

/-- The same after the whole last stretch of the host part. -/
theorem ref_after_host (Y : RV F) :
    afterL Cert.Proof.ReferenceHost.line4 Y Cert.ReferenceIdeal.main_v312
      = normed (expo (scores (afterL Cert.Proof.ReferenceHost.line4 Y Cert.ReferenceIdeal.main_v296)
          (afterL Cert.Proof.ReferenceHost.line4 Y Cert.ReferenceIdeal.main_arg3)
          (afterL Cert.Proof.ReferenceHost.line4 Y Cert.ReferenceIdeal.main_arg4))) := by
  show after Cert.ReferenceIdeal.Line.main_part6_ops0 (after Cert.ReferenceIdeal.Line.main_part5_ops3 Y) Cert.ReferenceIdeal.main_v312
    = normed (expo (scores (after Cert.ReferenceIdeal.Line.main_part6_ops0 (after Cert.ReferenceIdeal.Line.main_part5_ops3 Y) Cert.ReferenceIdeal.main_v296)
        (after Cert.ReferenceIdeal.Line.main_part6_ops0 (after Cert.ReferenceIdeal.Line.main_part5_ops3 Y) Cert.ReferenceIdeal.main_arg3)
        (after Cert.ReferenceIdeal.Line.main_part6_ops0 (after Cert.ReferenceIdeal.Line.main_part5_ops3 Y) Cert.ReferenceIdeal.main_arg4)))
  rw [Cert.Proof.ReferenceHost.keeps_main_part6_ops0 Cert.ReferenceIdeal.main_arg3 (by decide),
    Cert.Proof.ReferenceHost.keeps_main_part6_ops0 Cert.ReferenceIdeal.main_arg4 (by decide)]
  exact ref_tail _

end Reference

/-- The kernel's bias operand is the bias as one row. -/
theorem bias_row {F : FTy → Type} [FloatOps F] (X : KV F) :
    after Cert.KernelIdeal.Gen.main_part6_ops0 X Cert.KernelIdeal.main_v297
      = broadcastInDim Cert.KernelIdeal.S1x10 ![1] Cert.KernelIdeal.Gen.bcast_S10_S1x10_1 (X Cert.KernelIdeal.main_arg4) := by
  after_reads_simp

/-- The same after the whole last stretch of the host part. -/
theorem bias_after_host {F : FTy → Type} [FloatOps F] (X : KV F) :
    afterL Cert.Proof.KernelIdealHost.line4 X Cert.KernelIdeal.main_v297
      = broadcastInDim Cert.KernelIdeal.S1x10 ![1] Cert.KernelIdeal.Gen.bcast_S10_S1x10_1
          (afterL Cert.Proof.KernelIdealHost.line4 X Cert.KernelIdeal.main_arg4) := by
  show after Cert.KernelIdeal.Gen.main_part6_ops0 (after Cert.KernelIdeal.Gen.main_part5_ops3 X) Cert.KernelIdeal.main_v297
    = broadcastInDim Cert.KernelIdeal.S1x10 ![1] Cert.KernelIdeal.Gen.bcast_S10_S1x10_1
        (after Cert.KernelIdeal.Gen.main_part6_ops0 (after Cert.KernelIdeal.Gen.main_part5_ops3 X) Cert.KernelIdeal.main_arg4)
  rw [Cert.Proof.KernelIdealHost.keeps_main_part6_ops0 Cert.KernelIdeal.main_arg4 (by decide)]
  exact bias_row _

open Cert.KernelIdeal Cert.KernelIdeal.Gen

/-- One row broadcast down the rows, by the kernel and by the host. -/
theorem row_down {α : Type} (v : S1x10.Idx → α) (h : S1x10.Broadcasts S32x10) (h' : S1x10.BroadcastsInDim S32x10 ![0, 1]) :
    broadcastTo S32x10 v h = broadcastInDim S32x10 ![0, 1] h' v := by
  funext i
  refine (broadcastTo_apply v h i (ix2 (0 : Fin 1) (i 1 : Fin 10)) ?_).trans
    (broadcastInDim_apply ![0, 1] h' v i (ix2 (0 : Fin 1) (i 1 : Fin 10)) ?_).symm
  all_goals
    intro a
    match a with
    | ⟨0, _⟩ => rfl
    | ⟨1, _⟩ => rfl

/-- One number per row laid along the row, by the kernel and by the host. -/
theorem column_along (r : FVec Ideal S32 .f32) (hc : S32.ShapeCasts S32x1) (h : S32x1.Broadcasts S32x10) :
    broadcastTo S32x10 (shapeCast S32x1 r hc) h = along r := by
  funext i
  unfold along
  refine (broadcastTo_apply _ h i (ix2 (i 0 : Fin 32) (0 : Fin 1)) ?_).trans
    ((shapeCast_apply r hc _ (ix1 (i 0 : Fin 32)) ?_).trans
    ((broadcastInDim_apply ![0, 1] _ _ i (ix2 (i 0 : Fin 32) (0 : Fin 1)) ?_).trans
      (broadcastInDim_apply ![0] _ r _ (ix1 (i 0 : Fin 32)) ?_)).symm)
  · intro a
    match a with
    | ⟨0, _⟩ => rfl
    | ⟨1, _⟩ => rfl
  · rw [Shape.rowMajor_val_two, Shape.rowMajor_val_one]
    show (i 0).val = (i 0).val * 1 + 0
    omega
  · intro a
    match a with
    | ⟨0, _⟩ => rfl
    | ⟨1, _⟩ => rfl
  · intro a
    match a with
    | ⟨0, _⟩ => rfl

/-- A maximum with −∞ changes nothing. -/
theorem max_bot (x : FVec Ideal S32 .f32) (h : Cert.ReferenceIdeal.S_.BroadcastsInDim S32 ![]) :
    maximumf (broadcastInDim S32 ![] h (constant Cert.ReferenceIdeal.S_ .f32 0xFF800000#32)) x = x := by
  funext i
  show max (Ideal.ofBits .f32 0xFF800000#32) (x i) = x i
  simp [Ideal.ofBits, Ideal.ieee]

/-- The kernel's scores are the reference's. -/
theorem scores_eq (x : FVec Ideal S32x84 .f32) (w : FVec Ideal S10x84 .f32) (b : FVec Ideal S10 .f32)
    (ht : S10x84.Transposes [1, 0] S84x10) (hb : S1x10.Broadcasts S32x10) (h1 : S10.BroadcastsInDim S1x10 ![1]) :
    addf (matmul dot_S32x84_S84x10_S32x10_1_0_0_1_n_n none x (transpose S84x10 [1, 0] w ht) (constant S32x10 .f32 0x00000000#32))
      (broadcastTo S32x10 (broadcastInDim S1x10 ![1] h1 b) hb) = scores x w b := by
  rw [matmul_zero_eq_dotGeneral, row_down _ hb Cert.ReferenceIdeal.Gen.bcast_S1x10_S32x10_0_1]
  rfl

/-- The kernel body's value is the reference's softmax of the scores. -/
theorem head_eq (x : FVec Ideal S32x84 .f32) (w : FVec Ideal S10x84 .f32) (b : FVec Ideal S10 .f32) (h1 : S10.BroadcastsInDim S1x10 ![1]) :
    k0_pay1 (F := Ideal) x w (broadcastInDim S1x10 ![1] h1 b) = normed (expo (scores x w b)) := by
  unfold k0_pay1
  simp only [shapeCast_self]
  rw [scores_eq]
  generalize scores x w b = s
  rw [column_along, column_along]
  have hm : multiReduction .maximumf [1] S32 s 0xFF800000#32 reduces_S32x10_S32 (.inl rfl) rfl
      = maximumf (broadcastInDim S32 ![] Cert.ReferenceIdeal.Gen.bcast_S_S32 (constant Cert.ReferenceIdeal.S_ .f32 0xFF800000#32))
        (Host.reduce FloatOps.maximumf s (constant Cert.ReferenceIdeal.S_ .f32 0xFF800000#32)
          Cert.ReferenceIdeal.Gen.reducesTo_S32x10_S32_d1 Cert.ReferenceIdeal.Gen.h_S_) := by
    rw [max_bot]
    exact (hostReduce_maximumf_eq_multiReduction (F := Ideal) (φ := .f32) s 0xFF800000#32 _ _ reduces_S32x10_S32 (.inl rfl) rfl).symm
  rw [hm]
  show divf (expo s) (along (multiReduction .add [1] S32 (expo s) 0x00000000#32 reduces_S32x10_S32 (.inl rfl) rfl)) = normed (expo s)
  generalize expo s = e
  exact congrArg (fun r => divf e (along r)) (multiReduction_add_eq_hostReduceAdd (φ := .f32) e 0x00000000#32 reduces_S32x10_S32 (.inl rfl) rfl
    (constant Cert.ReferenceIdeal.S_ .f32 0x00000000#32) Cert.ReferenceIdeal.Gen.reducesTo_S32x10_S32_d1 Cert.ReferenceIdeal.Gen.h_S_
    Ideal.ofBits_zero_f32)

end Cert.Proof.Head

end
-- ==== Proof.lean ====
/-
  The certificate's claims. Each program's run is known (Proof/KernelRun.lean, Proof/KernelIdealRun.lean,
  Proof/ReferenceRun.lean): it ends, its arguments are as launched, its counters are zero, its result is named. The two
  results are one value: the features before the head agree (Proof/Agree.lean) and the head computes the same softmax
  of the same scores (Proof/Head.lean).
-/
module

public import proofs.«01_k».proof.Defs
public import proofs.«01_k».proof.Proof.KernelRun
public import proofs.«01_k».proof.Proof.KernelIdealRun
public import proofs.«01_k».proof.Proof.ReferenceRun
public import proofs.«01_k».proof.Proof.Head

@[expose] public section

set_option maxRecDepth 20000

noncomputable section

namespace Cert.Proof

open Idealize.ShloMosaic Idealize.ShloMosaic.TcCoe Idealize.ShloMosaic.StableHlo Idealize.SL.Sem

/-- The kernel program leaves its arguments as launched. -/
theorem KernelHost_args {F : FTy → Type} [FloatOps F] (m : (ℓ : Loc Cert.Kernel.nD Cert.Kernel.τ Cert.Kernel.sig) → Buf (Elt F) ℓ)
    (mem : (ℓ : Loc Cert.Kernel.nD Cert.Kernel.τ Cert.Kernel.sig) → Buf (Elt F) ℓ) (c : Dev Cert.Kernel.nD)
    (h : ∀ b : Ref Cert.Kernel.sig .tc, (Proc.devRef .tc b : DevRef Cert.Kernel.τ Cert.Kernel.sig).isScoped = false →
      mem ((c.tc : Thread Cert.Kernel.nD Cert.Kernel.τ).loc b) = KernelHost.Vend m c (Proc.devRef .tc b)) :
    mem ((c.tc : Thread Cert.Kernel.nD Cert.Kernel.τ).loc Cert.Kernel.main_arg0) = m ((c.tc : Thread Cert.Kernel.nD Cert.Kernel.τ).loc Cert.Kernel.main_arg0)
    ∧ mem ((c.tc : Thread Cert.Kernel.nD Cert.Kernel.τ).loc Cert.Kernel.main_arg1) = m ((c.tc : Thread Cert.Kernel.nD Cert.Kernel.τ).loc Cert.Kernel.main_arg1)
    ∧ mem ((c.tc : Thread Cert.Kernel.nD Cert.Kernel.τ).loc Cert.Kernel.main_arg2) = m ((c.tc : Thread Cert.Kernel.nD Cert.Kernel.τ).loc Cert.Kernel.main_arg2)
    ∧ mem ((c.tc : Thread Cert.Kernel.nD Cert.Kernel.τ).loc Cert.Kernel.main_arg3) = m ((c.tc : Thread Cert.Kernel.nD Cert.Kernel.τ).loc Cert.Kernel.main_arg3)
    ∧ mem ((c.tc : Thread Cert.Kernel.nD Cert.Kernel.τ).loc Cert.Kernel.main_arg4) = m ((c.tc : Thread Cert.Kernel.nD Cert.Kernel.τ).loc Cert.Kernel.main_arg4)
    ∧ mem ((c.tc : Thread Cert.Kernel.nD Cert.Kernel.τ).loc Cert.Kernel.main_arg5) = m ((c.tc : Thread Cert.Kernel.nD Cert.Kernel.τ).loc Cert.Kernel.main_arg5)
    ∧ mem ((c.tc : Thread Cert.Kernel.nD Cert.Kernel.τ).loc Cert.Kernel.main_arg6) = m ((c.tc : Thread Cert.Kernel.nD Cert.Kernel.τ).loc Cert.Kernel.main_arg6)
    ∧ mem ((c.tc : Thread Cert.Kernel.nD Cert.Kernel.τ).loc Cert.Kernel.main_arg7) = m ((c.tc : Thread Cert.Kernel.nD Cert.Kernel.τ).loc Cert.Kernel.main_arg7)
    ∧ mem ((c.tc : Thread Cert.Kernel.nD Cert.Kernel.τ).loc Cert.Kernel.main_arg8) = m ((c.tc : Thread Cert.Kernel.nD Cert.Kernel.τ).loc Cert.Kernel.main_arg8)
    ∧ mem ((c.tc : Thread Cert.Kernel.nD Cert.Kernel.τ).loc Cert.Kernel.main_arg9) = m ((c.tc : Thread Cert.Kernel.nD Cert.Kernel.τ).loc Cert.Kernel.main_arg9)
    ∧ mem ((c.tc : Thread Cert.Kernel.nD Cert.Kernel.τ).loc Cert.Kernel.main_arg10) = m ((c.tc : Thread Cert.Kernel.nD Cert.Kernel.τ).loc Cert.Kernel.main_arg10)
    ∧ mem ((c.tc : Thread Cert.Kernel.nD Cert.Kernel.τ).loc Cert.Kernel.main_arg11) = m ((c.tc : Thread Cert.Kernel.nD Cert.Kernel.τ).loc Cert.Kernel.main_arg11)
    ∧ mem ((c.tc : Thread Cert.Kernel.nD Cert.Kernel.τ).loc Cert.Kernel.main_arg12) = m ((c.tc : Thread Cert.Kernel.nD Cert.Kernel.τ).loc Cert.Kernel.main_arg12)
    ∧ mem ((c.tc : Thread Cert.Kernel.nD Cert.Kernel.τ).loc Cert.Kernel.main_arg13) = m ((c.tc : Thread Cert.Kernel.nD Cert.Kernel.τ).loc Cert.Kernel.main_arg13)
    ∧ mem ((c.tc : Thread Cert.Kernel.nD Cert.Kernel.τ).loc Cert.Kernel.main_arg14) = m ((c.tc : Thread Cert.Kernel.nD Cert.Kernel.τ).loc Cert.Kernel.main_arg14)
    ∧ mem ((c.tc : Thread Cert.Kernel.nD Cert.Kernel.τ).loc Cert.Kernel.main_arg15) = m ((c.tc : Thread Cert.Kernel.nD Cert.Kernel.τ).loc Cert.Kernel.main_arg15)
    ∧ mem ((c.tc : Thread Cert.Kernel.nD Cert.Kernel.τ).loc Cert.Kernel.main_arg16) = m ((c.tc : Thread Cert.Kernel.nD Cert.Kernel.τ).loc Cert.Kernel.main_arg16) :=
  ⟨(h Cert.Kernel.main_arg0 (by decide)).trans (KernelHost.Vend_arg m c _ (by decide) (by decide)),
    (h Cert.Kernel.main_arg1 (by decide)).trans (KernelHost.Vend_arg m c _ (by decide) (by decide)),
    (h Cert.Kernel.main_arg2 (by decide)).trans (KernelHost.Vend_arg m c _ (by decide) (by decide)),
    (h Cert.Kernel.main_arg3 (by decide)).trans (KernelHost.Vend_arg m c _ (by decide) (by decide)),
    (h Cert.Kernel.main_arg4 (by decide)).trans (KernelHost.Vend_arg m c _ (by decide) (by decide)),
    (h Cert.Kernel.main_arg5 (by decide)).trans (KernelHost.Vend_arg m c _ (by decide) (by decide)),
    (h Cert.Kernel.main_arg6 (by decide)).trans (KernelHost.Vend_arg m c _ (by decide) (by decide)),
    (h Cert.Kernel.main_arg7 (by decide)).trans (KernelHost.Vend_arg m c _ (by decide) (by decide)),
    (h Cert.Kernel.main_arg8 (by decide)).trans (KernelHost.Vend_arg m c _ (by decide) (by decide)),
    (h Cert.Kernel.main_arg9 (by decide)).trans (KernelHost.Vend_arg m c _ (by decide) (by decide)),
    (h Cert.Kernel.main_arg10 (by decide)).trans (KernelHost.Vend_arg m c _ (by decide) (by decide)),
    (h Cert.Kernel.main_arg11 (by decide)).trans (KernelHost.Vend_arg m c _ (by decide) (by decide)),
    (h Cert.Kernel.main_arg12 (by decide)).trans (KernelHost.Vend_arg m c _ (by decide) (by decide)),
    (h Cert.Kernel.main_arg13 (by decide)).trans (KernelHost.Vend_arg m c _ (by decide) (by decide)),
    (h Cert.Kernel.main_arg14 (by decide)).trans (KernelHost.Vend_arg m c _ (by decide) (by decide)),
    (h Cert.Kernel.main_arg15 (by decide)).trans (KernelHost.Vend_arg m c _ (by decide) (by decide)),
    (h Cert.Kernel.main_arg16 (by decide)).trans (KernelHost.Vend_arg m c _ (by decide) (by decide))⟩

/-- So does the idealized kernel program, -/
theorem KernelIdealHost_args {F : FTy → Type} [FloatOps F] (m : (ℓ : Loc Cert.KernelIdeal.nD Cert.KernelIdeal.τ Cert.KernelIdeal.sig) → Buf (Elt F) ℓ)
    (mem : (ℓ : Loc Cert.KernelIdeal.nD Cert.KernelIdeal.τ Cert.KernelIdeal.sig) → Buf (Elt F) ℓ) (c : Dev Cert.KernelIdeal.nD)
    (h : ∀ b : Ref Cert.KernelIdeal.sig .tc, (Proc.devRef .tc b : DevRef Cert.KernelIdeal.τ Cert.KernelIdeal.sig).isScoped = false →
      mem ((c.tc : Thread Cert.KernelIdeal.nD Cert.KernelIdeal.τ).loc b) = KernelIdealHost.Vend m c (Proc.devRef .tc b)) :
    mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ mem ((c.tc : Thread Cert.KernelIdeal.nD Cert.KernelIdeal.τ).loc Cert.KernelIdeal.main_arg4) = m ((c.tc : Thread Cert.KernelIdeal.nD Cert.KernelIdeal.τ).loc Cert.KernelIdeal.main_arg4)
    ∧ mem ((c.tc : Thread Cert.KernelIdeal.nD Cert.KernelIdeal.τ).loc Cert.KernelIdeal.main_arg5) = m ((c.tc : Thread Cert.KernelIdeal.nD Cert.KernelIdeal.τ).loc Cert.KernelIdeal.main_arg5)
    ∧ mem ((c.tc : Thread Cert.KernelIdeal.nD Cert.KernelIdeal.τ).loc Cert.KernelIdeal.main_arg6) = m ((c.tc : Thread Cert.KernelIdeal.nD Cert.KernelIdeal.τ).loc Cert.KernelIdeal.main_arg6)
    ∧ mem ((c.tc : Thread Cert.KernelIdeal.nD Cert.KernelIdeal.τ).loc Cert.KernelIdeal.main_arg7) = m ((c.tc : Thread Cert.KernelIdeal.nD Cert.KernelIdeal.τ).loc Cert.KernelIdeal.main_arg7)
    ∧ mem ((c.tc : Thread Cert.KernelIdeal.nD Cert.KernelIdeal.τ).loc Cert.KernelIdeal.main_arg8) = m ((c.tc : Thread Cert.KernelIdeal.nD Cert.KernelIdeal.τ).loc Cert.KernelIdeal.main_arg8)
    ∧ mem ((c.tc : Thread Cert.KernelIdeal.nD Cert.KernelIdeal.τ).loc Cert.KernelIdeal.main_arg9) = m ((c.tc : Thread Cert.KernelIdeal.nD Cert.KernelIdeal.τ).loc Cert.KernelIdeal.main_arg9)
    ∧ mem ((c.tc : Thread Cert.KernelIdeal.nD Cert.KernelIdeal.τ).loc Cert.KernelIdeal.main_arg10) = m ((c.tc : Thread Cert.KernelIdeal.nD Cert.KernelIdeal.τ).loc Cert.KernelIdeal.main_arg10)
    ∧ mem ((c.tc : Thread Cert.KernelIdeal.nD Cert.KernelIdeal.τ).loc Cert.KernelIdeal.main_arg11) = m ((c.tc : Thread Cert.KernelIdeal.nD Cert.KernelIdeal.τ).loc Cert.KernelIdeal.main_arg11)
    ∧ mem ((c.tc : Thread Cert.KernelIdeal.nD Cert.KernelIdeal.τ).loc Cert.KernelIdeal.main_arg12) = m ((c.tc : Thread Cert.KernelIdeal.nD Cert.KernelIdeal.τ).loc Cert.KernelIdeal.main_arg12)
    ∧ mem ((c.tc : Thread Cert.KernelIdeal.nD Cert.KernelIdeal.τ).loc Cert.KernelIdeal.main_arg13) = m ((c.tc : Thread Cert.KernelIdeal.nD Cert.KernelIdeal.τ).loc Cert.KernelIdeal.main_arg13)
    ∧ mem ((c.tc : Thread Cert.KernelIdeal.nD Cert.KernelIdeal.τ).loc Cert.KernelIdeal.main_arg14) = m ((c.tc : Thread Cert.KernelIdeal.nD Cert.KernelIdeal.τ).loc Cert.KernelIdeal.main_arg14)
    ∧ mem ((c.tc : Thread Cert.KernelIdeal.nD Cert.KernelIdeal.τ).loc Cert.KernelIdeal.main_arg15) = m ((c.tc : Thread Cert.KernelIdeal.nD Cert.KernelIdeal.τ).loc Cert.KernelIdeal.main_arg15)
    ∧ mem ((c.tc : Thread Cert.KernelIdeal.nD Cert.KernelIdeal.τ).loc Cert.KernelIdeal.main_arg16) = m ((c.tc : Thread Cert.KernelIdeal.nD Cert.KernelIdeal.τ).loc Cert.KernelIdeal.main_arg16) :=
  ⟨(h Cert.KernelIdeal.main_arg0 (by decide)).trans (KernelIdealHost.Vend_arg m c _ (by decide) (by decide)),
    (h Cert.KernelIdeal.main_arg1 (by decide)).trans (KernelIdealHost.Vend_arg m c _ (by decide) (by decide)),
    (h Cert.KernelIdeal.main_arg2 (by decide)).trans (KernelIdealHost.Vend_arg m c _ (by decide) (by decide)),
    (h Cert.KernelIdeal.main_arg3 (by decide)).trans (KernelIdealHost.Vend_arg m c _ (by decide) (by decide)),
    (h Cert.KernelIdeal.main_arg4 (by decide)).trans (KernelIdealHost.Vend_arg m c _ (by decide) (by decide)),
    (h Cert.KernelIdeal.main_arg5 (by decide)).trans (KernelIdealHost.Vend_arg m c _ (by decide) (by decide)),
    (h Cert.KernelIdeal.main_arg6 (by decide)).trans (KernelIdealHost.Vend_arg m c _ (by decide) (by decide)),
    (h Cert.KernelIdeal.main_arg7 (by decide)).trans (KernelIdealHost.Vend_arg m c _ (by decide) (by decide)),
    (h Cert.KernelIdeal.main_arg8 (by decide)).trans (KernelIdealHost.Vend_arg m c _ (by decide) (by decide)),
    (h Cert.KernelIdeal.main_arg9 (by decide)).trans (KernelIdealHost.Vend_arg m c _ (by decide) (by decide)),
    (h Cert.KernelIdeal.main_arg10 (by decide)).trans (KernelIdealHost.Vend_arg m c _ (by decide) (by decide)),
    (h Cert.KernelIdeal.main_arg11 (by decide)).trans (KernelIdealHost.Vend_arg m c _ (by decide) (by decide)),
    (h Cert.KernelIdeal.main_arg12 (by decide)).trans (KernelIdealHost.Vend_arg m c _ (by decide) (by decide)),
    (h Cert.KernelIdeal.main_arg13 (by decide)).trans (KernelIdealHost.Vend_arg m c _ (by decide) (by decide)),
    (h Cert.KernelIdeal.main_arg14 (by decide)).trans (KernelIdealHost.Vend_arg m c _ (by decide) (by decide)),
    (h Cert.KernelIdeal.main_arg15 (by decide)).trans (KernelIdealHost.Vend_arg m c _ (by decide) (by decide)),
    (h Cert.KernelIdeal.main_arg16 (by decide)).trans (KernelIdealHost.Vend_arg m c _ (by decide) (by decide))⟩

/-- and the reference. -/
theorem ReferenceHost_args {F : FTy → Type} [FloatOps F] (m : (ℓ : Loc Cert.ReferenceIdeal.nD Cert.ReferenceIdeal.τ Cert.ReferenceIdeal.sig) → Buf (Elt F) ℓ)
    (mem : (ℓ : Loc Cert.ReferenceIdeal.nD Cert.ReferenceIdeal.τ Cert.ReferenceIdeal.sig) → Buf (Elt F) ℓ) (c : Dev Cert.ReferenceIdeal.nD)
    (h : ∀ b : Ref Cert.ReferenceIdeal.sig .tc, (Proc.devRef .tc b : DevRef Cert.ReferenceIdeal.τ Cert.ReferenceIdeal.sig).isScoped = false →
      mem ((c.tc : Thread Cert.ReferenceIdeal.nD Cert.ReferenceIdeal.τ).loc b) = ReferenceHost.Efin m c (Proc.devRef .tc b)) :
    mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
    ∧ mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
    ∧ mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
    ∧ mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
    ∧ mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
    ∧ mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
    ∧ mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
    ∧ mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
    ∧ mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
    ∧ mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
    ∧ mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
    ∧ mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
    ∧ mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
    ∧ mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
    ∧ mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
    ∧ mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
    ∧ mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16) :=
  ⟨(h Cert.ReferenceIdeal.main_arg0 (by decide)).trans (ReferenceHost.Efin_arg m c _ (by decide)),
    (h Cert.ReferenceIdeal.main_arg1 (by decide)).trans (ReferenceHost.Efin_arg m c _ (by decide)),
    (h Cert.ReferenceIdeal.main_arg2 (by decide)).trans (ReferenceHost.Efin_arg m c _ (by decide)),
    (h Cert.ReferenceIdeal.main_arg3 (by decide)).trans (ReferenceHost.Efin_arg m c _ (by decide)),
    (h Cert.ReferenceIdeal.main_arg4 (by decide)).trans (ReferenceHost.Efin_arg m c _ (by decide)),
    (h Cert.ReferenceIdeal.main_arg5 (by decide)).trans (ReferenceHost.Efin_arg m c _ (by decide)),
    (h Cert.ReferenceIdeal.main_arg6 (by decide)).trans (ReferenceHost.Efin_arg m c _ (by decide)),
    (h Cert.ReferenceIdeal.main_arg7 (by decide)).trans (ReferenceHost.Efin_arg m c _ (by decide)),
    (h Cert.ReferenceIdeal.main_arg8 (by decide)).trans (ReferenceHost.Efin_arg m c _ (by decide)),
    (h Cert.ReferenceIdeal.main_arg9 (by decide)).trans (ReferenceHost.Efin_arg m c _ (by decide)),
    (h Cert.ReferenceIdeal.main_arg10 (by decide)).trans (ReferenceHost.Efin_arg m c _ (by decide)),
    (h Cert.ReferenceIdeal.main_arg11 (by decide)).trans (ReferenceHost.Efin_arg m c _ (by decide)),
    (h Cert.ReferenceIdeal.main_arg12 (by decide)).trans (ReferenceHost.Efin_arg m c _ (by decide)),
    (h Cert.ReferenceIdeal.main_arg13 (by decide)).trans (ReferenceHost.Efin_arg m c _ (by decide)),
    (h Cert.ReferenceIdeal.main_arg14 (by decide)).trans (ReferenceHost.Efin_arg m c _ (by decide)),
    (h Cert.ReferenceIdeal.main_arg15 (by decide)).trans (ReferenceHost.Efin_arg m c _ (by decide)),
    (h Cert.ReferenceIdeal.main_arg16 (by decide)).trans (ReferenceHost.Efin_arg m c _ (by decide))⟩

/-- Launched on equal arguments, the two idealized programs end with one result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (ha : Agree.ArgsEq (launchContents m c) (launchContents m' c)) :
    KernelIdealHost.Vend m c Cert.KernelIdeal.main_v298 = ReferenceHost.Efin m' c Cert.ReferenceIdeal.main_v312 := by
  have h3 : KernelIdealHost.Efin m c Cert.KernelIdeal.main_arg3 = ReferenceHost.Efin m' c Cert.ReferenceIdeal.main_arg3 :=
    (KernelIdealHost.Efin_arg m c _ (by decide)).trans (ha.arg3.trans (ReferenceHost.Efin_arg m' c _ (by decide)).symm)
  have h4 : KernelIdealHost.Efin m c Cert.KernelIdeal.main_arg4 = ReferenceHost.Efin m' c Cert.ReferenceIdeal.main_arg4 :=
    (KernelIdealHost.Efin_arg m c _ (by decide)).trans (ha.arg4.trans (ReferenceHost.Efin_arg m' c _ (by decide)).symm)
  have hf := Agree.features_agree m m' c c ha
  -- the head's operands as the host part leaves them
  have hb : KernelIdealHost.Efin m c Cert.KernelIdeal.main_v297
      = broadcastInDim Cert.KernelIdeal.S1x10 ![1] Cert.KernelIdeal.Gen.bcast_S10_S1x10_1 (KernelIdealHost.Efin m c Cert.KernelIdeal.main_arg4) :=
    Head.bias_after_host (KernelIdealHost.X3 m c)
  have hr : ReferenceHost.Efin m' c Cert.ReferenceIdeal.main_v312
      = Head.normed (F := Ideal) (Head.expo (Head.scores (ReferenceHost.Efin m' c Cert.ReferenceIdeal.main_v296)
          (ReferenceHost.Efin m' c Cert.ReferenceIdeal.main_arg3) (ReferenceHost.Efin m' c Cert.ReferenceIdeal.main_arg4))) :=
    Head.ref_after_host (ReferenceHost.X3 m' c)
  rw [KernelIdealHost.Vend_out, KernelIdealHost.headArr_eq, hr, ← hf, ← h3, ← h4]
  show Cert.KernelIdeal.Gen.k0_pay1 (F := Ideal) (KernelIdealHost.Efin m c Cert.KernelIdeal.main_v296)
    (KernelIdealHost.Efin m c Cert.KernelIdeal.main_arg3) (KernelIdealHost.Efin m c Cert.KernelIdeal.main_v297) = _
  rw [hb]
  exact Head.head_eq _ _ _ _

/-- Equal arguments, as the claim words them. -/
theorem args_of_agree {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Agree.ArgsEq (launchContents m c) (launchContents m' c) := by
  obtain ⟨h0, h1, h2, h3, h4, h5, h6, h7, h8, h9, h10, h11, h12, h13, h14, h15, h16⟩ := h
  exact ⟨h0.symm, h1.symm, h2.symm, h3.symm, h4.symm, h5.symm, h6.symm, h7.symm, h8.symm, h9.symm, h10.symm, h11.symm, h12.symm, h13.symm, h14.symm, h15.symm, h16.symm⟩

theorem claim : Cert.Claim := by
  refine ⟨Cert.Kernel.Gen.facts, Cert.KernelIdeal.Gen.facts, Cert.ReferenceIdeal.Gen.facts, ?_, ?_, ?_, ?_, ?_⟩
  · intro m g _
    exact θ_run_mono (KernelHost.run m g) fun r h => ⟨fun c => KernelHost_args m r.2.mem c (h.1 c), h.2⟩
  · intro m g _
    exact θ_run_mono (KernelIdealHost.run m g) fun r h => ⟨fun c => KernelIdealHost_args m r.2.mem c (h.1 c), h.2⟩
  · intro m g _
    exact θ_run_mono (ReferenceHost.run m g) fun r h => ⟨fun c => ReferenceHost_args m r.2.mem c (h.1 c), h.2⟩
  · trivial
  · intro m g m' g' _ hag
    refine ⟨fun c => KernelIdealHost.Vend m c Cert.KernelIdeal.main_v298, ?_, ?_⟩
    · exact θ_run_mono (KernelIdealHost.run m g) fun r h c =>
        ⟨h.1 c Cert.KernelIdeal.main_v298 (by decide), KernelIdealHost_args m r.2.mem c (h.1 c)⟩
    · exact θ_run_mono (ReferenceHost.run m' g') fun r h c =>
        ⟨(h.1 c Cert.ReferenceIdeal.main_v312 (by decide)).trans (result_eq m m' c (args_of_agree (hag c))).symm,
          ReferenceHost_args m' r.2.mem c (h.1 c)⟩

end Cert.Proof

end
